-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x2048 : Shape := ⟨3, ![2, 8192, 2048]⟩
abbrev S2x8192 : Shape := ⟨2, ![2, 8192]⟩
abbrev S6144x2048 : Shape := ⟨2, ![6144, 2048]⟩
abbrev S2048 : Shape := ⟨1, ![2048]⟩
abbrev S2048x2 : Shape := ⟨2, ![2048, 2]⟩
abbrev S16x128x128 : Shape := ⟨3, ![16, 128, 128]⟩
abbrev S48x2048 : Shape := ⟨2, ![48, 2048]⟩
abbrev S48 : Shape := ⟨1, ![48]⟩
abbrev S16x2048 : Shape := ⟨2, ![16, 2048]⟩
abbrev S16 : Shape := ⟨1, ![16]⟩
abbrev S128 : Shape := ⟨1, ![128]⟩
abbrev S16384x2048 : Shape := ⟨2, ![16384, 2048]⟩
abbrev S2048x1 : Shape := ⟨2, ![2048, 1]⟩
abbrev S_ : Shape := ⟨0, ![]⟩
abbrev S1x2048 : Shape := ⟨2, ![1, 2048]⟩
abbrev S3x2048 : Shape := ⟨2, ![3, 2048]⟩
abbrev S3x1x2048 : Shape := ⟨3, ![3, 1, 2048]⟩
abbrev S64x2048 : Shape := ⟨2, ![64, 2048]⟩
abbrev S64 : Shape := ⟨1, ![64]⟩
abbrev S1x64 : Shape := ⟨2, ![1, 64]⟩
abbrev S3x16384x2048 : Shape := ⟨3, ![3, 16384, 2048]⟩
abbrev S16384x64 : Shape := ⟨2, ![16384, 64]⟩
abbrev S2x8192x1 : Shape := ⟨3, ![2, 8192, 1]⟩
abbrev S1x1x64 : Shape := ⟨3, ![1, 1, 64]⟩
abbrev S2x8192x64 : Shape := ⟨3, ![2, 8192, 64]⟩
abbrev S2x4x2048x64 : Shape := ⟨4, ![2, 4, 2048, 64]⟩
abbrev S16384x48 : Shape := ⟨2, ![16384, 48]⟩
abbrev S2x8192x16x3 : Shape := ⟨4, ![2, 8192, 16, 3]⟩
abbrev S16384x16 : Shape := ⟨2, ![16384, 16]⟩
abbrev S2x8192x16x1 : Shape := ⟨4, ![2, 8192, 16, 1]⟩
abbrev S2x8192x16x4 : Shape := ⟨4, ![2, 8192, 16, 4]⟩
abbrev S2x16x8192x4 : Shape := ⟨4, ![2, 16, 8192, 4]⟩
abbrev S32x4x2048x4 : Shape := ⟨4, ![32, 4, 2048, 4]⟩
abbrev S16x128x256 : Shape := ⟨3, ![16, 128, 256]⟩
abbrev S1x128 : Shape := ⟨2, ![1, 128]⟩
abbrev S3x32x4x2048x128 : Shape := ⟨5, ![3, 32, 4, 2048, 128]⟩
abbrev S512x2048 : Shape := ⟨2, ![512, 2048]⟩
abbrev S2048x2048 : Shape := ⟨2, ![2048, 2048]⟩
abbrev S1x1x2048 : Shape := ⟨3, ![1, 1, 2048]⟩
abbrev S1x512x2048 : Shape := ⟨3, ![1, 512, 2048]⟩
abbrev S512x64 : Shape := ⟨2, ![512, 64]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S3x2x1x2048x128 : Shape := ⟨5, ![3, 2, 1, 2048, 128]⟩
abbrev S1x1x2048x64 : Shape := ⟨4, ![1, 1, 2048, 64]⟩
abbrev S2x1x2048x4 : Shape := ⟨4, ![2, 1, 2048, 4]⟩
abbrev S2x128x256 : Shape := ⟨3, ![2, 128, 256]⟩
abbrev S2x128x128 : Shape := ⟨3, ![2, 128, 128]⟩
abbrev S1x2048x256 : Shape := ⟨3, ![1, 2048, 256]⟩
abbrev S2048x64 : Shape := ⟨2, ![2048, 64]⟩
abbrev S2048x128 : Shape := ⟨2, ![2048, 128]⟩
abbrev S128x128 : Shape := ⟨2, ![128, 128]⟩
abbrev S1x1x1x2048x128 : Shape := ⟨5, ![1, 1, 1, 2048, 128]⟩
abbrev S1x128x256 : Shape := ⟨3, ![1, 128, 256]⟩
abbrev S128x256 : Shape := ⟨2, ![128, 256]⟩
abbrev S1x128x128 : Shape := ⟨3, ![1, 128, 128]⟩
abbrev S2048x256 : Shape := ⟨2, ![2048, 256]⟩
abbrev S1x1x2048x4 : Shape := ⟨4, ![1, 1, 2048, 4]⟩
abbrev S2048x4 : Shape := ⟨2, ![2048, 4]⟩
abbrev S1 : Shape := ⟨1, ![1]⟩
abbrev S1x1 : Shape := ⟨2, ![1, 1]⟩
abbrev S256 : Shape := ⟨1, ![256]⟩
abbrev S1x256 : Shape := ⟨2, ![1, 256]⟩
abbrev S128x1 : Shape := ⟨2, ![128, 1]⟩
abbrev S1x2048x128 : Shape := ⟨3, ![1, 2048, 128]⟩

abbrev nBuf : Space → Nat
  | .hbm => 90
  | .vmem => 33
  | .smem => 0
  | _ => 0

abbrev bufTy : (tb : Table) → Fin (tcTables nBuf tb) → BufTy
  | .hbm, ⟨0, _⟩ => ⟨S2x8192x2048, .f32⟩
  | .hbm, ⟨1, _⟩ => ⟨S2x8192, .i32⟩
  | .hbm, ⟨2, _⟩ => ⟨S6144x2048, .f32⟩
  | .hbm, ⟨3, _⟩ => ⟨S2048, .f32⟩
  | .hbm, ⟨4, _⟩ => ⟨S2048, .f32⟩
  | .hbm, ⟨5, _⟩ => ⟨S2048x2, .f32⟩
  | .hbm, ⟨6, _⟩ => ⟨S2048x2, .f32⟩
  | .hbm, ⟨7, _⟩ => ⟨S16x128x128, .f32⟩
  | .hbm, ⟨8, _⟩ => ⟨S16x128x128, .f32⟩
  | .hbm, ⟨9, _⟩ => ⟨S16x128x128, .f32⟩
  | .hbm, ⟨10, _⟩ => ⟨S48x2048, .f32⟩
  | .hbm, ⟨11, _⟩ => ⟨S48, .f32⟩
  | .hbm, ⟨12, _⟩ => ⟨S16x2048, .f32⟩
  | .hbm, ⟨13, _⟩ => ⟨S16, .f32⟩
  | .hbm, ⟨14, _⟩ => ⟨S128, .f32⟩
  | .hbm, ⟨15, _⟩ => ⟨S16384x2048, .f32⟩
  | .hbm, ⟨16, _⟩ => ⟨S2048x1, .f32⟩
  | .hbm, ⟨17, _⟩ => ⟨S2048, .f32⟩
  | .hbm, ⟨18, _⟩ => ⟨S2048, .f32⟩
  | .hbm, ⟨19, _⟩ => ⟨S2048x1, .f32⟩
  | .hbm, ⟨20, _⟩ => ⟨S2048, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S3x2048, .f32⟩
  | .hbm, ⟨28, _⟩ => ⟨S3x1x2048, .f32⟩
  | .hbm, ⟨29, _⟩ => ⟨S2048x1, .f32⟩
  | .hbm, ⟨30, _⟩ => ⟨S2048, .f32⟩
  | .hbm, ⟨31, _⟩ => ⟨S2048x1, .f32⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S3x2048, .f32⟩
  | .hbm, ⟨39, _⟩ => ⟨S3x1x2048, .f32⟩
  | .hbm, ⟨40, _⟩ => ⟨S64x2048, .f32⟩
  | .hbm, ⟨41, _⟩ => ⟨S_, .f32⟩
  | .hbm, ⟨42, _⟩ => ⟨S48, .f32⟩
  | .hbm, ⟨43, _⟩ => ⟨S48, .f32⟩
  | .hbm, ⟨44, _⟩ => ⟨S64, .f32⟩
  | .hbm, ⟨45, _⟩ => ⟨S1x64, .f32⟩
  | .hbm, ⟨46, _⟩ => ⟨S16384x2048, .bf16⟩
  | .hbm, ⟨47, _⟩ => ⟨S6144x2048, .bf16⟩
  | .hbm, ⟨48, _⟩ => ⟨S64x2048, .bf16⟩
  | .hbm, ⟨49, _⟩ => ⟨S3x16384x2048, .bf16⟩
  | .hbm, ⟨50, _⟩ => ⟨S16384x64, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S2x8192x1, .i32⟩
  | .hbm, ⟨68, _⟩ => ⟨S2x8192x1, .f32⟩
  | .hbm, ⟨69, _⟩ => ⟨S1x1x64, .f32⟩
  | .hbm, ⟨70, _⟩ => ⟨S2x8192x64, .f32⟩
  | .hbm, ⟨71, _⟩ => ⟨S2x8192x64, .f32⟩
  | .hbm, ⟨72, _⟩ => ⟨S2x8192x64, .f32⟩
  | .hbm, ⟨73, _⟩ => ⟨S2x8192x64, .f32⟩
  | .hbm, ⟨74, _⟩ => ⟨S2x4x2048x64, .f32⟩
  | .hbm, ⟨75, _⟩ => ⟨S2x8192x64, .f32⟩
  | .hbm, ⟨76, _⟩ => ⟨S2x4x2048x64, .f32⟩
  | .hbm, ⟨77, _⟩ => ⟨S16384x48, .f32⟩
  | .hbm, ⟨78, _⟩ => ⟨S2x8192x16x3, .f32⟩
  | .hbm, ⟨79, _⟩ => ⟨S16384x16, .f32⟩
  | .hbm, ⟨80, _⟩ => ⟨S2x8192x16x1, .f32⟩
  | .hbm, ⟨81, _⟩ => ⟨S2x8192x16x4, .f32⟩
  | .hbm, ⟨82, _⟩ => ⟨S2x16x8192x4, .f32⟩
  | .hbm, ⟨83, _⟩ => ⟨S32x4x2048x4, .f32⟩
  | .hbm, ⟨84, _⟩ => ⟨S16x128x128, .f32⟩
  | .hbm, ⟨85, _⟩ => ⟨S16x128x128, .f32⟩
  | .hbm, ⟨86, _⟩ => ⟨S16x128x256, .f32⟩
  | .hbm, ⟨87, _⟩ => ⟨S1x128, .f32⟩
  | .hbm, ⟨88, _⟩ => ⟨S3x32x4x2048x128, .bf16⟩
  | .hbm, ⟨89, _⟩ => ⟨S2x8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S64x2048, .bf16⟩
  | .local _ .vmem, ⟨9, _⟩ => ⟨S1x64, .f32⟩
  | .local _ .vmem, ⟨10, _⟩ => ⟨S1x512x2048, .bf16⟩
  | .local _ .vmem, ⟨11, _⟩ => ⟨S1x512x2048, .bf16⟩
  | .local _ .vmem, ⟨12, _⟩ => ⟨S512x64, .f32⟩
  | .local _ .vmem, ⟨13, _⟩ => ⟨S512x64, .f32⟩
  | .local _ .vmem, ⟨14, _⟩ => ⟨S3x2x1x2048x128, .bf16⟩
  | .local _ .vmem, ⟨15, _⟩ => ⟨S3x2x1x2048x128, .bf16⟩
  | .local _ .vmem, ⟨16, _⟩ => ⟨S1x1x2048x64, .f32⟩
  | .local _ .vmem, ⟨17, _⟩ => ⟨S1x1x2048x64, .f32⟩
  | .local _ .vmem, ⟨18, _⟩ => ⟨S1x1x2048x64, .f32⟩
  | .local _ .vmem, ⟨19, _⟩ => ⟨S1x1x2048x64, .f32⟩
  | .local _ .vmem, ⟨20, _⟩ => ⟨S2x1x2048x4, .f32⟩
  | .local _ .vmem, ⟨21, _⟩ => ⟨S2x1x2048x4, .f32⟩
  | .local _ .vmem, ⟨22, _⟩ => ⟨S2x128x256, .f32⟩
  | .local _ .vmem, ⟨23, _⟩ => ⟨S2x128x256, .f32⟩
  | .local _ .vmem, ⟨24, _⟩ => ⟨S2x128x128, .f32⟩
  | .local _ .vmem, ⟨25, _⟩ => ⟨S2x128x128, .f32⟩
  | .local _ .vmem, ⟨26, _⟩ => ⟨S1x128, .f32⟩
  | .local _ .vmem, ⟨27, _⟩ => ⟨S1x2048x256, .f32⟩
  | .local _ .vmem, ⟨28, _⟩ => ⟨S1x2048x256, .f32⟩
  | .local _ .vmem, ⟨29, _⟩ => ⟨S2x128x256, .f32⟩
  | .local _ .vmem, ⟨30, _⟩ => ⟨S2x128x128, .f32⟩
  | .local _ .vmem, ⟨31, _⟩ => ⟨S2x128x256, .f32⟩
  | .local _ .vmem, ⟨32, _⟩ => ⟨S2x128x128, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_cst : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_call0_cst_0 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_call0_cst_1 : Ref sig .tc := ⟨.hbm, 41, rfl⟩
abbrev main_call0_v24 : Ref sig .tc := ⟨.hbm, 42, rfl⟩
abbrev main_call0_v25 : Ref sig .tc := ⟨.hbm, 43, rfl⟩
abbrev main_call0_v26 : Ref sig .tc := ⟨.hbm, 44, rfl⟩
abbrev main_call0_v27 : Ref sig .tc := ⟨.hbm, 45, rfl⟩
abbrev main_call0_v28 : Ref sig .tc := ⟨.hbm, 46, rfl⟩
abbrev main_call0_v29 : Ref sig .tc := ⟨.hbm, 47, rfl⟩
abbrev main_call0_v30 : Ref sig .tc := ⟨.hbm, 48, rfl⟩
abbrev main_call0_v31_0 : Ref sig .tc := ⟨.hbm, 49, rfl⟩
abbrev main_call0_v31_1 : Ref sig .tc := ⟨.hbm, 50, rfl⟩
abbrev main_call0_v32 : Ref sig .tc := ⟨.hbm, 51, rfl⟩
abbrev main_call0_cst_2 : Ref sig .tc := ⟨.hbm, 52, rfl⟩
abbrev main_call0_v33 : Ref sig .tc := ⟨.hbm, 53, rfl⟩
abbrev main_call0_v34 : Ref sig .tc := ⟨.hbm, 54, rfl⟩
abbrev main_call0_cst_3 : Ref sig .tc := ⟨.hbm, 55, rfl⟩
abbrev main_call0_v35 : Ref sig .tc := ⟨.hbm, 56, rfl⟩
abbrev main_call0_v36 : Ref sig .tc := ⟨.hbm, 57, rfl⟩
abbrev main_call0_cst_4 : Ref sig .tc := ⟨.hbm, 58, rfl⟩
abbrev main_call0_v37 : Ref sig .tc := ⟨.hbm, 59, rfl⟩
abbrev main_call0_v38 : Ref sig .tc := ⟨.hbm, 60, rfl⟩
abbrev main_call0_cst_5 : Ref sig .tc := ⟨.hbm, 61, rfl⟩
abbrev main_call0_v39 : Ref sig .tc := ⟨.hbm, 62, rfl⟩
abbrev main_call0_v40 : Ref sig .tc := ⟨.hbm, 63, rfl⟩
abbrev main_call0_cst_6 : Ref sig .tc := ⟨.hbm, 64, rfl⟩
abbrev main_call0_v41 : Ref sig .tc := ⟨.hbm, 65, rfl⟩
abbrev main_call0_v42 : Ref sig .tc := ⟨.hbm, 66, rfl⟩
abbrev main_call0_v43 : Ref sig .tc := ⟨.hbm, 67, rfl⟩
abbrev main_call0_v44 : Ref sig .tc := ⟨.hbm, 68, rfl⟩
abbrev main_call0_v45 : Ref sig .tc := ⟨.hbm, 69, rfl⟩
abbrev main_call0_v46 : Ref sig .tc := ⟨.hbm, 70, rfl⟩
abbrev main_call0_v47 : Ref sig .tc := ⟨.hbm, 71, rfl⟩
abbrev main_call0_v48 : Ref sig .tc := ⟨.hbm, 72, rfl⟩
abbrev main_call0_v49 : Ref sig .tc := ⟨.hbm, 73, rfl⟩
abbrev main_call0_v50 : Ref sig .tc := ⟨.hbm, 74, rfl⟩
abbrev main_call0_v51 : Ref sig .tc := ⟨.hbm, 75, rfl⟩
abbrev main_call0_v52 : Ref sig .tc := ⟨.hbm, 76, rfl⟩
abbrev main_call0_v53 : Ref sig .tc := ⟨.hbm, 77, rfl⟩
abbrev main_call0_v54 : Ref sig .tc := ⟨.hbm, 78, rfl⟩
abbrev main_call0_v55 : Ref sig .tc := ⟨.hbm, 79, rfl⟩
abbrev main_call0_v56 : Ref sig .tc := ⟨.hbm, 80, rfl⟩
abbrev main_call0_v57 : Ref sig .tc := ⟨.hbm, 81, rfl⟩
abbrev main_call0_v58 : Ref sig .tc := ⟨.hbm, 82, rfl⟩
abbrev main_call0_v59 : Ref sig .tc := ⟨.hbm, 83, rfl⟩
abbrev main_call0_v60 : Ref sig .tc := ⟨.hbm, 84, rfl⟩
abbrev main_call0_v61 : Ref sig .tc := ⟨.hbm, 85, rfl⟩
abbrev main_call0_v62 : Ref sig .tc := ⟨.hbm, 86, rfl⟩
abbrev main_call0_v63 : Ref sig .tc := ⟨.hbm, 87, rfl⟩
abbrev main_call0_v64 : Ref sig .tc := ⟨.hbm, 88, rfl⟩
abbrev main_v0 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg7_1 : Ref sig .tc := ⟨.vmem, 28, rfl⟩
abbrev cc1_scratch0 : Ref sig .tc := ⟨.vmem, 29, rfl⟩
abbrev cc1_scratch1 : Ref sig .tc := ⟨.vmem, 30, rfl⟩
abbrev cc1_scratch2 : Ref sig .tc := ⟨.vmem, 31, rfl⟩
abbrev cc1_scratch3 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem7_0 : DmaSem sig := 27
abbrev cc1_sem7_1 : DmaSem sig := 28

abbrev nD : Nat := 1
abbrev τ : Topo := Topo.v7x

variable {F : FTy → Type} [FloatOps F]

abbrev grid0 : Pipeline.Grid := ⟨2, ![3, 32], ![false, false]⟩

def k0_cond1 (i : grid0.Coords) : BitVec 1 :=
  let arg0 : BitVec 32 := BitVec.ofNat 32 (i 0).val
  let c2_i32 : BitVec 32 := 2#32
  let v5 : BitVec 1 := Scalar.cmpi .slt arg0 c2_i32
  let v6 : BitVec 32 := Scalar.extui v5
  let c0_i32 : BitVec 32 := 0#32
  let v7 : BitVec 1 := Scalar.cmpi .ne v6 c0_i32
  v7

def k0_cond2 (i : grid0.Coords) : BitVec 1 :=
  let arg0 : BitVec 32 := BitVec.ofNat 32 (i 0).val
  let c2_i32_3 : BitVec 32 := 2#32
  let v8 : BitVec 1 := Scalar.cmpi .eq arg0 c2_i32_3
  let v9 : BitVec 32 := Scalar.extui v8
  let c0_i32_4 : BitVec 32 := 0#32
  let v10 : BitVec 1 := Scalar.cmpi .ne v9 c0_i32_4
  v10

def k0_cond3 (i : grid0.Coords) : BitVec 1 :=
  let arg0 : BitVec 32 := BitVec.ofNat 32 (i 0).val
  let c2_i32_5 : BitVec 32 := 2#32
  let v11 : BitVec 1 := Scalar.cmpi .eq arg0 c2_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S64x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev grid1 : Pipeline.Grid := ⟨2, ![16, 4], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, arg1.toNat, c0_i32_4.toNat, c0_i32_5.toNat]

def cc1_transform_2 (i : grid1.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, arg1.toNat, c0_i32_4.toNat, c0_i32_5.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc1_transform_5 (i : grid1.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage1_0 : Fin 2 → Memref sig .tc .vmem S3x2x1x2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x1x2048x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2x128x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2x128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x2048x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== ReferenceIdeal.lean ====
abbrev S2x8192x2048 : Shape := ⟨3, ![2, 8192, 2048]⟩
abbrev S2x8192 : Shape := ⟨2, ![2, 8192]⟩
abbrev S6144x2048 : Shape := ⟨2, ![6144, 2048]⟩
abbrev S2048 : Shape := ⟨1, ![2048]⟩
abbrev S2048x2 : Shape := ⟨2, ![2048, 2]⟩
abbrev S16x128x128 : Shape := ⟨3, ![16, 128, 128]⟩
abbrev S48x2048 : Shape := ⟨2, ![48, 2048]⟩
abbrev S48 : Shape := ⟨1, ![48]⟩
abbrev S16x2048 : Shape := ⟨2, ![16, 2048]⟩
abbrev S16 : Shape := ⟨1, ![16]⟩
abbrev S128 : Shape := ⟨1, ![128]⟩
abbrev S2048x6144 : Shape := ⟨2, ![2048, 6144]⟩
abbrev S2x8192x6144 : Shape := ⟨3, ![2, 8192, 6144]⟩
abbrev S_ : Shape := ⟨0, ![]⟩
abbrev S2x8192x1 : Shape := ⟨3, ![2, 8192, 1]⟩
abbrev S1x1x2048 : Shape := ⟨3, ![1, 1, 2048]⟩
abbrev S2048x1 : Shape := ⟨2, ![2048, 1]⟩
abbrev S2x8192x16x128 : Shape := ⟨4, ![2, 8192, 16, 128]⟩
abbrev S32x8192x128 : Shape := ⟨3, ![32, 8192, 128]⟩
abbrev S32x8192 : Shape := ⟨2, ![32, 8192]⟩
abbrev S32x8192x1 : Shape := ⟨3, ![32, 8192, 1]⟩
abbrev S64 : Shape := ⟨1, ![64]⟩
abbrev S1x1x64 : Shape := ⟨3, ![1, 1, 64]⟩
abbrev S2x8192x64 : Shape := ⟨3, ![2, 8192, 64]⟩
abbrev S2x8192x128 : Shape := ⟨3, ![2, 8192, 128]⟩
abbrev S2x8192x1x128 : Shape := ⟨4, ![2, 8192, 1, 128]⟩
abbrev S2x16x8192x128 : Shape := ⟨4, ![2, 16, 8192, 128]⟩
abbrev S2x8192x16x64 : Shape := ⟨4, ![2, 8192, 16, 64]⟩
abbrev S2048x48 : Shape := ⟨2, ![2048, 48]⟩
abbrev S2x8192x48 : Shape := ⟨3, ![2, 8192, 48]⟩
abbrev S1x1x48 : Shape := ⟨3, ![1, 1, 48]⟩
abbrev S2x8192x16x3 : Shape := ⟨4, ![2, 8192, 16, 3]⟩
abbrev S2x16x8192x3 : Shape := ⟨4, ![2, 16, 8192, 3]⟩
abbrev S32x8192x3 : Shape := ⟨3, ![32, 8192, 3]⟩
abbrev S2048x16 : Shape := ⟨2, ![2048, 16]⟩
abbrev S2x8192x16 : Shape := ⟨3, ![2, 8192, 16]⟩
abbrev S1x1x16 : Shape := ⟨3, ![1, 1, 16]⟩
abbrev S2x8192x16x1 : Shape := ⟨4, ![2, 8192, 16, 1]⟩
abbrev S2x16x8192x1 : Shape := ⟨4, ![2, 16, 8192, 1]⟩
abbrev S1x16x1x128x1x128 : Shape := ⟨6, ![1, 16, 1, 128, 1, 128]⟩
abbrev S2x16x1x128x1x128 : Shape := ⟨6, ![2, 16, 1, 128, 1, 128]⟩
abbrev S32x128x128 : Shape := ⟨3, ![32, 128, 128]⟩
abbrev S32x4x2048x128 : Shape := ⟨4, ![32, 4, 2048, 128]⟩
abbrev S4x32x2048x128 : Shape := ⟨4, ![4, 32, 2048, 128]⟩
abbrev S32x4x2048x1 : Shape := ⟨4, ![32, 4, 2048, 1]⟩
abbrev S4x32x2048x1 : Shape := ⟨4, ![4, 32, 2048, 1]⟩
abbrev S1x32x2048x128 : Shape := ⟨4, ![1, 32, 2048, 128]⟩
abbrev S32x2048x128 : Shape := ⟨3, ![32, 2048, 128]⟩
abbrev S1x32x2048x1 : Shape := ⟨4, ![1, 32, 2048, 1]⟩
abbrev S32x2048x1 : Shape := ⟨3, ![32, 2048, 1]⟩
abbrev S32x1 : Shape := ⟨2, ![32, 1]⟩
abbrev S32x1x1 : Shape := ⟨3, ![32, 1, 1]⟩
abbrev S32x128 : Shape := ⟨2, ![32, 128]⟩
abbrev S32x128x1 : Shape := ⟨3, ![32, 128, 1]⟩
abbrev S1x1x128 : Shape := ⟨3, ![1, 1, 128]⟩

abbrev nBuf : Space → Nat
  | .hbm => 445
  | .vmem => 0
  | .smem => 0
  | _ => 0

abbrev hbmTy0_0 (i : Nat) : BufTy := match i % 128 with
  | 0 => ⟨S2x8192x2048, .f32⟩
  | 1 => ⟨S2x8192, .i32⟩
  | 2 => ⟨S6144x2048, .f32⟩
  | 3 => ⟨S2048, .f32⟩
  | 4 => ⟨S2048, .f32⟩
  | 5 => ⟨S2048x2, .f32⟩
  | 6 => ⟨S2048x2, .f32⟩
  | 7 => ⟨S16x128x128, .f32⟩
  | 8 => ⟨S16x128x128, .f32⟩
  | 9 => ⟨S16x128x128, .f32⟩
  | 10 => ⟨S48x2048, .f32⟩
  | 11 => ⟨S48, .f32⟩
  | 12 => ⟨S16x2048, .f32⟩
  | 13 => ⟨S16, .f32⟩
  | 14 => ⟨S128, .f32⟩
  | 15 => ⟨S2048x6144, .f32⟩
  | 16 => ⟨S2x8192x6144, .f32⟩
  | 17 => ⟨S2x8192x2048, .f32⟩
  | 18 => ⟨S2x8192x2048, .f32⟩
  | 19 => ⟨S2x8192x2048, .f32⟩
  | 20 => ⟨S2x8192x2048, .f32⟩
  | 21 => ⟨S_, .f32⟩
  | 22 => ⟨S2x8192, .f32⟩
  | 23 => ⟨S2x8192x1, .f32⟩
  | 24 => ⟨S_, .f32⟩
  | 25 => ⟨S2x8192x1, .f32⟩
  | 26 => ⟨S2x8192x1, .f32⟩
  | 27 => ⟨S_, .f32⟩
  | 28 => ⟨S2x8192x1, .f32⟩
  | 29 => ⟨S2x8192x1, .f32⟩
  | 30 => ⟨S2x8192x1, .f32⟩
  | 31 => ⟨S2x8192x2048, .f32⟩
  | 32 => ⟨S2x8192x2048, .f32⟩
  | 33 => ⟨S1x1x2048, .f32⟩
  | 34 => ⟨S2x8192x2048, .f32⟩
  | 35 => ⟨S2x8192x2048, .f32⟩
  | 36 => ⟨S2x8192x2048, .f32⟩
  | 37 => ⟨S_, .f32⟩
  | 38 => ⟨S2x8192, .f32⟩
  | 39 => ⟨S2x8192x1, .f32⟩
  | 40 => ⟨S_, .f32⟩
  | 41 => ⟨S2x8192x1, .f32⟩
  | 42 => ⟨S2x8192x1, .f32⟩
  | 43 => ⟨S_, .f32⟩
  | 44 => ⟨S2x8192x1, .f32⟩
  | 45 => ⟨S2x8192x1, .f32⟩
  | 46 => ⟨S2x8192x1, .f32⟩
  | 47 => ⟨S2x8192x2048, .f32⟩
  | 48 => ⟨S2x8192x2048, .f32⟩
  | 49 => ⟨S1x1x2048, .f32⟩
  | 50 => ⟨S2x8192x2048, .f32⟩
  | 51 => ⟨S2x8192x2048, .f32⟩
  | 52 => ⟨S2048x1, .f32⟩
  | 53 => ⟨S2048, .f32⟩
  | 54 => ⟨S1x1x2048, .f32⟩
  | 55 => ⟨S2x8192x2048, .f32⟩
  | 56 => ⟨S2x8192x2048, .f32⟩
  | 57 => ⟨S2048x1, .f32⟩
  | 58 => ⟨S2048, .f32⟩
  | 59 => ⟨S1x1x2048, .f32⟩
  | 60 => ⟨S2x8192x2048, .f32⟩
  | 61 => ⟨S2x8192x2048, .f32⟩
  | 62 => ⟨S2048x1, .f32⟩
  | 63 => ⟨S2048, .f32⟩
  | 64 => ⟨S1x1x2048, .f32⟩
  | 65 => ⟨S2x8192x2048, .f32⟩
  | 66 => ⟨S2x8192x2048, .f32⟩
  | 67 => ⟨S2048x1, .f32⟩
  | 68 => ⟨S2048, .f32⟩
  | 69 => ⟨S1x1x2048, .f32⟩
  | 70 => ⟨S2x8192x2048, .f32⟩
  | 71 => ⟨S2x8192x2048, .f32⟩
  | 72 => ⟨S2x8192x16x128, .f32⟩
  | 73 => ⟨S2x8192x16x128, .f32⟩
  | 74 => ⟨S2x8192x16x128, .f32⟩
  | 75 => ⟨S_, .f32⟩
  | 76 => ⟨S2x8192x16x128, .f32⟩
  | 77 => ⟨S2x8192x16x128, .f32⟩
  | 78 => ⟨S_, .f32⟩
  | 79 => ⟨S2x8192x16x128, .f32⟩
  | 80 => ⟨S2x8192x16x128, .f32⟩
  | 81 => ⟨S2x8192x16x128, .f32⟩
  | 82 => ⟨S2x8192x16x128, .f32⟩
  | 83 => ⟨S2x8192x16x128, .f32⟩
  | 84 => ⟨S2x8192x16x128, .f32⟩
  | 85 => ⟨S_, .f32⟩
  | 86 => ⟨S2x8192x16x128, .f32⟩
  | 87 => ⟨S2x8192x16x128, .f32⟩
  | 88 => ⟨S_, .f32⟩
  | 89 => ⟨S2x8192x16x128, .f32⟩
  | 90 => ⟨S2x8192x16x128, .f32⟩
  | 91 => ⟨S2x8192x16x128, .f32⟩
  | 92 => ⟨S2x8192x16x128, .f32⟩
  | 93 => ⟨S2x8192x16x128, .f32⟩
  | 94 => ⟨S2x8192x16x128, .f32⟩
  | 95 => ⟨S_, .f32⟩
  | 96 => ⟨S2x8192x16x128, .f32⟩
  | 97 => ⟨S2x8192x16x128, .f32⟩
  | 98 => ⟨S_, .f32⟩
  | 99 => ⟨S2x8192x16x128, .f32⟩
  | 100 => ⟨S2x8192x16x128, .f32⟩
  | 101 => ⟨S2x8192x16x128, .f32⟩
  | 102 => ⟨S32x8192x128, .f32⟩
  | 103 => ⟨S32x8192x128, .f32⟩
  | 104 => ⟨S_, .f32⟩
  | 105 => ⟨S32x8192, .f32⟩
  | 106 => ⟨S32x8192x1, .f32⟩
  | 107 => ⟨S_, .f32⟩
  | 108 => ⟨S32x8192x1, .f32⟩
  | 109 => ⟨S32x8192x1, .f32⟩
  | 110 => ⟨S32x8192x1, .f32⟩
  | 111 => ⟨S32x8192x128, .f32⟩
  | 112 => ⟨S32x8192x128, .f32⟩
  | 113 => ⟨S32x8192x128, .f32⟩
  | 114 => ⟨S32x8192x128, .f32⟩
  | 115 => ⟨S_, .f32⟩
  | 116 => ⟨S32x8192, .f32⟩
  | 117 => ⟨S32x8192x1, .f32⟩
  | 118 => ⟨S_, .f32⟩
  | 119 => ⟨S32x8192x1, .f32⟩
  | 120 => ⟨S32x8192x1, .f32⟩
  | 121 => ⟨S32x8192x1, .f32⟩
  | 122 => ⟨S32x8192x128, .f32⟩
  | 123 => ⟨S32x8192x128, .f32⟩
  | 124 => ⟨S32x8192x128, .f32⟩
  | 125 => ⟨S64, .f32⟩
  | 126 => ⟨S_, .f32⟩
  | 127 => ⟨S64, .f32⟩
  | _ => ⟨S2x8192x2048, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S_, .f32⟩
  | 5 => ⟨S64, .f32⟩
  | 6 => ⟨S64, .f32⟩
  | 7 => ⟨S_, .f32⟩
  | 8 => ⟨S64, .f32⟩
  | 9 => ⟨S64, .f32⟩
  | 10 => ⟨S_, .f32⟩
  | 11 => ⟨S64, .f32⟩
  | 12 => ⟨S64, .f32⟩
  | 13 => ⟨S2x8192x1, .i32⟩
  | 14 => ⟨S2x8192x1, .f32⟩
  | 15 => ⟨S1x1x64, .f32⟩
  | 16 => ⟨S2x8192x64, .f32⟩
  | 17 => ⟨S2x8192x64, .f32⟩
  | 18 => ⟨S2x8192x64, .f32⟩
  | 19 => ⟨S2x8192x128, .f32⟩
  | 20 => ⟨S2x8192x128, .f32⟩
  | 21 => ⟨S2x8192x1x128, .f32⟩
  | 22 => ⟨S2x8192x128, .f32⟩
  | 23 => ⟨S2x8192x1x128, .f32⟩
  | 24 => ⟨S2x16x8192x128, .f32⟩
  | 25 => ⟨S2x8192x16x128, .f32⟩
  | 26 => ⟨S2x16x8192x128, .f32⟩
  | 27 => ⟨S2x8192x16x128, .f32⟩
  | 28 => ⟨S2x8192x16x128, .f32⟩
  | 29 => ⟨S2x8192x16x128, .f32⟩
  | 30 => ⟨S2x8192x16x64, .f32⟩
  | 31 => ⟨S2x8192x16x64, .f32⟩
  | 32 => ⟨S2x8192x16x64, .f32⟩
  | 33 => ⟨S2x8192x16x128, .f32⟩
  | 34 => ⟨S2x8192x16x128, .f32⟩
  | 35 => ⟨S2x8192x16x128, .f32⟩
  | 36 => ⟨S2x8192x16x128, .f32⟩
  | 37 => ⟨S2x8192x16x128, .f32⟩
  | 38 => ⟨S2x8192x16x128, .f32⟩
  | 39 => ⟨S2x8192x16x64, .f32⟩
  | 40 => ⟨S2x8192x16x64, .f32⟩
  | 41 => ⟨S2x8192x16x64, .f32⟩
  | 42 => ⟨S2x8192x16x128, .f32⟩
  | 43 => ⟨S2x8192x16x128, .f32⟩
  | 44 => ⟨S2x8192x16x128, .f32⟩
  | 45 => ⟨S2x8192x16x128, .f32⟩
  | 46 => ⟨S2x16x8192x128, .f32⟩
  | 47 => ⟨S32x8192x128, .f32⟩
  | 48 => ⟨S2x16x8192x128, .f32⟩
  | 49 => ⟨S32x8192x128, .f32⟩
  | 50 => ⟨S2048x48, .f32⟩
  | 51 => ⟨S2x8192x48, .f32⟩
  | 52 => ⟨S1x1x48, .f32⟩
  | 53 => ⟨S2x8192x48, .f32⟩
  | 54 => ⟨S2x8192x48, .f32⟩
  | 55 => ⟨S_, .f32⟩
  | 56 => ⟨S2x8192x48, .f32⟩
  | 57 => ⟨S2x8192x48, .f32⟩
  | 58 => ⟨S_, .f32⟩
  | 59 => ⟨S2x8192x48, .f32⟩
  | 60 => ⟨S2x8192x48, .f32⟩
  | 61 => ⟨S2x8192x48, .f32⟩
  | 62 => ⟨S2x8192x48, .f32⟩
  | 63 => ⟨S2x8192x48, .i1⟩
  | 64 => ⟨S2x8192x48, .f32⟩
  | 65 => ⟨S2x8192x48, .f32⟩
  | 66 => ⟨S2x8192x48, .f32⟩
  | 67 => ⟨S2x8192x48, .f32⟩
  | 68 => ⟨S2x8192x48, .f32⟩
  | 69 => ⟨S2x8192x48, .f32⟩
  | 70 => ⟨S2x8192x48, .f32⟩
  | 71 => ⟨S2x8192x48, .f32⟩
  | 72 => ⟨S2x8192x16x3, .f32⟩
  | 73 => ⟨S2x16x8192x3, .f32⟩
  | 74 => ⟨S32x8192x3, .f32⟩
  | 75 => ⟨S32x8192x1, .f32⟩
  | 76 => ⟨S32x8192x1, .f32⟩
  | 77 => ⟨S32x8192x1, .f32⟩
  | 78 => ⟨S2048x16, .f32⟩
  | 79 => ⟨S2x8192x16, .f32⟩
  | 80 => ⟨S1x1x16, .f32⟩
  | 81 => ⟨S2x8192x16, .f32⟩
  | 82 => ⟨S2x8192x16, .f32⟩
  | 83 => ⟨S2x8192x16, .f32⟩
  | 84 => ⟨S2x8192x16, .f32⟩
  | 85 => ⟨S_, .f32⟩
  | 86 => ⟨S2x8192x16, .f32⟩
  | 87 => ⟨S2x8192x16, .f32⟩
  | 88 => ⟨S_, .f32⟩
  | 89 => ⟨S2x8192x16, .f32⟩
  | 90 => ⟨S2x8192x16, .f32⟩
  | 91 => ⟨S2x8192x16x1, .f32⟩
  | 92 => ⟨S2x16x8192x1, .f32⟩
  | 93 => ⟨S32x8192x1, .f32⟩
  | 94 => ⟨S1x16x1x128x1x128, .f32⟩
  | 95 => ⟨S2x16x1x128x1x128, .f32⟩
  | 96 => ⟨S32x128x128, .f32⟩
  | 97 => ⟨S1x16x1x128x1x128, .f32⟩
  | 98 => ⟨S2x16x1x128x1x128, .f32⟩
  | 99 => ⟨S32x128x128, .f32⟩
  | 100 => ⟨S1x16x1x128x1x128, .f32⟩
  | 101 => ⟨S2x16x1x128x1x128, .f32⟩
  | 102 => ⟨S32x128x128, .f32⟩
  | 103 => ⟨S32x4x2048x128, .f32⟩
  | 104 => ⟨S4x32x2048x128, .f32⟩
  | 105 => ⟨S32x4x2048x128, .f32⟩
  | 106 => ⟨S4x32x2048x128, .f32⟩
  | 107 => ⟨S32x4x2048x128, .f32⟩
  | 108 => ⟨S4x32x2048x128, .f32⟩
  | 109 => ⟨S32x4x2048x1, .f32⟩
  | 110 => ⟨S4x32x2048x1, .f32⟩
  | 111 => ⟨S32x4x2048x1, .f32⟩
  | 112 => ⟨S4x32x2048x1, .f32⟩
  | 113 => ⟨S32x4x2048x1, .f32⟩
  | 114 => ⟨S4x32x2048x1, .f32⟩
  | 115 => ⟨S32x4x2048x1, .f32⟩
  | 116 => ⟨S4x32x2048x1, .f32⟩
  | 117 => ⟨S_, .f32⟩
  | 118 => ⟨S32x128x128, .f32⟩
  | 119 => ⟨S_, .f32⟩
  | 120 => ⟨S32x128x128, .f32⟩
  | 121 => ⟨S_, .f32⟩
  | 122 => ⟨S32x128x128, .f32⟩
  | 123 => ⟨S_, .f32⟩
  | 124 => ⟨S4x32x2048x128, .f32⟩
  | 125 => ⟨S_, .i32⟩
  | 126 => ⟨S4x32x2048x128, .f32⟩
  | 127 => ⟨S4x32x2048x128, .f32⟩
  | _ => ⟨S2x8192x2048, .f32⟩

abbrev hbmTy0_2 (i : Nat) : BufTy := match i % 128 with
  | 0 => ⟨S4x32x2048x128, .f32⟩
  | 1 => ⟨S4x32x2048x1, .f32⟩
  | 2 => ⟨S4x32x2048x1, .f32⟩
  | 3 => ⟨S4x32x2048x1, .f32⟩
  | 4 => ⟨S4x32x2048x1, .f32⟩
  | 5 => ⟨S_, .i32⟩
  | 6 => ⟨S32x128x128, .f32⟩
  | 7 => ⟨S32x128x128, .f32⟩
  | 8 => ⟨S32x128x128, .f32⟩
  | 9 => ⟨S32x128x128, .f32⟩
  | 10 => ⟨S32x128x128, .f32⟩
  | 11 => ⟨S32x128x128, .f32⟩
  | 12 => ⟨S4x32x2048x128, .f32⟩
  | 13 => ⟨S_, .i32⟩
  | 14 => ⟨S_, .i1⟩
  | 15 => ⟨S_, .i32⟩
  | 16 => ⟨S_, .i32⟩
  | 17 => ⟨S_, .i32⟩
  | 18 => ⟨S1x32x2048x128, .f32⟩
  | 19 => ⟨S32x2048x128, .f32⟩
  | 20 => ⟨S_, .i32⟩
  | 21 => ⟨S_, .i32⟩
  | 22 => ⟨S_, .i32⟩
  | 23 => ⟨S1x32x2048x128, .f32⟩
  | 24 => ⟨S32x2048x128, .f32⟩
  | 25 => ⟨S_, .i32⟩
  | 26 => ⟨S_, .i32⟩
  | 27 => ⟨S_, .i32⟩
  | 28 => ⟨S1x32x2048x128, .f32⟩
  | 29 => ⟨S32x2048x128, .f32⟩
  | 30 => ⟨S_, .i32⟩
  | 31 => ⟨S_, .i32⟩
  | 32 => ⟨S_, .i32⟩
  | 33 => ⟨S1x32x2048x1, .f32⟩
  | 34 => ⟨S32x2048x1, .f32⟩
  | 35 => ⟨S_, .i32⟩
  | 36 => ⟨S_, .i32⟩
  | 37 => ⟨S_, .i32⟩
  | 38 => ⟨S1x32x2048x1, .f32⟩
  | 39 => ⟨S32x2048x1, .f32⟩
  | 40 => ⟨S_, .i32⟩
  | 41 => ⟨S_, .i32⟩
  | 42 => ⟨S_, .i32⟩
  | 43 => ⟨S1x32x2048x1, .f32⟩
  | 44 => ⟨S32x2048x1, .f32⟩
  | 45 => ⟨S_, .i32⟩
  | 46 => ⟨S_, .i32⟩
  | 47 => ⟨S_, .i32⟩
  | 48 => ⟨S1x32x2048x1, .f32⟩
  | 49 => ⟨S32x2048x1, .f32⟩
  | 50 => ⟨S32x2048x128, .f32⟩
  | 51 => ⟨S32x2048x128, .f32⟩
  | 52 => ⟨S32x2048x128, .f32⟩
  | 53 => ⟨S_, .f32⟩
  | 54 => ⟨S32x2048x128, .f32⟩
  | 55 => ⟨S32x2048x128, .f32⟩
  | 56 => ⟨S_, .f32⟩
  | 57 => ⟨S32x2048x128, .f32⟩
  | 58 => ⟨S32x2048x128, .f32⟩
  | 59 => ⟨S32x2048x128, .f32⟩
  | 60 => ⟨S32x2048x128, .f32⟩
  | 61 => ⟨S32x2048x128, .f32⟩
  | 62 => ⟨S32x2048x128, .f32⟩
  | 63 => ⟨S32x2048x128, .f32⟩
  | 64 => ⟨S32x2048x128, .f32⟩
  | 65 => ⟨S32x2048x128, .f32⟩
  | 66 => ⟨S32x2048x128, .f32⟩
  | 67 => ⟨S_, .f32⟩
  | 68 => ⟨S32x2048x128, .f32⟩
  | 69 => ⟨S32x2048x128, .f32⟩
  | 70 => ⟨S_, .f32⟩
  | 71 => ⟨S32x2048x128, .f32⟩
  | 72 => ⟨S32x2048x128, .f32⟩
  | 73 => ⟨S32x2048x128, .f32⟩
  | 74 => ⟨S32x2048x128, .f32⟩
  | 75 => ⟨S32x2048x128, .f32⟩
  | 76 => ⟨S32x2048x128, .f32⟩
  | 77 => ⟨S32x2048x128, .f32⟩
  | 78 => ⟨S_, .f32⟩
  | 79 => ⟨S32x2048x128, .f32⟩
  | 80 => ⟨S32x2048x128, .f32⟩
  | 81 => ⟨S_, .f32⟩
  | 82 => ⟨S32x2048x128, .f32⟩
  | 83 => ⟨S32x2048x128, .f32⟩
  | 84 => ⟨S32x2048x128, .f32⟩
  | 85 => ⟨S32x2048x128, .f32⟩
  | 86 => ⟨S32x2048x128, .f32⟩
  | 87 => ⟨S32x2048x128, .f32⟩
  | 88 => ⟨S_, .f32⟩
  | 89 => ⟨S32x2048x128, .f32⟩
  | 90 => ⟨S32x2048x128, .f32⟩
  | 91 => ⟨S_, .f32⟩
  | 92 => ⟨S32x2048x128, .f32⟩
  | 93 => ⟨S32x2048x128, .f32⟩
  | 94 => ⟨S32x2048x128, .f32⟩
  | 95 => ⟨S32x2048x128, .f32⟩
  | 96 => ⟨S_, .f32⟩
  | 97 => ⟨S32x2048x128, .f32⟩
  | 98 => ⟨S32x2048x128, .f32⟩
  | 99 => ⟨S32x2048x128, .f32⟩
  | 100 => ⟨S_, .f32⟩
  | 101 => ⟨S32x2048x128, .f32⟩
  | 102 => ⟨S32x2048x128, .f32⟩
  | 103 => ⟨S32x2048x128, .f32⟩
  | 104 => ⟨S32x2048x128, .f32⟩
  | 105 => ⟨S32x2048x128, .f32⟩
  | 106 => ⟨S32x128x128, .f32⟩
  | 107 => ⟨S32x2048x128, .f32⟩
  | 108 => ⟨S32x2048x128, .f32⟩
  | 109 => ⟨S32x128x128, .f32⟩
  | 110 => ⟨S32x2048x128, .f32⟩
  | 111 => ⟨S32x2048x128, .f32⟩
  | 112 => ⟨S32x128x128, .f32⟩
  | 113 => ⟨S_, .f32⟩
  | 114 => ⟨S32x1, .f32⟩
  | 115 => ⟨S_, .f32⟩
  | 116 => ⟨S32x1, .f32⟩
  | 117 => ⟨S32x1, .f32⟩
  | 118 => ⟨S32x1x1, .f32⟩
  | 119 => ⟨S32x128x128, .f32⟩
  | 120 => ⟨S32x128x128, .f32⟩
  | 121 => ⟨S32x128x128, .f32⟩
  | 122 => ⟨S32x128x128, .f32⟩
  | 123 => ⟨S32x128x128, .f32⟩
  | 124 => ⟨S32x128x128, .f32⟩
  | 125 => ⟨S32x128x128, .f32⟩
  | 126 => ⟨S32x128x128, .f32⟩
  | 127 => ⟨S32x128x128, .f32⟩
  | _ => ⟨S2x8192x2048, .f32⟩

abbrev hbmTy0_3 (i : Nat) : BufTy := match i % 128 with
  | 0 => ⟨S32x128x128, .f32⟩
  | 1 => ⟨S32x128x128, .f32⟩
  | 2 => ⟨S_, .f32⟩
  | 3 => ⟨S32x128, .f32⟩
  | 4 => ⟨S32x128x1, .f32⟩
  | 5 => ⟨S_, .f32⟩
  | 6 => ⟨S32x128x1, .f32⟩
  | 7 => ⟨S32x128x1, .f32⟩
  | 8 => ⟨S32x128x1, .f32⟩
  | 9 => ⟨S32x128x128, .f32⟩
  | 10 => ⟨S32x128x128, .f32⟩
  | 11 => ⟨S32x128x128, .f32⟩
  | 12 => ⟨S32x128x128, .f32⟩
  | 13 => ⟨S_, .f32⟩
  | 14 => ⟨S32x128, .f32⟩
  | 15 => ⟨S32x128x1, .f32⟩
  | 16 => ⟨S_, .f32⟩
  | 17 => ⟨S32x128x1, .f32⟩
  | 18 => ⟨S32x128x1, .f32⟩
  | 19 => ⟨S32x128x1, .f32⟩
  | 20 => ⟨S32x128x128, .f32⟩
  | 21 => ⟨S32x128x128, .f32⟩
  | 22 => ⟨S32x128x128, .f32⟩
  | 23 => ⟨S32x128x128, .f32⟩
  | 24 => ⟨S_, .f32⟩
  | 25 => ⟨S32x128, .f32⟩
  | 26 => ⟨S32x128x1, .f32⟩
  | 27 => ⟨S_, .f32⟩
  | 28 => ⟨S32x128x1, .f32⟩
  | 29 => ⟨S32x128x1, .f32⟩
  | 30 => ⟨S32x128x1, .f32⟩
  | 31 => ⟨S32x128x128, .f32⟩
  | 32 => ⟨S32x128x128, .f32⟩
  | 33 => ⟨S1x32x2048x128, .f32⟩
  | 34 => ⟨S_, .i32⟩
  | 35 => ⟨S_, .i32⟩
  | 36 => ⟨S_, .i32⟩
  | 37 => ⟨S4x32x2048x128, .f32⟩
  | 38 => ⟨S_, .i32⟩
  | 39 => ⟨S_, .i32⟩
  | 40 => ⟨S32x4x2048x128, .f32⟩
  | 41 => ⟨S32x8192x128, .f32⟩
  | 42 => ⟨S32x8192x128, .f32⟩
  | 43 => ⟨S_, .f32⟩
  | 44 => ⟨S32x8192, .f32⟩
  | 45 => ⟨S32x8192x1, .f32⟩
  | 46 => ⟨S_, .f32⟩
  | 47 => ⟨S32x8192x1, .f32⟩
  | 48 => ⟨S32x8192x1, .f32⟩
  | 49 => ⟨S_, .f32⟩
  | 50 => ⟨S32x8192x1, .f32⟩
  | 51 => ⟨S32x8192x1, .f32⟩
  | 52 => ⟨S32x8192x1, .f32⟩
  | 53 => ⟨S32x8192x128, .f32⟩
  | 54 => ⟨S32x8192x128, .f32⟩
  | 55 => ⟨S1x1x128, .f32⟩
  | 56 => ⟨S32x8192x128, .f32⟩
  | 57 => ⟨S32x8192x128, .f32⟩
  | 58 => ⟨S2x16x8192x128, .f32⟩
  | 59 => ⟨S2x8192x16x128, .f32⟩
  | 60 => ⟨S2x8192x2048, .f32⟩
  | _ => ⟨S2x8192x2048, .f32⟩

abbrev hbmTy (i : Nat) : BufTy := match i / 128 with
  | 0 => hbmTy0_0 i
  | 1 => hbmTy0_1 i
  | 2 => hbmTy0_2 i
  | 3 => hbmTy0_3 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_5 : Ref sig .tc := ⟨.hbm, 75, rfl⟩
abbrev main_v54 : Ref sig .tc := ⟨.hbm, 76, rfl⟩
abbrev main_v55 : Ref sig .tc := ⟨.hbm, 77, rfl⟩
abbrev main_cst_6 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_7 : Ref sig .tc := ⟨.hbm, 85, rfl⟩
abbrev main_v62 : Ref sig .tc := ⟨.hbm, 86, rfl⟩
abbrev main_v63 : Ref sig .tc := ⟨.hbm, 87, rfl⟩
abbrev main_cst_8 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_9 : Ref sig .tc := ⟨.hbm, 95, rfl⟩
abbrev main_v70 : Ref sig .tc := ⟨.hbm, 96, rfl⟩
abbrev main_v71 : Ref sig .tc := ⟨.hbm, 97, rfl⟩
abbrev main_cst_10 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_11 : Ref sig .tc := ⟨.hbm, 104, rfl⟩
abbrev main_v77 : Ref sig .tc := ⟨.hbm, 105, rfl⟩
abbrev main_v78 : Ref sig .tc := ⟨.hbm, 106, rfl⟩
abbrev main_cst_12 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_13 : Ref sig .tc := ⟨.hbm, 115, rfl⟩
abbrev main_v86 : Ref sig .tc := ⟨.hbm, 116, rfl⟩
abbrev main_v87 : Ref sig .tc := ⟨.hbm, 117, rfl⟩
abbrev main_cst_14 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_15 : Ref sig .tc := ⟨.hbm, 126, rfl⟩
abbrev main_v95 : Ref sig .tc := ⟨.hbm, 127, rfl⟩
abbrev main_v96 : Ref sig .tc := ⟨.hbm, 128, rfl⟩
abbrev main_cst_16 : Ref sig .tc := ⟨.hbm, 129, rfl⟩
abbrev main_v97 : Ref sig .tc := ⟨.hbm, 130, rfl⟩
abbrev main_v98 : Ref sig .tc := ⟨.hbm, 131, rfl⟩
abbrev main_cst_17 : Ref sig .tc := ⟨.hbm, 132, rfl⟩
abbrev main_v99 : Ref sig .tc := ⟨.hbm, 133, rfl⟩
abbrev main_v100 : Ref sig .tc := ⟨.hbm, 134, rfl⟩
abbrev main_cst_18 : Ref sig .tc := ⟨.hbm, 135, rfl⟩
abbrev main_v101 : Ref sig .tc := ⟨.hbm, 136, rfl⟩
abbrev main_v102 : Ref sig .tc := ⟨.hbm, 137, rfl⟩
abbrev main_cst_19 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_cst_20 : Ref sig .tc := ⟨.hbm, 183, rfl⟩
abbrev main_v147 : Ref sig .tc := ⟨.hbm, 184, rfl⟩
abbrev main_v148 : Ref sig .tc := ⟨.hbm, 185, rfl⟩
abbrev main_call0_cst : Ref sig .tc := ⟨.hbm, 186, rfl⟩
abbrev main_call0_v0 : Ref sig .tc := ⟨.hbm, 187, rfl⟩
abbrev main_call0_v1 : Ref sig .tc := ⟨.hbm, 188, rfl⟩
abbrev main_call0_v2 : Ref sig .tc := ⟨.hbm, 189, rfl⟩
abbrev main_call0_v3 : Ref sig .tc := ⟨.hbm, 190, rfl⟩
abbrev main_call0_v4 : Ref sig .tc := ⟨.hbm, 191, rfl⟩
abbrev main_call0_v5 : Ref sig .tc := ⟨.hbm, 192, rfl⟩
abbrev main_call0_v6 : Ref sig .tc := ⟨.hbm, 193, rfl⟩
abbrev main_call0_v7 : Ref sig .tc := ⟨.hbm, 194, rfl⟩
abbrev main_call0_v8 : Ref sig .tc := ⟨.hbm, 195, rfl⟩
abbrev main_call0_v9 : Ref sig .tc := ⟨.hbm, 196, rfl⟩
abbrev main_call0_v10 : Ref sig .tc := ⟨.hbm, 197, rfl⟩
abbrev main_call0_v11 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_cst_21 : Ref sig .tc := ⟨.hbm, 213, rfl⟩
abbrev main_v163 : Ref sig .tc := ⟨.hbm, 214, rfl⟩
abbrev main_v164 : Ref sig .tc := ⟨.hbm, 215, rfl⟩
abbrev main_cst_22 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_cst_23 : Ref sig .tc := ⟨.hbm, 245, rfl⟩
abbrev main_v193 : Ref sig .tc := ⟨.hbm, 246, rfl⟩
abbrev main_cst_24 : Ref sig .tc := ⟨.hbm, 247, rfl⟩
abbrev main_v194 : Ref sig .tc := ⟨.hbm, 248, rfl⟩
abbrev main_cst_25 : Ref sig .tc := ⟨.hbm, 249, rfl⟩
abbrev main_v195 : Ref sig .tc := ⟨.hbm, 250, rfl⟩
abbrev main_cst_26 : Ref sig .tc := ⟨.hbm, 251, rfl⟩
abbrev main_v196 : Ref sig .tc := ⟨.hbm, 252, rfl⟩
abbrev main_c : Ref sig .tc := ⟨.hbm, 253, rfl⟩
abbrev main_v197_0 : Ref sig .tc := ⟨.hbm, 254, rfl⟩
abbrev main_v197_1 : Ref sig .tc := ⟨.hbm, 255, rfl⟩
abbrev main_v197_2 : Ref sig .tc := ⟨.hbm, 256, rfl⟩
abbrev main_v197_3 : Ref sig .tc := ⟨.hbm, 257, rfl⟩
abbrev main_v197_4 : Ref sig .tc := ⟨.hbm, 258, rfl⟩
abbrev main_v197_5 : Ref sig .tc := ⟨.hbm, 259, rfl⟩
abbrev main_v197_6 : Ref sig .tc := ⟨.hbm, 260, rfl⟩
abbrev main_v197_7 : Ref sig .tc := ⟨.hbm, 261, rfl⟩
abbrev main_v197_8 : Ref sig .tc := ⟨.hbm, 262, rfl⟩
abbrev main_v197_9 : Ref sig .tc := ⟨.hbm, 263, rfl⟩
abbrev main_v197_10 : Ref sig .tc := ⟨.hbm, 264, rfl⟩
abbrev main_v197_11 : Ref sig .tc := ⟨.hbm, 265, rfl⟩
abbrev main_v197_12 : Ref sig .tc := ⟨.hbm, 266, rfl⟩
abbrev main_v197_13 : Ref sig .tc := ⟨.hbm, 267, rfl⟩
abbrev main_v197_14 : Ref sig .tc := ⟨.hbm, 268, rfl⟩
abbrev main_while0c_c_44 : Ref sig .tc := ⟨.hbm, 269, rfl⟩
abbrev main_while0c_v216 : Ref sig .tc := ⟨.hbm, 270, rfl⟩
abbrev main_while0b_call1_c : Ref sig .tc := ⟨.hbm, 271, rfl⟩
abbrev main_while0b_call1_c_0 : Ref sig .tc := ⟨.hbm, 272, rfl⟩
abbrev main_while0b_call1_c_1 : Ref sig .tc := ⟨.hbm, 273, rfl⟩
abbrev main_while0b_call1_v0 : Ref sig .tc := ⟨.hbm, 274, rfl⟩
abbrev main_while0b_v216 : Ref sig .tc := ⟨.hbm, 275, rfl⟩
abbrev main_while0b_call2_c : Ref sig .tc := ⟨.hbm, 276, rfl⟩
abbrev main_while0b_call2_c_0 : Ref sig .tc := ⟨.hbm, 277, rfl⟩
abbrev main_while0b_call2_c_1 : Ref sig .tc := ⟨.hbm, 278, rfl⟩
abbrev main_while0b_call2_v0 : Ref sig .tc := ⟨.hbm, 279, rfl⟩
abbrev main_while0b_v217 : Ref sig .tc := ⟨.hbm, 280, rfl⟩
abbrev main_while0b_call3_c : Ref sig .tc := ⟨.hbm, 281, rfl⟩
abbrev main_while0b_call3_c_0 : Ref sig .tc := ⟨.hbm, 282, rfl⟩
abbrev main_while0b_call3_c_1 : Ref sig .tc := ⟨.hbm, 283, rfl⟩
abbrev main_while0b_call3_v0 : Ref sig .tc := ⟨.hbm, 284, rfl⟩
abbrev main_while0b_v218 : Ref sig .tc := ⟨.hbm, 285, rfl⟩
abbrev main_while0b_call4_c : Ref sig .tc := ⟨.hbm, 286, rfl⟩
abbrev main_while0b_call4_c_0 : Ref sig .tc := ⟨.hbm, 287, rfl⟩
abbrev main_while0b_call4_c_1 : Ref sig .tc := ⟨.hbm, 288, rfl⟩
abbrev main_while0b_call4_v0 : Ref sig .tc := ⟨.hbm, 289, rfl⟩
abbrev main_while0b_v219 : Ref sig .tc := ⟨.hbm, 290, rfl⟩
abbrev main_while0b_call5_c : Ref sig .tc := ⟨.hbm, 291, rfl⟩
abbrev main_while0b_call5_c_0 : Ref sig .tc := ⟨.hbm, 292, rfl⟩
abbrev main_while0b_call5_c_1 : Ref sig .tc := ⟨.hbm, 293, rfl⟩
abbrev main_while0b_call5_v0 : Ref sig .tc := ⟨.hbm, 294, rfl⟩
abbrev main_while0b_v220 : Ref sig .tc := ⟨.hbm, 295, rfl⟩
abbrev main_while0b_call6_c : Ref sig .tc := ⟨.hbm, 296, rfl⟩
abbrev main_while0b_call6_c_0 : Ref sig .tc := ⟨.hbm, 297, rfl⟩
abbrev main_while0b_call6_c_1 : Ref sig .tc := ⟨.hbm, 298, rfl⟩
abbrev main_while0b_call6_v0 : Ref sig .tc := ⟨.hbm, 299, rfl⟩
abbrev main_while0b_v221 : Ref sig .tc := ⟨.hbm, 300, rfl⟩
abbrev main_while0b_call7_c : Ref sig .tc := ⟨.hbm, 301, rfl⟩
abbrev main_while0b_call7_c_0 : Ref sig .tc := ⟨.hbm, 302, rfl⟩
abbrev main_while0b_call7_c_1 : Ref sig .tc := ⟨.hbm, 303, rfl⟩
abbrev main_while0b_call7_v0 : Ref sig .tc := ⟨.hbm, 304, rfl⟩
abbrev main_while0b_v222 : Ref sig .tc := ⟨.hbm, 305, rfl⟩
abbrev main_while0b_v223 : Ref sig .tc := ⟨.hbm, 306, rfl⟩
abbrev main_while0b_v224 : Ref sig .tc := ⟨.hbm, 307, rfl⟩
abbrev main_while0b_v225 : Ref sig .tc := ⟨.hbm, 308, rfl⟩
abbrev main_while0b_cst_44 : Ref sig .tc := ⟨.hbm, 309, rfl⟩
abbrev main_while0b_v226 : Ref sig .tc := ⟨.hbm, 310, rfl⟩
abbrev main_while0b_v227 : Ref sig .tc := ⟨.hbm, 311, rfl⟩
abbrev main_while0b_cst_45 : Ref sig .tc := ⟨.hbm, 312, rfl⟩
abbrev main_while0b_v228 : Ref sig .tc := ⟨.hbm, 313, rfl⟩
abbrev main_while0b_v229 : Ref sig .tc := ⟨.hbm, 314, rfl⟩
abbrev main_while0b_v230 : Ref sig .tc := ⟨.hbm, 315, rfl⟩
abbrev main_while0b_v231 : Ref sig .tc := ⟨.hbm, 316, rfl⟩
abbrev main_while0b_v232 : Ref sig .tc := ⟨.hbm, 317, rfl⟩
abbrev main_while0b_v233 : Ref sig .tc := ⟨.hbm, 318, rfl⟩
abbrev main_while0b_v234 : Ref sig .tc := ⟨.hbm, 319, rfl⟩
abbrev main_while0b_v235 : Ref sig .tc := ⟨.hbm, 320, rfl⟩
abbrev main_while0b_v236 : Ref sig .tc := ⟨.hbm, 321, rfl⟩
abbrev main_while0b_v237 : Ref sig .tc := ⟨.hbm, 322, rfl⟩
abbrev main_while0b_cst_46 : Ref sig .tc := ⟨.hbm, 323, rfl⟩
abbrev main_while0b_v238 : Ref sig .tc := ⟨.hbm, 324, rfl⟩
abbrev main_while0b_v239 : Ref sig .tc := ⟨.hbm, 325, rfl⟩
abbrev main_while0b_cst_47 : Ref sig .tc := ⟨.hbm, 326, rfl⟩
abbrev main_while0b_v240 : Ref sig .tc := ⟨.hbm, 327, rfl⟩
abbrev main_while0b_v241 : Ref sig .tc := ⟨.hbm, 328, rfl⟩
abbrev main_while0b_v242 : Ref sig .tc := ⟨.hbm, 329, rfl⟩
abbrev main_while0b_v243 : Ref sig .tc := ⟨.hbm, 330, rfl⟩
abbrev main_while0b_v244 : Ref sig .tc := ⟨.hbm, 331, rfl⟩
abbrev main_while0b_v245 : Ref sig .tc := ⟨.hbm, 332, rfl⟩
abbrev main_while0b_v246 : Ref sig .tc := ⟨.hbm, 333, rfl⟩
abbrev main_while0b_cst_48 : Ref sig .tc := ⟨.hbm, 334, rfl⟩
abbrev main_while0b_v247 : Ref sig .tc := ⟨.hbm, 335, rfl⟩
abbrev main_while0b_v248 : Ref sig .tc := ⟨.hbm, 336, rfl⟩
abbrev main_while0b_cst_49 : Ref sig .tc := ⟨.hbm, 337, rfl⟩
abbrev main_while0b_v249 : Ref sig .tc := ⟨.hbm, 338, rfl⟩
abbrev main_while0b_v250 : Ref sig .tc := ⟨.hbm, 339, rfl⟩
abbrev main_while0b_v251 : Ref sig .tc := ⟨.hbm, 340, rfl⟩
abbrev main_while0b_v252 : Ref sig .tc := ⟨.hbm, 341, rfl⟩
abbrev main_while0b_v253 : Ref sig .tc := ⟨.hbm, 342, rfl⟩
abbrev main_while0b_v254 : Ref sig .tc := ⟨.hbm, 343, rfl⟩
abbrev main_while0b_cst_50 : Ref sig .tc := ⟨.hbm, 344, rfl⟩
abbrev main_while0b_v255 : Ref sig .tc := ⟨.hbm, 345, rfl⟩
abbrev main_while0b_v256 : Ref sig .tc := ⟨.hbm, 346, rfl⟩
abbrev main_while0b_cst_51 : Ref sig .tc := ⟨.hbm, 347, rfl⟩
abbrev main_while0b_v257 : Ref sig .tc := ⟨.hbm, 348, rfl⟩
abbrev main_while0b_v258 : Ref sig .tc := ⟨.hbm, 349, rfl⟩
abbrev main_while0b_v259 : Ref sig .tc := ⟨.hbm, 350, rfl⟩
abbrev main_while0b_v260 : Ref sig .tc := ⟨.hbm, 351, rfl⟩
abbrev main_while0b_cst_52 : Ref sig .tc := ⟨.hbm, 352, rfl⟩
abbrev main_while0b_v261 : Ref sig .tc := ⟨.hbm, 353, rfl⟩
abbrev main_while0b_v262 : Ref sig .tc := ⟨.hbm, 354, rfl⟩
abbrev main_while0b_v263 : Ref sig .tc := ⟨.hbm, 355, rfl⟩
abbrev main_while0b_cst_53 : Ref sig .tc := ⟨.hbm, 356, rfl⟩
abbrev main_while0b_v264 : Ref sig .tc := ⟨.hbm, 357, rfl⟩
abbrev main_while0b_v265 : Ref sig .tc := ⟨.hbm, 358, rfl⟩
abbrev main_while0b_v266 : Ref sig .tc := ⟨.hbm, 359, rfl⟩
abbrev main_while0b_v267 : Ref sig .tc := ⟨.hbm, 360, rfl⟩
abbrev main_while0b_v268 : Ref sig .tc := ⟨.hbm, 361, rfl⟩
abbrev main_while0b_v269 : Ref sig .tc := ⟨.hbm, 362, rfl⟩
abbrev main_while0b_v270 : Ref sig .tc := ⟨.hbm, 363, rfl⟩
abbrev main_while0b_v271 : Ref sig .tc := ⟨.hbm, 364, rfl⟩
abbrev main_while0b_v272 : Ref sig .tc := ⟨.hbm, 365, rfl⟩
abbrev main_while0b_v273 : Ref sig .tc := ⟨.hbm, 366, rfl⟩
abbrev main_while0b_v274 : Ref sig .tc := ⟨.hbm, 367, rfl⟩
abbrev main_while0b_v275 : Ref sig .tc := ⟨.hbm, 368, rfl⟩
abbrev main_while0b_cst_54 : Ref sig .tc := ⟨.hbm, 369, rfl⟩
abbrev main_while0b_v276 : Ref sig .tc := ⟨.hbm, 370, rfl⟩
abbrev main_while0b_cst_55 : Ref sig .tc := ⟨.hbm, 371, rfl⟩
abbrev main_while0b_v277 : Ref sig .tc := ⟨.hbm, 372, rfl⟩
abbrev main_while0b_v278 : Ref sig .tc := ⟨.hbm, 373, rfl⟩
abbrev main_while0b_v279 : Ref sig .tc := ⟨.hbm, 374, rfl⟩
abbrev main_while0b_v280 : Ref sig .tc := ⟨.hbm, 375, rfl⟩
abbrev main_while0b_v281 : Ref sig .tc := ⟨.hbm, 376, rfl⟩
abbrev main_while0b_v282 : Ref sig .tc := ⟨.hbm, 377, rfl⟩
abbrev main_while0b_v283 : Ref sig .tc := ⟨.hbm, 378, rfl⟩
abbrev main_while0b_v284 : Ref sig .tc := ⟨.hbm, 379, rfl⟩
abbrev main_while0b_v285 : Ref sig .tc := ⟨.hbm, 380, rfl⟩
abbrev main_while0b_v286 : Ref sig .tc := ⟨.hbm, 381, rfl⟩
abbrev main_while0b_v287 : Ref sig .tc := ⟨.hbm, 382, rfl⟩
abbrev main_while0b_v288 : Ref sig .tc := ⟨.hbm, 383, rfl⟩
abbrev main_while0b_v289 : Ref sig .tc := ⟨.hbm, 384, rfl⟩
abbrev main_while0b_v290 : Ref sig .tc := ⟨.hbm, 385, rfl⟩
abbrev main_while0b_cst_56 : Ref sig .tc := ⟨.hbm, 386, rfl⟩
abbrev main_while0b_v291 : Ref sig .tc := ⟨.hbm, 387, rfl⟩
abbrev main_while0b_v292 : Ref sig .tc := ⟨.hbm, 388, rfl⟩
abbrev main_while0b_cst_57 : Ref sig .tc := ⟨.hbm, 389, rfl⟩
abbrev main_while0b_v293 : Ref sig .tc := ⟨.hbm, 390, rfl⟩
abbrev main_while0b_v294 : Ref sig .tc := ⟨.hbm, 391, rfl⟩
abbrev main_while0b_v295 : Ref sig .tc := ⟨.hbm, 392, rfl⟩
abbrev main_while0b_v296 : Ref sig .tc := ⟨.hbm, 393, rfl⟩
abbrev main_while0b_v297 : Ref sig .tc := ⟨.hbm, 394, rfl⟩
abbrev main_while0b_v298 : Ref sig .tc := ⟨.hbm, 395, rfl⟩
abbrev main_while0b_v299 : Ref sig .tc := ⟨.hbm, 396, rfl⟩
abbrev main_while0b_cst_58 : Ref sig .tc := ⟨.hbm, 397, rfl⟩
abbrev main_while0b_v300 : Ref sig .tc := ⟨.hbm, 398, rfl⟩
abbrev main_while0b_v301 : Ref sig .tc := ⟨.hbm, 399, rfl⟩
abbrev main_while0b_cst_59 : Ref sig .tc := ⟨.hbm, 400, rfl⟩
abbrev main_while0b_v302 : Ref sig .tc := ⟨.hbm, 401, rfl⟩
abbrev main_while0b_v303 : Ref sig .tc := ⟨.hbm, 402, rfl⟩
abbrev main_while0b_v304 : Ref sig .tc := ⟨.hbm, 403, rfl⟩
abbrev main_while0b_v305 : Ref sig .tc := ⟨.hbm, 404, rfl⟩
abbrev main_while0b_v306 : Ref sig .tc := ⟨.hbm, 405, rfl⟩
abbrev main_while0b_v307 : Ref sig .tc := ⟨.hbm, 406, rfl⟩
abbrev main_while0b_v308 : Ref sig .tc := ⟨.hbm, 407, rfl⟩
abbrev main_while0b_cst_60 : Ref sig .tc := ⟨.hbm, 408, rfl⟩
abbrev main_while0b_v309 : Ref sig .tc := ⟨.hbm, 409, rfl⟩
abbrev main_while0b_v310 : Ref sig .tc := ⟨.hbm, 410, rfl⟩
abbrev main_while0b_cst_61 : Ref sig .tc := ⟨.hbm, 411, rfl⟩
abbrev main_while0b_v311 : Ref sig .tc := ⟨.hbm, 412, rfl⟩
abbrev main_while0b_v312 : Ref sig .tc := ⟨.hbm, 413, rfl⟩
abbrev main_while0b_v313 : Ref sig .tc := ⟨.hbm, 414, rfl⟩
abbrev main_while0b_v314 : Ref sig .tc := ⟨.hbm, 415, rfl⟩
abbrev main_while0b_v315 : Ref sig .tc := ⟨.hbm, 416, rfl⟩
abbrev main_while0b_call8_v0 : Ref sig .tc := ⟨.hbm, 417, rfl⟩
abbrev main_while0b_call8_c : Ref sig .tc := ⟨.hbm, 418, rfl⟩
abbrev main_while0b_call8_c_0 : Ref sig .tc := ⟨.hbm, 419, rfl⟩
abbrev main_while0b_call8_c_1 : Ref sig .tc := ⟨.hbm, 420, rfl⟩
abbrev main_while0b_v316 : Ref sig .tc := ⟨.hbm, 421, rfl⟩
abbrev main_while0b_c_62 : Ref sig .tc := ⟨.hbm, 422, rfl⟩
abbrev main_while0b_v317 : Ref sig .tc := ⟨.hbm, 423, rfl⟩
abbrev main_v198 : Ref sig .tc := ⟨.hbm, 424, rfl⟩
abbrev main_v199 : Ref sig .tc := ⟨.hbm, 425, rfl⟩
abbrev main_v200 : Ref sig .tc := ⟨.hbm, 426, rfl⟩
abbrev main_cst_27 : Ref sig .tc := ⟨.hbm, 427, rfl⟩
abbrev main_v201 : Ref sig .tc := ⟨.hbm, 428, rfl⟩
abbrev main_v202 : Ref sig .tc := ⟨.hbm, 429, rfl⟩
abbrev main_cst_28 : Ref sig .tc := ⟨.hbm, 430, rfl⟩
abbrev main_v203 : Ref sig .tc := ⟨.hbm, 431, rfl⟩
abbrev main_v204 : Ref sig .tc := ⟨.hbm, 432, rfl⟩
abbrev main_cst_29 : Ref sig .tc := ⟨.hbm, 433, rfl⟩
abbrev main_v205 : Ref sig .tc := ⟨.hbm, 434, rfl⟩
abbrev main_v206 : Ref sig .tc := ⟨.hbm, 435, rfl⟩
abbrev main_v207 : Ref sig .tc := ⟨.hbm, 436, rfl⟩
abbrev main_v208 : Ref sig .tc := ⟨.hbm, 437, rfl⟩
abbrev main_v209 : Ref sig .tc := ⟨.hbm, 438, rfl⟩
abbrev main_v210 : Ref sig .tc := ⟨.hbm, 439, rfl⟩
abbrev main_v211 : Ref sig .tc := ⟨.hbm, 440, rfl⟩
abbrev main_v212 : Ref sig .tc := ⟨.hbm, 441, rfl⟩
abbrev main_v213 : Ref sig .tc := ⟨.hbm, 442, rfl⟩
abbrev main_v214 : Ref sig .tc := ⟨.hbm, 443, rfl⟩
abbrev main_v215 : Ref sig .tc := ⟨.hbm, 444, rfl⟩

abbrev nD : Nat := 1
abbrev τ : Topo := Topo.v7x

variable {F : FTy → Type} [FloatOps F]

abbrev main_while0_count : Scf.Loop 32 := ⟨0#32, 4#32, 1#32⟩
-- ==== Proof.IdealQkvRun.lean ====
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.RegionArraysF
public import Idealize.ShloMosaic.Lib.Pipeline.DatRel
public import Idealize.ShloMosaic.Lib.Pipeline.ArrRel
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-! # The first region's body: what one grid point stores -/

/-- The branch of the query and key thirds is taken. -/
abbrev cond0_0 (i : grid0.Coords) : Prop := k0_cond1 i = 1#1
/-- It is taken exactly at the first 64 points. -/
theorem hcond0_0 : ∀ t : Fin cfg0.N, cond0_0 (grid0.coords t) ↔ t.val < 64 :=
  (by decide +kernel : ∀ t : Fin grid0.N, cond0_0 (grid0.coords t) ↔ t.val < 64)
/-- The branch that stores the values is taken. -/
abbrev cond0_1 (i : grid0.Coords) : Prop := k0_cond2 i = 1#1
/-- It is taken exactly from point 64 on. -/
theorem hcond0_1 : ∀ t : Fin cfg0.N, cond0_1 (grid0.coords t) ↔ 64 ≤ t.val :=
  (by decide +kernel : ∀ t : Fin grid0.N, cond0_1 (grid0.coords t) ↔ 64 ≤ t.val)
/-- The branch that stores the rates is taken. -/
abbrev cond0_2 (i : grid0.Coords) : Prop := k0_cond3 i = 1#1
/-- It is taken exactly from point 64 on. -/
theorem hcond0_2 : ∀ t : Fin cfg0.N, cond0_2 (grid0.coords t) ↔ 64 ≤ t.val :=
  (by decide +kernel : ∀ t : Fin grid0.N, cond0_2 (grid0.coords t) ↔ 64 ≤ t.val)

set_option maxHeartbeats 1000000 in
/-- The body at a point of the query or key third (the first two branches of three decided by `hc0`, `hc1`, `hc2`): the
    pieces it stores in the activation block, with the proof that it runs from whole staging buffers holding the six
    inputs to the same inputs and those pieces. The buffer of the rates is not touched. -/
noncomputable def kernelRun0_A (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S64x2048 .bf16) (harg6 : arg6.IsWhole) (arg7 : Memref sig .tc .vmem S1x64 .f32) (harg7 : arg7.IsWhole) (arg8 : Memref sig .tc .vmem S1x512x2048 .bf16) (harg8 : arg8.IsWhole) (arg9 : Memref sig .tc .vmem S512x64 .f32) (harg9 : arg9.IsWhole) (hc0 : cond0_0 i) (hc1 : ¬cond0_1 i) (hc2 : ¬cond0_2 i)
    (x0 : Vec F S512x2048 .bf16) (x1 : Vec F S2048x2048 .bf16) (x2 : Vec F S1x1x2048 .f32) (x3 : Vec F S1x1x2048 .f32) (x4 : Vec F S64x2048 .bf16) (x5 : Vec F S1x64 .f32) :
    { L6 : List (View.Piece (Elt F) S1x512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc0_qkv_fused i arg2 harg2 arg3 harg3 arg4 harg4 arg5 harg5 arg6 harg6 arg7 harg7 arg8 harg8 arg9 harg9) K } := by
  refine ⟨?_, fun E K => ?run⟩
  case run =>
    simp only [cc0_qkv_fused_eq_skeleton]; unfold cc0_qkv_fused_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

set_option maxHeartbeats 1000000 in
/-- The body at a point of the value third: the pieces it stores in the activation block and in the block of the rates,
    with the proof that it runs from whole staging buffers holding the six inputs to the same inputs and those pieces. -/
noncomputable def kernelRun0_B (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S64x2048 .bf16) (harg6 : arg6.IsWhole) (arg7 : Memref sig .tc .vmem S1x64 .f32) (harg7 : arg7.IsWhole) (arg8 : Memref sig .tc .vmem S1x512x2048 .bf16) (harg8 : arg8.IsWhole) (arg9 : Memref sig .tc .vmem S512x64 .f32) (harg9 : arg9.IsWhole) (hc0 : ¬cond0_0 i) (hc1 : cond0_1 i) (hc2 : cond0_2 i)
    (x0 : Vec F S512x2048 .bf16) (x1 : Vec F S2048x2048 .bf16) (x2 : Vec F S1x1x2048 .f32) (x3 : Vec F S1x1x2048 .f32) (x4 : Vec F S64x2048 .bf16) (x5 : Vec F S1x64 .f32) :
    Σ' (L6 : List (View.Piece (Elt F) S1x512x2048 .bf16)), { L7 : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0_qkv_fused i arg2 harg2 arg3 harg3 arg4 harg4 arg5 harg5 arg6 harg6 arg7 harg7 arg8 harg8 arg9 harg9) K } := by
  refine ⟨?_, ?_, fun E K => ?run⟩
  case run =>
    simp only [cc0_qkv_fused_eq_skeleton]; unfold cc0_qkv_fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

end Cert.KernelIdeal.Two

end
-- ==== Proof.IdealQkvBody.lean ====
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Pipeline.RegionsLoop
public import Idealize.ShloMosaic.Lib.Pipeline.RegionArraysF
public import Idealize.ShloMosaic.Lib.Pipeline.DatRel
public import Idealize.ShloMosaic.Lib.Pipeline.ArrRel
public import proofs.«01_k».proof.Proof.IdealQkvRun

@[expose] public section

set_option maxRecDepth 16384

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-! # The first region's body: the blocks it leaves, and its obligation

At the query and key thirds the body stores its activation block sixteen heads at a time and leaves the block of the rates
alone; at the value third it stores both blocks whole. The rates' window is written back at every point, so it is held here
to a relation: from point 64 on its block is the payload; before, it may hold anything. -/

/-- The sixteen head slices stored at a point of the query or key third, last first: each the normalized head of the
    activation of the product. -/
def piecesA (x0 : Vec F S512x2048 .bf16) (x1 : Vec F S2048x2048 .bf16) (x2 x3 : Vec F S1x1x2048 .f32) : List (View.Piece (Elt F) S1x512x2048 .bf16) :=
  let r := k0_pay7 (k0_pay2 x0 x1) x2 x3
  [⟨Rect.unit ![0, 0, 1920] S1x512x128.size inb_S1x512x2048_S1x512x128_0_0_1920, k0_pay4 r⟩,
   ⟨Rect.unit ![0, 0, 1792] S1x512x128.size inb_S1x512x2048_S1x512x128_0_0_1792, k0_pay3 (k0_pay26 r) (k0_pay27 r)⟩,
   ⟨Rect.unit ![0, 0, 1664] S1x512x128.size inb_S1x512x2048_S1x512x128_0_0_1664, k0_pay25 r⟩,
   ⟨Rect.unit ![0, 0, 1536] S1x512x128.size inb_S1x512x2048_S1x512x128_0_0_1536, k0_pay24 r⟩,
   ⟨Rect.unit ![0, 0, 1408] S1x512x128.size inb_S1x512x2048_S1x512x128_0_0_1408, k0_pay23 (k0_pay21 r) (k0_pay22 r)⟩,
   ⟨Rect.unit ![0, 0, 1280] S1x512x128.size inb_S1x512x2048_S1x512x128_0_0_1280, k0_pay20 r⟩,
   ⟨Rect.unit ![0, 0, 1152] S1x512x128.size inb_S1x512x2048_S1x512x128_0_0_1152, k0_pay19 r⟩,
   ⟨Rect.unit ![0, 0, 1024] S1x512x128.size inb_S1x512x2048_S1x512x128_0_0_1024, k0_pay18 r⟩,
   ⟨Rect.unit ![0, 0, 896] S1x512x128.size inb_S1x512x2048_S1x512x128_0_0_896, k0_pay17 r⟩,
   ⟨Rect.unit ![0, 0, 768] S1x512x128.size inb_S1x512x2048_S1x512x128_0_0_768, k0_pay16 r⟩,
   ⟨Rect.unit ![0, 0, 640] S1x512x128.size inb_S1x512x2048_S1x512x128_0_0_640, k0_pay15 r⟩,
   ⟨Rect.unit ![0, 0, 512] S1x512x128.size inb_S1x512x2048_S1x512x128_0_0_512, k0_pay14 (k0_pay13 r)⟩,
   ⟨Rect.unit ![0, 0, 384] S1x512x128.size inb_S1x512x2048_S1x512x128_0_0_384, k0_pay12 r⟩,
   ⟨Rect.unit ![0, 0, 256] S1x512x128.size inb_S1x512x2048_S1x512x128_0_0_256, k0_pay11 r⟩,
   ⟨Rect.unit ![0, 0, 128] S1x512x128.size inb_S1x512x2048_S1x512x128_0_0_128, k0_pay10 (k0_pay9 (k0_pay2 x0 x1) x2 x3)⟩,
   ⟨Rect.unit ![0, 0, 0] S1x512x128.size inb_S1x512x2048_S1x512x128_0_0_0, k0_pay8 (k0_pay2 x0 x1) x2 x3⟩]

/-- The activation block left at a point of the query or key third. -/
def actA (x0 : Vec F S512x2048 .bf16) (x1 : Vec F S2048x2048 .bf16) (x2 x3 : Vec F S1x1x2048 .f32) : Vec F S1x512x2048 .bf16 := View.canon (piecesA x0 x1 x2 x3)

/-- The run at a point of the query or key third stores those slices. -/
theorem run0_A_pieces (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S64x2048 .bf16) (harg6 : arg6.IsWhole) (arg7 : Memref sig .tc .vmem S1x64 .f32) (harg7 : arg7.IsWhole) (arg8 : Memref sig .tc .vmem S1x512x2048 .bf16) (harg8 : arg8.IsWhole) (arg9 : Memref sig .tc .vmem S512x64 .f32) (harg9 : arg9.IsWhole) (hc0 : cond0_0 i) (hc1 : ¬cond0_1 i) (hc2 : ¬cond0_2 i)
    (x0 : Vec F S512x2048 .bf16) (x1 : Vec F S2048x2048 .bf16) (x2 : Vec F S1x1x2048 .f32) (x3 : Vec F S1x1x2048 .f32) (x4 : Vec F S64x2048 .bf16) (x5 : Vec F S1x64 .f32) :
    (kernelRun0_A c i arg2 harg2 arg3 harg3 arg4 harg4 arg5 harg5 arg6 harg6 arg7 harg7 arg8 harg8 arg9 harg9 hc0 hc1 hc2 x0 x1 x2 x3 x4 x5).1 = piecesA x0 x1 x2 x3 := by
  frame_open
  simp (disch := decide) only [View.readAt_eq_ld, harg2.read_unread, harg3.read_unread, harg4.read_unread, harg5.read_unread, harg6.read_unread, harg7.read_unread, View.ld_unit_lit']
  rfl

/-- The run at a point of the value third stores the activation block whole, -/
theorem run0_B_act (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S64x2048 .bf16) (harg6 : arg6.IsWhole) (arg7 : Memref sig .tc .vmem S1x64 .f32) (harg7 : arg7.IsWhole) (arg8 : Memref sig .tc .vmem S1x512x2048 .bf16) (harg8 : arg8.IsWhole) (arg9 : Memref sig .tc .vmem S512x64 .f32) (harg9 : arg9.IsWhole) (hc0 : ¬cond0_0 i) (hc1 : cond0_1 i) (hc2 : cond0_2 i)
    (x0 : Vec F S512x2048 .bf16) (x1 : Vec F S2048x2048 .bf16) (x2 : Vec F S1x1x2048 .f32) (x3 : Vec F S1x1x2048 .f32) (x4 : Vec F S64x2048 .bf16) (x5 : Vec F S1x64 .f32) :
    View.canon (kernelRun0_B c i arg2 harg2 arg3 harg3 arg4 harg4 arg5 harg5 arg6 harg6 arg7 harg7 arg8 harg8 arg9 harg9 hc0 hc1 hc2 x0 x1 x2 x3 x4 x5).1 = k0_pay5 x0 x1 := by
  frame_open
  simp (disch := decide) only [View.readAt_eq_ld, harg2.read_unread, harg3.read_unread, harg4.read_unread, harg5.read_unread, harg6.read_unread, harg7.read_unread, View.ld_unit_lit', View.canon_cons_unit_lit']

/-- and the block of the rates whole. -/
theorem run0_B_lrm (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S64x2048 .bf16) (harg6 : arg6.IsWhole) (arg7 : Memref sig .tc .vmem S1x64 .f32) (harg7 : arg7.IsWhole) (arg8 : Memref sig .tc .vmem S1x512x2048 .bf16) (harg8 : arg8.IsWhole) (arg9 : Memref sig .tc .vmem S512x64 .f32) (harg9 : arg9.IsWhole) (hc0 : ¬cond0_0 i) (hc1 : cond0_1 i) (hc2 : cond0_2 i)
    (x0 : Vec F S512x2048 .bf16) (x1 : Vec F S2048x2048 .bf16) (x2 : Vec F S1x1x2048 .f32) (x3 : Vec F S1x1x2048 .f32) (x4 : Vec F S64x2048 .bf16) (x5 : Vec F S1x64 .f32) :
    View.canon (kernelRun0_B c i arg2 harg2 arg3 harg3 arg4 harg4 arg5 harg5 arg6 harg6 arg7 harg7 arg8 harg8 arg9 harg9 hc0 hc1 hc2 x0 x1 x2 x3 x4 x5).2.1 = k0_pay6 x0 x4 x5 := by
  frame_open
  simp (disch := decide) only [View.readAt_eq_ld, harg2.read_unread, harg3.read_unread, harg4.read_unread, harg5.read_unread, harg6.read_unread, harg7.read_unread, View.ld_unit_lit', View.canon_cons_unit_lit']

/-- The sixteen slices cover the block. -/
theorem coverA (x0 : Vec F S512x2048 .bf16) (x1 : Vec F S2048x2048 .bf16) (x2 x3 : Vec F S1x1x2048 .f32) (y : S1x512x2048.Idx) : ∃ pc ∈ piecesA x0 x1 x2 x3, y ∈ pc.1.set :=
  View.cover_of_tiledL (piecesA x0 x1 x2 x3) S1x512x128.size (by sl_kernel_rfl) y

theorem coverB6 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S64x2048 .bf16) (harg6 : arg6.IsWhole) (arg7 : Memref sig .tc .vmem S1x64 .f32) (harg7 : arg7.IsWhole) (arg8 : Memref sig .tc .vmem S1x512x2048 .bf16) (harg8 : arg8.IsWhole) (arg9 : Memref sig .tc .vmem S512x64 .f32) (harg9 : arg9.IsWhole) (hc0 : ¬cond0_0 i) (hc1 : cond0_1 i) (hc2 : cond0_2 i)
    (x0 : Vec F S512x2048 .bf16) (x1 : Vec F S2048x2048 .bf16) (x2 : Vec F S1x1x2048 .f32) (x3 : Vec F S1x1x2048 .f32) (x4 : Vec F S64x2048 .bf16) (x5 : Vec F S1x64 .f32) (y : S1x512x2048.Idx) :
    ∃ pc ∈ (kernelRun0_B c i arg2 harg2 arg3 harg3 arg4 harg4 arg5 harg5 arg6 harg6 arg7 harg7 arg8 harg8 arg9 harg9 hc0 hc1 hc2 x0 x1 x2 x3 x4 x5).1, y ∈ pc.1.set :=
  View.cover_of_tiledL (kernelRun0_B c i arg2 harg2 arg3 harg3 arg4 harg4 arg5 harg5 arg6 harg6 arg7 harg7 arg8 harg8 arg9 harg9 hc0 hc1 hc2 x0 x1 x2 x3 x4 x5).1 S1x512x2048.size (by sl_kernel_rfl) y

theorem coverB7 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S64x2048 .bf16) (harg6 : arg6.IsWhole) (arg7 : Memref sig .tc .vmem S1x64 .f32) (harg7 : arg7.IsWhole) (arg8 : Memref sig .tc .vmem S1x512x2048 .bf16) (harg8 : arg8.IsWhole) (arg9 : Memref sig .tc .vmem S512x64 .f32) (harg9 : arg9.IsWhole) (hc0 : ¬cond0_0 i) (hc1 : cond0_1 i) (hc2 : cond0_2 i)
    (x0 : Vec F S512x2048 .bf16) (x1 : Vec F S2048x2048 .bf16) (x2 : Vec F S1x1x2048 .f32) (x3 : Vec F S1x1x2048 .f32) (x4 : Vec F S64x2048 .bf16) (x5 : Vec F S1x64 .f32) (y : S512x64.Idx) :
    ∃ pc ∈ (kernelRun0_B c i arg2 harg2 arg3 harg3 arg4 harg4 arg5 harg5 arg6 harg6 arg7 harg7 arg8 harg8 arg9 harg9 hc0 hc1 hc2 x0 x1 x2 x3 x4 x5).2.1, y ∈ pc.1.set :=
  View.cover_of_tiledL (kernelRun0_B c i arg2 harg2 arg3 harg3 arg4 harg4 arg5 harg5 arg6 harg6 arg7 harg7 arg8 harg8 arg9 harg9 hc0 hc1 hc2 x0 x1 x2 x3 x4 x5).2.1 S512x64.size (by sl_kernel_rfl) y

/-! ## The region's data -/

abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x64 .f32 := win0_7.stage (cfg0.slots t 7)
abbrev hs0_7 (t : Fin cfg0.N) : (ms0_7 t).IsWhole := hstage0_7 ((cfg0.slots t 7).cast nbuf0_7)

-- the buffer contents the region finds
variable (V : (c : Dev nD) → (b : Ref sig .tc) → Buf (Elt F) ((c : Thread nD τ).loc b))

/-- The block of window `w` at point `t`, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation block after point `t`. -/
def act0 (c : Dev nD) (t : Fin cfg0.N) : Vec F S1x512x2048 .bf16 :=
  if t.val < 64 then actA (iblk0 V c 0 t) (iblk0 V c 1 t) (iblk0 V c 2 t) (iblk0 V c 3 t) else k0_pay5 (iblk0 V c 0 t) (iblk0 V c 1 t)

/-- The block of the rates of point `t`'s rows. -/
def lrm0 (c : Dev nD) (t : Fin cfg0.N) : Vec F S512x64 .f32 := k0_pay6 (iblk0 V c 0 t) (iblk0 V c 4 t) (iblk0 V c 5 t)

/-- The data of the first region: each input's buffer at its block, the outputs' at `act0` and `lrm0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => act0 V c t
    | ⟨7, _⟩ => lrm0 V c t
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = act0 V c t := by dsimp only [dat0]
theorem after0_7 (c : Dev nD) (t : Fin cfg0.N) : (dat0 V c).after 7 t = lrm0 V c t := by dsimp only [dat0]
/-- Input 0's staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- Input 1's staging buffer holds its block at every point. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
/-- Input 2's staging buffer holds its block at every point. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
/-- Input 3's staging buffer holds its block at every point. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
/-- Input 4's staging buffer holds its block at every point. -/
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
/-- Input 5's staging buffer holds its block at every point. -/
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

/-- The rates' window alone is held to a relation, -/
abbrev fgt0 : Fin cfg0.W → Bool := fun w => decide (w = 7)
/-- which says what it holds from point 64 on. -/
abbrev Rl0 (c : Dev nD) : (w : Fin cfg0.W) → Fin cfg0.N → ((cfg0.win w).block.Idx → Elt F (cfg0.win w).elt) → Prop :=
  fun w t X => 64 ≤ t.val → X = (dat0 V c).after w t

/-- The activation window is stored at every point. -/
theorem live0_6 : ∀ t : Fin cfg0.N, cfg0.idle 6 (grid0.coords t) = false := by decide +kernel

/-- Window 0 is given back at what the data says. -/
theorem leaves0_0 (c : Dev nD) (t : Fin cfg0.N) :
    (dat0 V c).leavesExact 0 t = owns (c : Thread nD τ) (ms0_0 t) fullShare ((dat0 V c).after 0 t) := by
  unfold Dat.leavesExact; rw [show cfg0.idle 0 (cfg0.grid.coords t) = false from rfl]
/-- Window 1 is given back at what the data says. -/
theorem leaves0_1 (c : Dev nD) (t : Fin cfg0.N) :
    (dat0 V c).leavesExact 1 t = owns (c : Thread nD τ) (ms0_1 t) fullShare ((dat0 V c).after 1 t) := by
  unfold Dat.leavesExact; rw [show cfg0.idle 1 (cfg0.grid.coords t) = false from rfl]
/-- Window 2 is given back at what the data says. -/
theorem leaves0_2 (c : Dev nD) (t : Fin cfg0.N) :
    (dat0 V c).leavesExact 2 t = owns (c : Thread nD τ) (ms0_2 t) fullShare ((dat0 V c).after 2 t) := by
  unfold Dat.leavesExact; rw [show cfg0.idle 2 (cfg0.grid.coords t) = false from rfl]
/-- Window 3 is given back at what the data says. -/
theorem leaves0_3 (c : Dev nD) (t : Fin cfg0.N) :
    (dat0 V c).leavesExact 3 t = owns (c : Thread nD τ) (ms0_3 t) fullShare ((dat0 V c).after 3 t) := by
  unfold Dat.leavesExact; rw [show cfg0.idle 3 (cfg0.grid.coords t) = false from rfl]
/-- Window 4 is given back at what the data says. -/
theorem leaves0_4 (c : Dev nD) (t : Fin cfg0.N) :
    (dat0 V c).leavesExact 4 t = owns (c : Thread nD τ) (ms0_4 t) fullShare ((dat0 V c).after 4 t) := by
  unfold Dat.leavesExact; rw [show cfg0.idle 4 (cfg0.grid.coords t) = false from rfl]
/-- Window 5 is given back at what the data says. -/
theorem leaves0_5 (c : Dev nD) (t : Fin cfg0.N) :
    (dat0 V c).leavesExact 5 t = owns (c : Thread nD τ) (ms0_5 t) fullShare ((dat0 V c).after 5 t) := by
  unfold Dat.leavesExact; rw [show cfg0.idle 5 (cfg0.grid.coords t) = false from rfl]
/-- Window 6 is given back at what the data says. -/
theorem leaves0_6 (c : Dev nD) (t : Fin cfg0.N) :
    (dat0 V c).leavesExact 6 t = owns (c : Thread nD τ) (ms0_6 t) fullShare ((dat0 V c).after 6 t) := by
  unfold Dat.leavesExact; rw [live0_6 t]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ Y, ⌜((dat0 V c).toRRel fgt0 (Rl0 V c)).Finds 7 t Y⌝ ∗ owns (c : Thread nD τ) (ms0_7 t) fullShare Y))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (∃ X, ⌜Rl0 V c 7 t X⌝ ∗ owns (c : Thread nD τ) (ms0_7 t) fullShare X))

set_option maxHeartbeats 1600000 in
/-- The body at any point, by the two cases of the point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [leaves0_0, leaves0_1, leaves0_2, leaves0_3, leaves0_4, leaves0_5, leaves0_6]
  simp only [before0_0, before0_1, before0_2, before0_3, before0_4, before0_5, after0_0, after0_1, after0_2, after0_3, after0_4, after0_5, after0_6]
  rw [show (dat0 V c).Φ t.succ = (dat0 V c).Φ t.castSucc from rfl,
    show (dat0 V c).owesAt () t.succ = (dat0 V c).owesAt () t.castSucc from rfl]
  have hN : t.val < 96 := lt_of_lt_of_eq t.isLt (show cfg0.N = 96 from N_0)
  by_cases h0 : t.val < 64
  · have hc0 := (hcond0_0 t).mpr h0
    have hc1 : ¬cond0_1 (grid0.coords t) := fun h => absurd ((hcond0_1 t).mp h) (by omega)
    have hc2 : ¬cond0_2 (grid0.coords t) := fun h => absurd ((hcond0_2 t).mp h) (by omega)
    rw [show act0 V c t = _ from if_pos h0]
    iintro ⟨HΦ, Ho, ⟨%d0, H0⟩, ⟨%d1, H1⟩, ⟨%d2, H2⟩, ⟨%d3, H3⟩, ⟨%d4, H4⟩, ⟨%d5, H5⟩, ⟨%d6, H6⟩, ⟨%Y7, -, H7⟩⟩
    iapply ((kernelRun0_A c (grid0.coords t) _ _ _ _ _ _ _ _ _ _ _ _ _ _ (ms0_7 t) (hs0_7 t) hc0 hc1 hc2 (iblk0 V c 0 t) (iblk0 V c 1 t) (iblk0 V c 2 t) (iblk0 V c 3 t) (iblk0 V c 4 t) (iblk0 V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; rw [run0_A_pieces]; exact View.read_writes_eq_canon _ _ _ (coverA _ _ _ _)
    iexists Y7; isplitr
    · ipureintro; exact fun h => absurd h (by omega)
    · iexact H7
  · have hc0 : ¬cond0_0 (grid0.coords t) := fun h => h0 ((hcond0_0 t).mp h)
    have hc1 := (hcond0_1 t).mpr (by omega : 64 ≤ t.val)
    have hc2 := (hcond0_2 t).mpr (by omega : 64 ≤ t.val)
    rw [show act0 V c t = _ from if_neg h0]
    iintro ⟨HΦ, Ho, ⟨%d0, H0⟩, ⟨%d1, H1⟩, ⟨%d2, H2⟩, ⟨%d3, H3⟩, ⟨%d4, H4⟩, ⟨%d5, H5⟩, ⟨%d6, H6⟩, ⟨%Y7, -, H7⟩⟩
    iapply ((kernelRun0_B c (grid0.coords t) _ _ _ _ _ _ _ _ _ _ _ _ _ _ (ms0_7 t) (hs0_7 t) hc0 hc1 hc2 (iblk0 V c 0 t) (iblk0 V c 1 t) (iblk0 V c 2 t) (iblk0 V c 3 t) (iblk0 V c 4 t) (iblk0 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact (View.read_writes_eq_canon _ _ _ (coverB6 c _ _ _ _ _ _ _ _ _ _ _ _ _ _ _ _ _ _ _ _ _ _ _ _ _ _)).trans (run0_B_act ..)
    iexists (lrm0 V c t); isplitr
    · ipureintro; exact fun _ => (after0_7 V c t).symm
    · unfold owns; iexists _; isplitr
      swap; · iexact H7
      ipureintro; exact (View.read_writes_eq_canon _ _ _ (coverB7 c _ _ _ _ _ _ _ _ _ _ _ _ _ _ _ _ _ _ _ _ _ _ _ _ _ _)).trans (run0_B_lrm ..)

/-- The body table's row at point `t`'s slots. -/
theorem defs₀_row0 (t : Fin cfg0.N) :
    defs₀ (F := F) .tc cfg0.body (cfg0.bodyArgs t (cfg0.slots t)) = bodyAt0 t := by
  unfold defs₀; rw [Defs.onTc_tc]

/-- The body's obligation at every point. -/
theorem body_obligation0 (c : Dev nD) :
    BodyObligationRel (dat0 (F := F) V c) (defs₀ (F := F)) Variants.none () Set.univ fgt0 (Rl0 V c) := fun t => by
  rw [bigSep_W0, bigSep_W0, defs₀_row0]
  exact triple_restated (sound_body0 V c t) rfl .rfl fun _ => .rfl

end Cert.KernelIdeal.Two

end
-- ==== Proof.IdealScanRun.lean ====
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.RegionArraysF
public import Idealize.ShloMosaic.Lib.Pipeline.DatRel
public import Idealize.ShloMosaic.Lib.Pipeline.ArrRel
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-! # The second region's body: what one grid point stores -/

/-- The point starts a pair of heads: its branch fills the carried buffers. -/
abbrev cond1_0 (i : grid1.Coords) : Prop := (Scalar.cmpi .ne (Scalar.extui (Scalar.cmpi .eq (BitVec.ofNat 32 (i 1).val) 0#32)) 0#32) = 1#1
/-- It does so exactly at the first of every four points. -/
theorem hcond1_0 : ∀ t : Fin cfg1.N, cond1_0 (grid1.coords t) ↔ t.val % 4 = 0 :=
  (by decide +kernel : ∀ t : Fin grid1.N, cond1_0 (grid1.coords t) ↔ t.val % 4 = 0)

set_option maxHeartbeats 2000000 in
/-- The body at the first chunk of a pair of heads: the pieces it stores in the output block and in the four carried
    buffers, whatever those held, with the proof that it runs from whole staging buffers holding the seven inputs to the
    same inputs and those pieces. -/
noncomputable def kernelRun1_A (c : Dev nD) (i : grid1.Coords) (arg2 : Memref sig .tc .vmem S3x2x1x2048x128 .bf16) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S2x1x2048x4 .f32) (harg5 : arg5.IsWhole) (arg6 : Memref sig .tc .vmem S2x128x256 .f32) (harg6 : arg6.IsWhole) (arg7 : Memref sig .tc .vmem S2x128x128 .f32) (harg7 : arg7.IsWhole) (arg8 : Memref sig .tc .vmem S1x128 .f32) (harg8 : arg8.IsWhole) (arg9 : Memref sig .tc .vmem S1x2048x256 .f32) (harg9 : arg9.IsWhole) (arg10 : Memref sig .tc .vmem S2x128x256 .f32) (harg10 : arg10.IsWhole) (arg11 : Memref sig .tc .vmem S2x128x128 .f32) (harg11 : arg11.IsWhole) (arg12 : Memref sig .tc .vmem S2x128x256 .f32) (harg12 : arg12.IsWhole) (arg13 : Memref sig .tc .vmem S2x128x128 .f32) (harg13 : arg13.IsWhole) (hc0 : cond1_0 i)
    (x0 : Vec F S3x2x1x2048x128 .bf16) (x1 : Vec F S1x1x2048x64 .f32) (x2 : Vec F S1x1x2048x64 .f32) (x3 : Vec F S2x1x2048x4 .f32) (x4 : Vec F S2x128x256 .f32) (x5 : Vec F S2x128x128 .f32) (x6 : Vec F S1x128 .f32) :
    Σ' (L7 : List (View.Piece (Elt F) S1x2048x256 .f32)), Σ' (LS0 : List (View.Piece (Elt F) S2x128x256 .f32)), Σ' (LS1 : List (View.Piece (Elt F) S2x128x128 .f32)), Σ' (LS2 : List (View.Piece (Elt F) S2x128x256 .f32)), { LS3 : List (View.Piece (Elt F) S2x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc1_lact_scan i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc1_lact_scan_eq_skeleton]; unfold cc1_lact_scan_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]; · iexists _; iexact HS0
    isplitl [HS1]; · iexists _; iexact HS1
    isplitl [HS2]; · iexists _; iexact HS2
    iexists _; iexact HS3

set_option maxHeartbeats 2000000 in
/-- The body at a later chunk: the pieces it stores in the output block and in the four carried buffers, which hold
    `s0 … s3`, with the proof that it runs. -/
noncomputable def kernelRun1_B (c : Dev nD) (i : grid1.Coords) (arg2 : Memref sig .tc .vmem S3x2x1x2048x128 .bf16) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S2x1x2048x4 .f32) (harg5 : arg5.IsWhole) (arg6 : Memref sig .tc .vmem S2x128x256 .f32) (harg6 : arg6.IsWhole) (arg7 : Memref sig .tc .vmem S2x128x128 .f32) (harg7 : arg7.IsWhole) (arg8 : Memref sig .tc .vmem S1x128 .f32) (harg8 : arg8.IsWhole) (arg9 : Memref sig .tc .vmem S1x2048x256 .f32) (harg9 : arg9.IsWhole) (arg10 : Memref sig .tc .vmem S2x128x256 .f32) (harg10 : arg10.IsWhole) (arg11 : Memref sig .tc .vmem S2x128x128 .f32) (harg11 : arg11.IsWhole) (arg12 : Memref sig .tc .vmem S2x128x256 .f32) (harg12 : arg12.IsWhole) (arg13 : Memref sig .tc .vmem S2x128x128 .f32) (harg13 : arg13.IsWhole) (hc0 : ¬cond1_0 i)
    (x0 : Vec F S3x2x1x2048x128 .bf16) (x1 : Vec F S1x1x2048x64 .f32) (x2 : Vec F S1x1x2048x64 .f32) (x3 : Vec F S2x1x2048x4 .f32) (x4 : Vec F S2x128x256 .f32) (x5 : Vec F S2x128x128 .f32) (x6 : Vec F S1x128 .f32) (s0 : Vec F S2x128x256 .f32) (s1 : Vec F S2x128x128 .f32) (s2 : Vec F S2x128x256 .f32) (s3 : Vec F S2x128x128 .f32) :
    Σ' (L7 : List (View.Piece (Elt F) S1x2048x256 .f32)), Σ' (LS0 : List (View.Piece (Elt F) S2x128x256 .f32)), Σ' (LS1 : List (View.Piece (Elt F) S2x128x128 .f32)), Σ' (LS2 : List (View.Piece (Elt F) S2x128x256 .f32)), { LS3 : List (View.Piece (Elt F) S2x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare s0 ∗ owns (c : Thread nD τ) arg11 fullShare s1 ∗ owns (c : Thread nD τ) arg12 fullShare s2 ∗ owns (c : Thread nD τ) arg13 fullShare s3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc1_lact_scan i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc1_lact_scan_eq_skeleton]; unfold cc1_lact_scan_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg10.eq_unread hfs0; obtain rfl := harg11.eq_unread hfs1; obtain rfl := harg12.eq_unread hfs2; obtain rfl := harg13.eq_unread hfs3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]; · iexists _; iexact HS0
    isplitl [HS1]; · iexists _; iexact HS1
    isplitl [HS2]; · iexists _; iexact HS2
    iexists _; iexact HS3

end Cert.KernelIdeal.Two

end
-- ==== Proof.IdealScanStep.lean ====
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Pipeline.ReadBack
public import Idealize.ShloMosaic.Lib.Pipeline.RegionsLoop
public import proofs.«01_k».proof.Proof.IdealScanRun

@[expose] public section

set_option maxRecDepth 16384

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-! # The second region's body: what one chunk leaves

One grid point takes one chunk of two heads. For each head it reads the head's slices of the chunk's query, key and value, of
the rates and of the four carried buffers, and stores the head's slice of the output and of the carried buffers. -/

/-- The output slice of the first head: query `q`, carried weights `w` and `v`. -/
def o0 (x1 x2 : Vec F S1x1x2048x64 .f32) (x6 : Vec F S1x128 .f32) (q : Vec F S1x1x1x2048x128 .bf16) (w : Vec F S1x128x256 .f32) (v : Vec F S1x128x128 .f32) :
    FVec F S1x2048x128 .f32 :=
  k1_pay31 (k1_pay13 (k1_pay6 x1) (k1_pay7 x2) k1_pay8 q w v) (k1_pay29 x6) (k1_pay30 (k1_pay13 (k1_pay6 x1) (k1_pay7 x2) k1_pay8 q w v))

/-- The first head's next momentum of the gate and up weights: key `k`, value `u`, rates `l`, carried weights and momentum. -/
def ma0 (x1 x2 : Vec F S1x1x2048x64 .f32) (k u : Vec F S1x1x1x2048x128 .bf16) (l : Vec F S1x1x2048x4 .f32) (w : Vec F S1x128x256 .f32) (v : Vec F S1x128x128 .f32)
    (m : Vec F S1x128x256 .f32) : FVec F S128x256 .f32 :=
  k1_pay23 (k1_pay9 (k1_pay6 x1) (k1_pay7 x2) k1_pay8 k) (k1_pay15 (k1_pay6 x1) (k1_pay7 x2) k1_pay8 k w)
    (k1_pay16 (k1_pay6 x1) (k1_pay7 x2) k1_pay8 k w) (k1_pay17 (k1_pay6 x1) (k1_pay7 x2) k1_pay8 k w)
    (k1_pay18 (k1_pay6 x1) (k1_pay7 x2) k1_pay8 k w) (k1_pay20 u v) l m

/-- The same as the slice stored. -/
def mas0 (x1 x2 : Vec F S1x1x2048x64 .f32) (k u : Vec F S1x1x1x2048x128 .bf16) (l : Vec F S1x1x2048x4 .f32) (w : Vec F S1x128x256 .f32) (v : Vec F S1x128x128 .f32)
    (m : Vec F S1x128x256 .f32) : FVec F S1x128x256 .f32 :=
  k1_pay25 (k1_pay9 (k1_pay6 x1) (k1_pay7 x2) k1_pay8 k) (k1_pay15 (k1_pay6 x1) (k1_pay7 x2) k1_pay8 k w)
    (k1_pay16 (k1_pay6 x1) (k1_pay7 x2) k1_pay8 k w) (k1_pay17 (k1_pay6 x1) (k1_pay7 x2) k1_pay8 k w)
    (k1_pay18 (k1_pay6 x1) (k1_pay7 x2) k1_pay8 k w) (k1_pay20 u v) l m

/-- The first head's next momentum of the down weights. -/
def mb0 (x1 x2 : Vec F S1x1x2048x64 .f32) (k u : Vec F S1x1x1x2048x128 .bf16) (l : Vec F S1x1x2048x4 .f32) (w : Vec F S1x128x256 .f32) (n : Vec F S1x128x128 .f32) :
    FVec F S128x128 .f32 :=
  k1_pay24 (k1_pay10 u) (k1_pay19 (k1_pay6 x1) (k1_pay7 x2) k1_pay8 k w) l n

/-- The output slice of the second head. -/
def o1 (x1 x2 : Vec F S1x1x2048x64 .f32) (x6 : Vec F S1x128 .f32) (q : Vec F S1x1x1x2048x128 .bf16) (w : Vec F S1x128x256 .f32) (v : Vec F S1x128x128 .f32) :
    FVec F S1x2048x128 .f32 :=
  k1_pay1 (k1_pay39 (k1_pay35 v) (k1_pay37 (k1_pay6 x1) (k1_pay7 x2) k1_pay8 q w) (k1_pay38 (k1_pay6 x1) (k1_pay7 x2) k1_pay8 q w))
    (k1_pay54 (k1_pay39 (k1_pay35 v) (k1_pay37 (k1_pay6 x1) (k1_pay7 x2) k1_pay8 q w) (k1_pay38 (k1_pay6 x1) (k1_pay7 x2) k1_pay8 q w))) x6

/-- The second head's next momentum of the gate and up weights. -/
def ma1 (x1 x2 : Vec F S1x1x2048x64 .f32) (k u : Vec F S1x1x1x2048x128 .bf16) (l : Vec F S1x1x2048x4 .f32) (w : Vec F S1x128x256 .f32) (v : Vec F S1x128x128 .f32)
    (m : Vec F S1x128x256 .f32) : FVec F S128x256 .f32 :=
  k1_pay48 (k1_pay32 (k1_pay6 x1) (k1_pay7 x2) k1_pay8 k) (k1_pay33 u) (k1_pay34 w) (k1_pay35 v) l m

/-- The second head's step of the down weights, before the momentum. -/
def mb1 (x1 x2 : Vec F S1x1x2048x64 .f32) (k u : Vec F S1x1x1x2048x128 .bf16) (l : Vec F S1x1x2048x4 .f32) (w : Vec F S1x128x256 .f32) : FVec F S128x128 .f32 :=
  k1_pay47 (k1_pay32 (k1_pay6 x1) (k1_pay7 x2) k1_pay8 k) (k1_pay33 u) (k1_pay34 w) l

/-- What the four scratch buffers carry from one chunk to the next: the weights and their momenta. -/
structure Carry (F : FTy → Type) where
  w02 : Vec F S2x128x256 .f32
  w1 : Vec F S2x128x128 .f32
  m02 : Vec F S2x128x256 .f32
  m1 : Vec F S2x128x128 .f32

/-- What they start a pair of heads with: the given weights, and no momentum. -/
def carry0 (x4 : Vec F S2x128x256 .f32) (x5 : Vec F S2x128x128 .f32) : Carry F := ⟨k1_pay2 x4, k1_pay3 x5, k1_pay4, k1_pay5⟩

/-- The two heads' slices of the output block, the second head's first. -/
def pc_out (x0 : Vec F S3x2x1x2048x128 .bf16) (x1 x2 : Vec F S1x1x2048x64 .f32) (x3 : Vec F S2x1x2048x4 .f32) (x6 : Vec F S1x128 .f32) (s : Carry F) : List (View.Piece (Elt F) S1x2048x256 .f32) :=
  [⟨(Rect.unit ![0, 0, 128] S1x2048x128.size inb_S1x2048x256_S1x2048x128_0_0_128), o1 x1 x2 x6 (View.ld x0 (Rect.unit ![0, 1, 0, 0, 0] S1x1x1x2048x128.size inb_S3x2x1x2048x128_S1x1x1x2048x128_0_1_0_0_0)) (View.ld s.w02 (Rect.unit ![1, 0, 0] S1x128x256.size inb_S2x128x256_S1x128x256_1_0_0)) (View.ld s.w1 (Rect.unit ![1, 0, 0] S1x128x128.size inb_S2x128x128_S1x128x128_1_0_0))⟩,
   ⟨(Rect.unit ![0, 0, 0] S1x2048x128.size inb_S1x2048x256_S1x2048x128_0_0_0), o0 x1 x2 x6 (View.ld x0 (Rect.unit ![0, 0, 0, 0, 0] S1x1x1x2048x128.size inb_S3x2x1x2048x128_S1x1x1x2048x128_0_0_0_0_0)) (View.ld s.w02 (Rect.unit ![0, 0, 0] S1x128x256.size inb_S2x128x256_S1x128x256_0_0_0)) (View.ld s.w1 (Rect.unit ![0, 0, 0] S1x128x128.size inb_S2x128x128_S1x128x128_0_0_0))⟩]

/-- They cover it. -/
theorem cover_out (x0 : Vec F S3x2x1x2048x128 .bf16) (x1 x2 : Vec F S1x1x2048x64 .f32) (x3 : Vec F S2x1x2048x4 .f32) (x6 : Vec F S1x128 .f32) (s : Carry F) (y : S1x2048x256.Idx) : ∃ p ∈ pc_out x0 x1 x2 x3 x6 s, y ∈ p.1.set :=
  View.cover_of_tiledL (pc_out x0 x1 x2 x3 x6 s) S1x2048x128.size (by sl_kernel_rfl) y

/-- The two heads' slices of the momentum of the gate and up weights, the second head's first. -/
def pc_m02 (x0 : Vec F S3x2x1x2048x128 .bf16) (x1 x2 : Vec F S1x1x2048x64 .f32) (x3 : Vec F S2x1x2048x4 .f32) (s : Carry F) : List (View.Piece (Elt F) S2x128x256 .f32) :=
  [⟨(Rect.unit ![1, 0, 0] S1x128x256.size inb_S2x128x256_S1x128x256_1_0_0), k1_pay50 (ma1 x1 x2 (View.ld x0 (Rect.unit ![1, 1, 0, 0, 0] S1x1x1x2048x128.size inb_S3x2x1x2048x128_S1x1x1x2048x128_1_1_0_0_0)) (View.ld x0 (Rect.unit ![2, 1, 0, 0, 0] S1x1x1x2048x128.size inb_S3x2x1x2048x128_S1x1x1x2048x128_2_1_0_0_0)) (View.ld x3 (Rect.unit ![1, 0, 0, 0] S1x1x2048x4.size inb_S2x1x2048x4_S1x1x2048x4_1_0_0_0)) (View.ld s.w02 (Rect.unit ![1, 0, 0] S1x128x256.size inb_S2x128x256_S1x128x256_1_0_0)) (View.ld s.w1 (Rect.unit ![1, 0, 0] S1x128x128.size inb_S2x128x128_S1x128x128_1_0_0)) (View.ld s.m02 (Rect.unit ![1, 0, 0] S1x128x256.size inb_S2x128x256_S1x128x256_1_0_0)))⟩,
   ⟨(Rect.unit ![0, 0, 0] S1x128x256.size inb_S2x128x256_S1x128x256_0_0_0), mas0 x1 x2 (View.ld x0 (Rect.unit ![1, 0, 0, 0, 0] S1x1x1x2048x128.size inb_S3x2x1x2048x128_S1x1x1x2048x128_1_0_0_0_0)) (View.ld x0 (Rect.unit ![2, 0, 0, 0, 0] S1x1x1x2048x128.size inb_S3x2x1x2048x128_S1x1x1x2048x128_2_0_0_0_0)) (View.ld x3 (Rect.unit ![0, 0, 0, 0] S1x1x2048x4.size inb_S2x1x2048x4_S1x1x2048x4_0_0_0_0)) (View.ld s.w02 (Rect.unit ![0, 0, 0] S1x128x256.size inb_S2x128x256_S1x128x256_0_0_0)) (View.ld s.w1 (Rect.unit ![0, 0, 0] S1x128x128.size inb_S2x128x128_S1x128x128_0_0_0)) (View.ld s.m02 (Rect.unit ![0, 0, 0] S1x128x256.size inb_S2x128x256_S1x128x256_0_0_0))⟩]

/-- They cover it. -/
theorem cover_m02 (x0 : Vec F S3x2x1x2048x128 .bf16) (x1 x2 : Vec F S1x1x2048x64 .f32) (x3 : Vec F S2x1x2048x4 .f32) (s : Carry F) (y : S2x128x256.Idx) : ∃ p ∈ pc_m02 x0 x1 x2 x3 s, y ∈ p.1.set :=
  View.cover_of_tiledL (pc_m02 x0 x1 x2 x3 s) S1x128x256.size (by sl_kernel_rfl) y

/-- The two heads' slices of the momentum of the down weights, the second head's first. -/
def pc_m1 (x0 : Vec F S3x2x1x2048x128 .bf16) (x1 x2 : Vec F S1x1x2048x64 .f32) (x3 : Vec F S2x1x2048x4 .f32) (s : Carry F) : List (View.Piece (Elt F) S2x128x128 .f32) :=
  [⟨(Rect.unit ![1, 0, 0] S1x128x128.size inb_S2x128x128_S1x128x128_1_0_0), k1_pay51 (k1_pay46 (View.ld x3 (Rect.unit ![1, 0, 0, 0] S1x1x2048x4.size inb_S2x1x2048x4_S1x1x2048x4_1_0_0_0))) (mb1 x1 x2 (View.ld x0 (Rect.unit ![1, 1, 0, 0, 0] S1x1x1x2048x128.size inb_S3x2x1x2048x128_S1x1x1x2048x128_1_1_0_0_0)) (View.ld x0 (Rect.unit ![2, 1, 0, 0, 0] S1x1x1x2048x128.size inb_S3x2x1x2048x128_S1x1x1x2048x128_2_1_0_0_0)) (View.ld x3 (Rect.unit ![1, 0, 0, 0] S1x1x2048x4.size inb_S2x1x2048x4_S1x1x2048x4_1_0_0_0)) (View.ld s.w02 (Rect.unit ![1, 0, 0] S1x128x256.size inb_S2x128x256_S1x128x256_1_0_0))) (View.ld s.m1 (Rect.unit ![1, 0, 0] S1x128x128.size inb_S2x128x128_S1x128x128_1_0_0))⟩,
   ⟨(Rect.unit ![0, 0, 0] S1x128x128.size inb_S2x128x128_S1x128x128_0_0_0), k1_pay26 (mb0 x1 x2 (View.ld x0 (Rect.unit ![1, 0, 0, 0, 0] S1x1x1x2048x128.size inb_S3x2x1x2048x128_S1x1x1x2048x128_1_0_0_0_0)) (View.ld x0 (Rect.unit ![2, 0, 0, 0, 0] S1x1x1x2048x128.size inb_S3x2x1x2048x128_S1x1x1x2048x128_2_0_0_0_0)) (View.ld x3 (Rect.unit ![0, 0, 0, 0] S1x1x2048x4.size inb_S2x1x2048x4_S1x1x2048x4_0_0_0_0)) (View.ld s.w02 (Rect.unit ![0, 0, 0] S1x128x256.size inb_S2x128x256_S1x128x256_0_0_0)) (View.ld s.m1 (Rect.unit ![0, 0, 0] S1x128x128.size inb_S2x128x128_S1x128x128_0_0_0)))⟩]

/-- They cover it. -/
theorem cover_m1 (x0 : Vec F S3x2x1x2048x128 .bf16) (x1 x2 : Vec F S1x1x2048x64 .f32) (x3 : Vec F S2x1x2048x4 .f32) (s : Carry F) (y : S2x128x128.Idx) : ∃ p ∈ pc_m1 x0 x1 x2 x3 s, y ∈ p.1.set :=
  View.cover_of_tiledL (pc_m1 x0 x1 x2 x3 s) S1x128x128.size (by sl_kernel_rfl) y

/-- The two heads' slices of the gate and up weights, the second head's first. -/
def pc_w02 (x0 : Vec F S3x2x1x2048x128 .bf16) (x1 x2 : Vec F S1x1x2048x64 .f32) (x3 : Vec F S2x1x2048x4 .f32) (s : Carry F) : List (View.Piece (Elt F) S2x128x256 .f32) :=
  [⟨(Rect.unit ![1, 0, 0] S1x128x256.size inb_S2x128x256_S1x128x256_1_0_0), k1_pay52 (k1_pay34 (View.ld s.w02 (Rect.unit ![1, 0, 0] S1x128x256.size inb_S2x128x256_S1x128x256_1_0_0))) (ma1 x1 x2 (View.ld x0 (Rect.unit ![1, 1, 0, 0, 0] S1x1x1x2048x128.size inb_S3x2x1x2048x128_S1x1x1x2048x128_1_1_0_0_0)) (View.ld x0 (Rect.unit ![2, 1, 0, 0, 0] S1x1x1x2048x128.size inb_S3x2x1x2048x128_S1x1x1x2048x128_2_1_0_0_0)) (View.ld x3 (Rect.unit ![1, 0, 0, 0] S1x1x2048x4.size inb_S2x1x2048x4_S1x1x2048x4_1_0_0_0)) (View.ld s.w02 (Rect.unit ![1, 0, 0] S1x128x256.size inb_S2x128x256_S1x128x256_1_0_0)) (View.ld s.w1 (Rect.unit ![1, 0, 0] S1x128x128.size inb_S2x128x128_S1x128x128_1_0_0)) (View.ld s.m02 (Rect.unit ![1, 0, 0] S1x128x256.size inb_S2x128x256_S1x128x256_1_0_0)))⟩,
   ⟨(Rect.unit ![0, 0, 0] S1x128x256.size inb_S2x128x256_S1x128x256_0_0_0), k1_pay27 (k1_pay11 (View.ld s.w02 (Rect.unit ![0, 0, 0] S1x128x256.size inb_S2x128x256_S1x128x256_0_0_0))) (ma0 x1 x2 (View.ld x0 (Rect.unit ![1, 0, 0, 0, 0] S1x1x1x2048x128.size inb_S3x2x1x2048x128_S1x1x1x2048x128_1_0_0_0_0)) (View.ld x0 (Rect.unit ![2, 0, 0, 0, 0] S1x1x1x2048x128.size inb_S3x2x1x2048x128_S1x1x1x2048x128_2_0_0_0_0)) (View.ld x3 (Rect.unit ![0, 0, 0, 0] S1x1x2048x4.size inb_S2x1x2048x4_S1x1x2048x4_0_0_0_0)) (View.ld s.w02 (Rect.unit ![0, 0, 0] S1x128x256.size inb_S2x128x256_S1x128x256_0_0_0)) (View.ld s.w1 (Rect.unit ![0, 0, 0] S1x128x128.size inb_S2x128x128_S1x128x128_0_0_0)) (View.ld s.m02 (Rect.unit ![0, 0, 0] S1x128x256.size inb_S2x128x256_S1x128x256_0_0_0)))⟩]

/-- They cover it. -/
theorem cover_w02 (x0 : Vec F S3x2x1x2048x128 .bf16) (x1 x2 : Vec F S1x1x2048x64 .f32) (x3 : Vec F S2x1x2048x4 .f32) (s : Carry F) (y : S2x128x256.Idx) : ∃ p ∈ pc_w02 x0 x1 x2 x3 s, y ∈ p.1.set :=
  View.cover_of_tiledL (pc_w02 x0 x1 x2 x3 s) S1x128x256.size (by sl_kernel_rfl) y

/-- The two heads' slices of the down weights, the second head's first. -/
def pc_w1 (x0 : Vec F S3x2x1x2048x128 .bf16) (x1 x2 : Vec F S1x1x2048x64 .f32) (x3 : Vec F S2x1x2048x4 .f32) (s : Carry F) : List (View.Piece (Elt F) S2x128x128 .f32) :=
  [⟨(Rect.unit ![1, 0, 0] S1x128x128.size inb_S2x128x128_S1x128x128_1_0_0), k1_pay53 (k1_pay35 (View.ld s.w1 (Rect.unit ![1, 0, 0] S1x128x128.size inb_S2x128x128_S1x128x128_1_0_0))) (k1_pay46 (View.ld x3 (Rect.unit ![1, 0, 0, 0] S1x1x2048x4.size inb_S2x1x2048x4_S1x1x2048x4_1_0_0_0))) (mb1 x1 x2 (View.ld x0 (Rect.unit ![1, 1, 0, 0, 0] S1x1x1x2048x128.size inb_S3x2x1x2048x128_S1x1x1x2048x128_1_1_0_0_0)) (View.ld x0 (Rect.unit ![2, 1, 0, 0, 0] S1x1x1x2048x128.size inb_S3x2x1x2048x128_S1x1x1x2048x128_2_1_0_0_0)) (View.ld x3 (Rect.unit ![1, 0, 0, 0] S1x1x2048x4.size inb_S2x1x2048x4_S1x1x2048x4_1_0_0_0)) (View.ld s.w02 (Rect.unit ![1, 0, 0] S1x128x256.size inb_S2x128x256_S1x128x256_1_0_0))) (View.ld s.m1 (Rect.unit ![1, 0, 0] S1x128x128.size inb_S2x128x128_S1x128x128_1_0_0))⟩,
   ⟨(Rect.unit ![0, 0, 0] S1x128x128.size inb_S2x128x128_S1x128x128_0_0_0), k1_pay28 (k1_pay12 (View.ld s.w1 (Rect.unit ![0, 0, 0] S1x128x128.size inb_S2x128x128_S1x128x128_0_0_0))) (mb0 x1 x2 (View.ld x0 (Rect.unit ![1, 0, 0, 0, 0] S1x1x1x2048x128.size inb_S3x2x1x2048x128_S1x1x1x2048x128_1_0_0_0_0)) (View.ld x0 (Rect.unit ![2, 0, 0, 0, 0] S1x1x1x2048x128.size inb_S3x2x1x2048x128_S1x1x1x2048x128_2_0_0_0_0)) (View.ld x3 (Rect.unit ![0, 0, 0, 0] S1x1x2048x4.size inb_S2x1x2048x4_S1x1x2048x4_0_0_0_0)) (View.ld s.w02 (Rect.unit ![0, 0, 0] S1x128x256.size inb_S2x128x256_S1x128x256_0_0_0)) (View.ld s.m1 (Rect.unit ![0, 0, 0] S1x128x128.size inb_S2x128x128_S1x128x128_0_0_0)))⟩]

/-- They cover it. -/
theorem cover_w1 (x0 : Vec F S3x2x1x2048x128 .bf16) (x1 x2 : Vec F S1x1x2048x64 .f32) (x3 : Vec F S2x1x2048x4 .f32) (s : Carry F) (y : S2x128x128.Idx) : ∃ p ∈ pc_w1 x0 x1 x2 x3 s, y ∈ p.1.set :=
  View.cover_of_tiledL (pc_w1 x0 x1 x2 x3 s) S1x128x128.size (by sl_kernel_rfl) y

/-- The output block of a chunk, the carried buffers at `s`. -/
def chunkOut (x0 : Vec F S3x2x1x2048x128 .bf16) (x1 x2 : Vec F S1x1x2048x64 .f32) (x3 : Vec F S2x1x2048x4 .f32) (x6 : Vec F S1x128 .f32) (s : Carry F) : Vec F S1x2048x256 .f32 := View.canon (pc_out x0 x1 x2 x3 x6 s)

/-- What the chunk leaves in the carried buffers. -/
def chunkNext (x0 : Vec F S3x2x1x2048x128 .bf16) (x1 x2 : Vec F S1x1x2048x64 .f32) (x3 : Vec F S2x1x2048x4 .f32) (s : Carry F) : Carry F :=
  ⟨View.canon (pc_w02 x0 x1 x2 x3 s), View.canon (pc_w1 x0 x1 x2 x3 s), View.canon (pc_m02 x0 x1 x2 x3 s), View.canon (pc_m1 x0 x1 x2 x3 s)⟩

/-- Stores covering a buffer decide what it holds, whatever was stored before. -/
theorem canon_append_of_cover {S : Shape} {e : EltTy} (L' : List (View.Piece (Elt F) S e)) (y : S.Idx) :
    ∀ L : List (View.Piece (Elt F) S e), (∃ p ∈ L, y ∈ p.1.set) → View.canon (L ++ L') y = View.canon L y
  | [], h => absurd h (by simp)
  | p :: L, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · rw [List.cons_append, View.canon_cons_of_not_mem p _ hy, View.canon_cons_of_not_mem p _ hy]
      refine canon_append_of_cover L' y L ?_
      obtain ⟨q, hq, hyq⟩ := h
      rcases List.mem_cons.mp hq with rfl | hq
      · exact absurd hyq hy
      · exact ⟨q, hq, hyq⟩

set_option maxHeartbeats 2000000 in
/-- The run at a later chunk stores the output block in those slices. -/
theorem run1_B_out (c : Dev nD) (i : grid1.Coords) (arg2 : Memref sig .tc .vmem S3x2x1x2048x128 .bf16) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S2x1x2048x4 .f32) (harg5 : arg5.IsWhole) (arg6 : Memref sig .tc .vmem S2x128x256 .f32) (harg6 : arg6.IsWhole) (arg7 : Memref sig .tc .vmem S2x128x128 .f32) (harg7 : arg7.IsWhole) (arg8 : Memref sig .tc .vmem S1x128 .f32) (harg8 : arg8.IsWhole) (arg9 : Memref sig .tc .vmem S1x2048x256 .f32) (harg9 : arg9.IsWhole) (arg10 : Memref sig .tc .vmem S2x128x256 .f32) (harg10 : arg10.IsWhole) (arg11 : Memref sig .tc .vmem S2x128x128 .f32) (harg11 : arg11.IsWhole) (arg12 : Memref sig .tc .vmem S2x128x256 .f32) (harg12 : arg12.IsWhole) (arg13 : Memref sig .tc .vmem S2x128x128 .f32) (harg13 : arg13.IsWhole) (hc0 : ¬cond1_0 i)
    (x0 : Vec F S3x2x1x2048x128 .bf16) (x1 : Vec F S1x1x2048x64 .f32) (x2 : Vec F S1x1x2048x64 .f32) (x3 : Vec F S2x1x2048x4 .f32) (x4 : Vec F S2x128x256 .f32) (x5 : Vec F S2x128x128 .f32) (x6 : Vec F S1x128 .f32) (s : Carry F) :
    (kernelRun1_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 s.w02 s.w1 s.m02 s.m1).1 = pc_out x0 x1 x2 x3 x6 s := by
  frame_open
  simp (disch := decide) only [View.readAt_eq_ld, harg2.read_unread, harg3.read_unread, harg4.read_unread, harg5.read_unread, harg6.read_unread, harg7.read_unread, harg8.read_unread, harg10.read_unread, harg11.read_unread, harg12.read_unread, harg13.read_unread, View.ld_unit_lit']
  rfl

set_option maxHeartbeats 2000000 in
/-- The run at a later chunk stores the momentum of the gate and up weights in those slices. -/
theorem run1_B_m02 (c : Dev nD) (i : grid1.Coords) (arg2 : Memref sig .tc .vmem S3x2x1x2048x128 .bf16) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S2x1x2048x4 .f32) (harg5 : arg5.IsWhole) (arg6 : Memref sig .tc .vmem S2x128x256 .f32) (harg6 : arg6.IsWhole) (arg7 : Memref sig .tc .vmem S2x128x128 .f32) (harg7 : arg7.IsWhole) (arg8 : Memref sig .tc .vmem S1x128 .f32) (harg8 : arg8.IsWhole) (arg9 : Memref sig .tc .vmem S1x2048x256 .f32) (harg9 : arg9.IsWhole) (arg10 : Memref sig .tc .vmem S2x128x256 .f32) (harg10 : arg10.IsWhole) (arg11 : Memref sig .tc .vmem S2x128x128 .f32) (harg11 : arg11.IsWhole) (arg12 : Memref sig .tc .vmem S2x128x256 .f32) (harg12 : arg12.IsWhole) (arg13 : Memref sig .tc .vmem S2x128x128 .f32) (harg13 : arg13.IsWhole) (hc0 : ¬cond1_0 i)
    (x0 : Vec F S3x2x1x2048x128 .bf16) (x1 : Vec F S1x1x2048x64 .f32) (x2 : Vec F S1x1x2048x64 .f32) (x3 : Vec F S2x1x2048x4 .f32) (x4 : Vec F S2x128x256 .f32) (x5 : Vec F S2x128x128 .f32) (x6 : Vec F S1x128 .f32) (s : Carry F) :
    (kernelRun1_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 s.w02 s.w1 s.m02 s.m1).2.2.2.1 = pc_m02 x0 x1 x2 x3 s := by
  frame_open
  simp (disch := decide) only [View.readAt_eq_ld, harg2.read_unread, harg3.read_unread, harg4.read_unread, harg5.read_unread, harg6.read_unread, harg7.read_unread, harg8.read_unread, harg10.read_unread, harg11.read_unread, harg12.read_unread, harg13.read_unread, View.ld_unit_lit']
  rfl

set_option maxHeartbeats 2000000 in
/-- The run at a later chunk stores the momentum of the down weights in those slices. -/
theorem run1_B_m1 (c : Dev nD) (i : grid1.Coords) (arg2 : Memref sig .tc .vmem S3x2x1x2048x128 .bf16) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S2x1x2048x4 .f32) (harg5 : arg5.IsWhole) (arg6 : Memref sig .tc .vmem S2x128x256 .f32) (harg6 : arg6.IsWhole) (arg7 : Memref sig .tc .vmem S2x128x128 .f32) (harg7 : arg7.IsWhole) (arg8 : Memref sig .tc .vmem S1x128 .f32) (harg8 : arg8.IsWhole) (arg9 : Memref sig .tc .vmem S1x2048x256 .f32) (harg9 : arg9.IsWhole) (arg10 : Memref sig .tc .vmem S2x128x256 .f32) (harg10 : arg10.IsWhole) (arg11 : Memref sig .tc .vmem S2x128x128 .f32) (harg11 : arg11.IsWhole) (arg12 : Memref sig .tc .vmem S2x128x256 .f32) (harg12 : arg12.IsWhole) (arg13 : Memref sig .tc .vmem S2x128x128 .f32) (harg13 : arg13.IsWhole) (hc0 : ¬cond1_0 i)
    (x0 : Vec F S3x2x1x2048x128 .bf16) (x1 : Vec F S1x1x2048x64 .f32) (x2 : Vec F S1x1x2048x64 .f32) (x3 : Vec F S2x1x2048x4 .f32) (x4 : Vec F S2x128x256 .f32) (x5 : Vec F S2x128x128 .f32) (x6 : Vec F S1x128 .f32) (s : Carry F) :
    (kernelRun1_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 s.w02 s.w1 s.m02 s.m1).2.2.2.2.1 = pc_m1 x0 x1 x2 x3 s := by
  frame_open
  simp (disch := decide) only [View.readAt_eq_ld, harg2.read_unread, harg3.read_unread, harg4.read_unread, harg5.read_unread, harg6.read_unread, harg7.read_unread, harg8.read_unread, harg10.read_unread, harg11.read_unread, harg12.read_unread, harg13.read_unread, View.ld_unit_lit']
  rfl

set_option maxHeartbeats 2000000 in
/-- The run at a later chunk stores the gate and up weights in those slices. -/
theorem run1_B_w02 (c : Dev nD) (i : grid1.Coords) (arg2 : Memref sig .tc .vmem S3x2x1x2048x128 .bf16) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S2x1x2048x4 .f32) (harg5 : arg5.IsWhole) (arg6 : Memref sig .tc .vmem S2x128x256 .f32) (harg6 : arg6.IsWhole) (arg7 : Memref sig .tc .vmem S2x128x128 .f32) (harg7 : arg7.IsWhole) (arg8 : Memref sig .tc .vmem S1x128 .f32) (harg8 : arg8.IsWhole) (arg9 : Memref sig .tc .vmem S1x2048x256 .f32) (harg9 : arg9.IsWhole) (arg10 : Memref sig .tc .vmem S2x128x256 .f32) (harg10 : arg10.IsWhole) (arg11 : Memref sig .tc .vmem S2x128x128 .f32) (harg11 : arg11.IsWhole) (arg12 : Memref sig .tc .vmem S2x128x256 .f32) (harg12 : arg12.IsWhole) (arg13 : Memref sig .tc .vmem S2x128x128 .f32) (harg13 : arg13.IsWhole) (hc0 : ¬cond1_0 i)
    (x0 : Vec F S3x2x1x2048x128 .bf16) (x1 : Vec F S1x1x2048x64 .f32) (x2 : Vec F S1x1x2048x64 .f32) (x3 : Vec F S2x1x2048x4 .f32) (x4 : Vec F S2x128x256 .f32) (x5 : Vec F S2x128x128 .f32) (x6 : Vec F S1x128 .f32) (s : Carry F) :
    (kernelRun1_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 s.w02 s.w1 s.m02 s.m1).2.1 = pc_w02 x0 x1 x2 x3 s := by
  frame_open
  simp (disch := decide) only [View.readAt_eq_ld, harg2.read_unread, harg3.read_unread, harg4.read_unread, harg5.read_unread, harg6.read_unread, harg7.read_unread, harg8.read_unread, harg10.read_unread, harg11.read_unread, harg12.read_unread, harg13.read_unread, View.ld_unit_lit']
  rfl

set_option maxHeartbeats 2000000 in
/-- The run at a later chunk stores the down weights in those slices. -/
theorem run1_B_w1 (c : Dev nD) (i : grid1.Coords) (arg2 : Memref sig .tc .vmem S3x2x1x2048x128 .bf16) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S2x1x2048x4 .f32) (harg5 : arg5.IsWhole) (arg6 : Memref sig .tc .vmem S2x128x256 .f32) (harg6 : arg6.IsWhole) (arg7 : Memref sig .tc .vmem S2x128x128 .f32) (harg7 : arg7.IsWhole) (arg8 : Memref sig .tc .vmem S1x128 .f32) (harg8 : arg8.IsWhole) (arg9 : Memref sig .tc .vmem S1x2048x256 .f32) (harg9 : arg9.IsWhole) (arg10 : Memref sig .tc .vmem S2x128x256 .f32) (harg10 : arg10.IsWhole) (arg11 : Memref sig .tc .vmem S2x128x128 .f32) (harg11 : arg11.IsWhole) (arg12 : Memref sig .tc .vmem S2x128x256 .f32) (harg12 : arg12.IsWhole) (arg13 : Memref sig .tc .vmem S2x128x128 .f32) (harg13 : arg13.IsWhole) (hc0 : ¬cond1_0 i)
    (x0 : Vec F S3x2x1x2048x128 .bf16) (x1 : Vec F S1x1x2048x64 .f32) (x2 : Vec F S1x1x2048x64 .f32) (x3 : Vec F S2x1x2048x4 .f32) (x4 : Vec F S2x128x256 .f32) (x5 : Vec F S2x128x128 .f32) (x6 : Vec F S1x128 .f32) (s : Carry F) :
    (kernelRun1_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 s.w02 s.w1 s.m02 s.m1).2.2.1 = pc_w1 x0 x1 x2 x3 s := by
  frame_open
  simp (disch := decide) only [View.readAt_eq_ld, harg2.read_unread, harg3.read_unread, harg4.read_unread, harg5.read_unread, harg6.read_unread, harg7.read_unread, harg8.read_unread, harg10.read_unread, harg11.read_unread, harg12.read_unread, harg13.read_unread, View.ld_unit_lit']
  rfl

set_option maxHeartbeats 2000000 in
/-- The run at the first chunk stores the output block in those slices, the carried buffers filled first. -/
theorem run1_A_out (c : Dev nD) (i : grid1.Coords) (arg2 : Memref sig .tc .vmem S3x2x1x2048x128 .bf16) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S2x1x2048x4 .f32) (harg5 : arg5.IsWhole) (arg6 : Memref sig .tc .vmem S2x128x256 .f32) (harg6 : arg6.IsWhole) (arg7 : Memref sig .tc .vmem S2x128x128 .f32) (harg7 : arg7.IsWhole) (arg8 : Memref sig .tc .vmem S1x128 .f32) (harg8 : arg8.IsWhole) (arg9 : Memref sig .tc .vmem S1x2048x256 .f32) (harg9 : arg9.IsWhole) (arg10 : Memref sig .tc .vmem S2x128x256 .f32) (harg10 : arg10.IsWhole) (arg11 : Memref sig .tc .vmem S2x128x128 .f32) (harg11 : arg11.IsWhole) (arg12 : Memref sig .tc .vmem S2x128x256 .f32) (harg12 : arg12.IsWhole) (arg13 : Memref sig .tc .vmem S2x128x128 .f32) (harg13 : arg13.IsWhole) (hc0 : cond1_0 i)
    (x0 : Vec F S3x2x1x2048x128 .bf16) (x1 : Vec F S1x1x2048x64 .f32) (x2 : Vec F S1x1x2048x64 .f32) (x3 : Vec F S2x1x2048x4 .f32) (x4 : Vec F S2x128x256 .f32) (x5 : Vec F S2x128x128 .f32) (x6 : Vec F S1x128 .f32) :
    (kernelRun1_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).1 = pc_out x0 x1 x2 x3 x6 (carry0 x4 x5) := by
  frame_open
  simp (disch := decide) only [↓View.readCov_skip, View.readCov_fill, View.readAt_eq_ld, harg2.read_unread, harg3.read_unread, harg4.read_unread, harg5.read_unread, harg6.read_unread, harg7.read_unread, harg8.read_unread, harg10.read_unread, harg11.read_unread, harg12.read_unread, harg13.read_unread, View.ld_unit_lit']
  rfl

set_option maxHeartbeats 2000000 in
/-- The run at the first chunk stores the momentum of the gate and up weights in those slices, the carried buffers filled first. -/
theorem run1_A_m02 (c : Dev nD) (i : grid1.Coords) (arg2 : Memref sig .tc .vmem S3x2x1x2048x128 .bf16) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S2x1x2048x4 .f32) (harg5 : arg5.IsWhole) (arg6 : Memref sig .tc .vmem S2x128x256 .f32) (harg6 : arg6.IsWhole) (arg7 : Memref sig .tc .vmem S2x128x128 .f32) (harg7 : arg7.IsWhole) (arg8 : Memref sig .tc .vmem S1x128 .f32) (harg8 : arg8.IsWhole) (arg9 : Memref sig .tc .vmem S1x2048x256 .f32) (harg9 : arg9.IsWhole) (arg10 : Memref sig .tc .vmem S2x128x256 .f32) (harg10 : arg10.IsWhole) (arg11 : Memref sig .tc .vmem S2x128x128 .f32) (harg11 : arg11.IsWhole) (arg12 : Memref sig .tc .vmem S2x128x256 .f32) (harg12 : arg12.IsWhole) (arg13 : Memref sig .tc .vmem S2x128x128 .f32) (harg13 : arg13.IsWhole) (hc0 : cond1_0 i)
    (x0 : Vec F S3x2x1x2048x128 .bf16) (x1 : Vec F S1x1x2048x64 .f32) (x2 : Vec F S1x1x2048x64 .f32) (x3 : Vec F S2x1x2048x4 .f32) (x4 : Vec F S2x128x256 .f32) (x5 : Vec F S2x128x128 .f32) (x6 : Vec F S1x128 .f32) :
    (kernelRun1_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.1 = pc_m02 x0 x1 x2 x3 (carry0 x4 x5) ++ [⟨Rect.unit ![0, 0, 0] S2x128x256.size inb_S2x128x256_S2x128x256_0_0_0, k1_pay4⟩] := by
  frame_open
  simp (disch := decide) only [↓View.readCov_skip, View.readCov_fill, View.readAt_eq_ld, harg2.read_unread, harg3.read_unread, harg4.read_unread, harg5.read_unread, harg6.read_unread, harg7.read_unread, harg8.read_unread, harg10.read_unread, harg11.read_unread, harg12.read_unread, harg13.read_unread, View.ld_unit_lit']
  rfl

set_option maxHeartbeats 2000000 in
/-- The run at the first chunk stores the momentum of the down weights in those slices, the carried buffers filled first. -/
theorem run1_A_m1 (c : Dev nD) (i : grid1.Coords) (arg2 : Memref sig .tc .vmem S3x2x1x2048x128 .bf16) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S2x1x2048x4 .f32) (harg5 : arg5.IsWhole) (arg6 : Memref sig .tc .vmem S2x128x256 .f32) (harg6 : arg6.IsWhole) (arg7 : Memref sig .tc .vmem S2x128x128 .f32) (harg7 : arg7.IsWhole) (arg8 : Memref sig .tc .vmem S1x128 .f32) (harg8 : arg8.IsWhole) (arg9 : Memref sig .tc .vmem S1x2048x256 .f32) (harg9 : arg9.IsWhole) (arg10 : Memref sig .tc .vmem S2x128x256 .f32) (harg10 : arg10.IsWhole) (arg11 : Memref sig .tc .vmem S2x128x128 .f32) (harg11 : arg11.IsWhole) (arg12 : Memref sig .tc .vmem S2x128x256 .f32) (harg12 : arg12.IsWhole) (arg13 : Memref sig .tc .vmem S2x128x128 .f32) (harg13 : arg13.IsWhole) (hc0 : cond1_0 i)
    (x0 : Vec F S3x2x1x2048x128 .bf16) (x1 : Vec F S1x1x2048x64 .f32) (x2 : Vec F S1x1x2048x64 .f32) (x3 : Vec F S2x1x2048x4 .f32) (x4 : Vec F S2x128x256 .f32) (x5 : Vec F S2x128x128 .f32) (x6 : Vec F S1x128 .f32) :
    (kernelRun1_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.2.1 = pc_m1 x0 x1 x2 x3 (carry0 x4 x5) ++ [⟨Rect.unit ![0, 0, 0] S2x128x128.size inb_S2x128x128_S2x128x128_0_0_0, k1_pay5⟩] := by
  frame_open
  simp (disch := decide) only [↓View.readCov_skip, View.readCov_fill, View.readAt_eq_ld, harg2.read_unread, harg3.read_unread, harg4.read_unread, harg5.read_unread, harg6.read_unread, harg7.read_unread, harg8.read_unread, harg10.read_unread, harg11.read_unread, harg12.read_unread, harg13.read_unread, View.ld_unit_lit']
  rfl

set_option maxHeartbeats 2000000 in
/-- The run at the first chunk stores the gate and up weights in those slices, the carried buffers filled first. -/
theorem run1_A_w02 (c : Dev nD) (i : grid1.Coords) (arg2 : Memref sig .tc .vmem S3x2x1x2048x128 .bf16) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S2x1x2048x4 .f32) (harg5 : arg5.IsWhole) (arg6 : Memref sig .tc .vmem S2x128x256 .f32) (harg6 : arg6.IsWhole) (arg7 : Memref sig .tc .vmem S2x128x128 .f32) (harg7 : arg7.IsWhole) (arg8 : Memref sig .tc .vmem S1x128 .f32) (harg8 : arg8.IsWhole) (arg9 : Memref sig .tc .vmem S1x2048x256 .f32) (harg9 : arg9.IsWhole) (arg10 : Memref sig .tc .vmem S2x128x256 .f32) (harg10 : arg10.IsWhole) (arg11 : Memref sig .tc .vmem S2x128x128 .f32) (harg11 : arg11.IsWhole) (arg12 : Memref sig .tc .vmem S2x128x256 .f32) (harg12 : arg12.IsWhole) (arg13 : Memref sig .tc .vmem S2x128x128 .f32) (harg13 : arg13.IsWhole) (hc0 : cond1_0 i)
    (x0 : Vec F S3x2x1x2048x128 .bf16) (x1 : Vec F S1x1x2048x64 .f32) (x2 : Vec F S1x1x2048x64 .f32) (x3 : Vec F S2x1x2048x4 .f32) (x4 : Vec F S2x128x256 .f32) (x5 : Vec F S2x128x128 .f32) (x6 : Vec F S1x128 .f32) :
    (kernelRun1_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.1 = pc_w02 x0 x1 x2 x3 (carry0 x4 x5) ++ [⟨Rect.unit ![0, 0, 0] S2x128x256.size inb_S2x128x256_S2x128x256_0_0_0, k1_pay2 x4⟩] := by
  frame_open
  simp (disch := decide) only [↓View.readCov_skip, View.readCov_fill, View.readAt_eq_ld, harg2.read_unread, harg3.read_unread, harg4.read_unread, harg5.read_unread, harg6.read_unread, harg7.read_unread, harg8.read_unread, harg10.read_unread, harg11.read_unread, harg12.read_unread, harg13.read_unread, View.ld_unit_lit']
  rfl

set_option maxHeartbeats 2000000 in
/-- The run at the first chunk stores the down weights in those slices, the carried buffers filled first. -/
theorem run1_A_w1 (c : Dev nD) (i : grid1.Coords) (arg2 : Memref sig .tc .vmem S3x2x1x2048x128 .bf16) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S2x1x2048x4 .f32) (harg5 : arg5.IsWhole) (arg6 : Memref sig .tc .vmem S2x128x256 .f32) (harg6 : arg6.IsWhole) (arg7 : Memref sig .tc .vmem S2x128x128 .f32) (harg7 : arg7.IsWhole) (arg8 : Memref sig .tc .vmem S1x128 .f32) (harg8 : arg8.IsWhole) (arg9 : Memref sig .tc .vmem S1x2048x256 .f32) (harg9 : arg9.IsWhole) (arg10 : Memref sig .tc .vmem S2x128x256 .f32) (harg10 : arg10.IsWhole) (arg11 : Memref sig .tc .vmem S2x128x128 .f32) (harg11 : arg11.IsWhole) (arg12 : Memref sig .tc .vmem S2x128x256 .f32) (harg12 : arg12.IsWhole) (arg13 : Memref sig .tc .vmem S2x128x128 .f32) (harg13 : arg13.IsWhole) (hc0 : cond1_0 i)
    (x0 : Vec F S3x2x1x2048x128 .bf16) (x1 : Vec F S1x1x2048x64 .f32) (x2 : Vec F S1x1x2048x64 .f32) (x3 : Vec F S2x1x2048x4 .f32) (x4 : Vec F S2x128x256 .f32) (x5 : Vec F S2x128x128 .f32) (x6 : Vec F S1x128 .f32) :
    (kernelRun1_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.1 = pc_w1 x0 x1 x2 x3 (carry0 x4 x5) ++ [⟨Rect.unit ![0, 0, 0] S2x128x128.size inb_S2x128x128_S2x128x128_0_0_0, k1_pay3 x5⟩] := by
  frame_open
  simp (disch := decide) only [↓View.readCov_skip, View.readCov_fill, View.readAt_eq_ld, harg2.read_unread, harg3.read_unread, harg4.read_unread, harg5.read_unread, harg6.read_unread, harg7.read_unread, harg8.read_unread, harg10.read_unread, harg11.read_unread, harg12.read_unread, harg13.read_unread, View.ld_unit_lit']
  rfl

end Cert.KernelIdeal.Two

end
-- ==== Proof.IdealScanBody.lean ====
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Pipeline.RegionsLoop
public import Idealize.ShloMosaic.Lib.Pipeline.RegionArraysF
public import Idealize.ShloMosaic.Lib.Pipeline.DatRel
public import Idealize.ShloMosaic.Lib.Pipeline.ArrRel
public import proofs.«01_k».proof.Proof.IdealScanStep

@[expose] public section

set_option maxRecDepth 16384

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-! # The second region's data and the obligation of its body -/

abbrev ms1_0 (t : Fin cfg1.N) : Memref sig .tc .vmem S3x2x1x2048x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x1x2048x4 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x128x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2x128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x2048x256 .f32 := win1_7.stage (cfg1.slots t 7)
abbrev hs1_7 (t : Fin cfg1.N) : (ms1_7 t).IsWhole := hstage1_7 ((cfg1.slots t 7).cast nbuf1_7)
/-- A carried buffer. -/
abbrev sc1_0 : Memref sig .tc .vmem S2x128x256 .f32 := Memref.whole cc1_scratch0
/-- A carried buffer. -/
abbrev sc1_1 : Memref sig .tc .vmem S2x128x128 .f32 := Memref.whole cc1_scratch1
/-- A carried buffer. -/
abbrev sc1_2 : Memref sig .tc .vmem S2x128x256 .f32 := Memref.whole cc1_scratch2
/-- A carried buffer. -/
abbrev sc1_3 : Memref sig .tc .vmem S2x128x128 .f32 := Memref.whole cc1_scratch3

-- the buffer contents the region finds
variable (V : (c : Dev nD) → (b : Ref sig .tc) → Buf (Elt F) ((c : Thread nD τ).loc b))

/-- The block of window `w` at point `t`, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the carried buffers hold after `n + 1` points: at the first of every four they are filled first. -/
def carried (c : Dev nD) : (n : ℕ) → n < cfg1.N → Carry F
  | 0, hn => chunkNext (iblk1 V c 0 ⟨0, hn⟩) (iblk1 V c 1 ⟨0, hn⟩) (iblk1 V c 2 ⟨0, hn⟩) (iblk1 V c 3 ⟨0, hn⟩)
      (carry0 (iblk1 V c 4 ⟨0, hn⟩) (iblk1 V c 5 ⟨0, hn⟩))
  | n + 1, hn => chunkNext (iblk1 V c 0 ⟨n + 1, hn⟩) (iblk1 V c 1 ⟨n + 1, hn⟩) (iblk1 V c 2 ⟨n + 1, hn⟩) (iblk1 V c 3 ⟨n + 1, hn⟩)
      (if (n + 1) % 4 = 0 then carry0 (iblk1 V c 4 ⟨n + 1, hn⟩) (iblk1 V c 5 ⟨n + 1, hn⟩) else carried c n (Nat.lt_of_succ_lt hn))

/-- What a point's chunk starts from. -/
def start1 (c : Dev nD) (t : Fin cfg1.N) : Carry F :=
  if t.val % 4 = 0 then carry0 (iblk1 V c 4 t) (iblk1 V c 5 t) else carried V c (t.val - 1) (Nat.lt_of_le_of_lt (Nat.sub_le ..) t.isLt)

/-- Every point takes its chunk's step from there. -/
theorem carried_eq (c : Dev nD) (t : Fin cfg1.N) :
    carried V c t.val t.isLt = chunkNext (iblk1 V c 0 t) (iblk1 V c 1 t) (iblk1 V c 2 t) (iblk1 V c 3 t) (start1 V c t) := by
  obtain ⟨n, hn⟩ := t
  cases n with
  | zero => rw [carried, start1, if_pos (Nat.zero_mod 4)]
  | succ n => rw [carried, start1]; rfl

theorem start1_A (c : Dev nD) (t : Fin cfg1.N) (h : t.val % 4 = 0) : start1 V c t = carry0 (iblk1 V c 4 t) (iblk1 V c 5 t) := if_pos h

theorem start1_B (c : Dev nD) (t : Fin cfg1.N) (h : ¬t.val % 4 = 0) :
    start1 V c t = carried V c (t.val - 1) (Nat.lt_of_le_of_lt (Nat.sub_le ..) t.isLt) := if_neg h

/-- The output block after point `t`. -/
def out1 (c : Dev nD) (t : Fin cfg1.N) : Vec F S1x2048x256 .f32 :=
  chunkOut (iblk1 V c 0 t) (iblk1 V c 1 t) (iblk1 V c 2 t) (iblk1 V c 3 t) (iblk1 V c 6 t) (start1 V c t)

/-- The carried buffers owned at `s`. -/
def ownsCarry (c : Dev nD) (s : Carry F) : sProp 𝕄 :=
  iprop(owns (c : Thread nD τ) sc1_0 fullShare s.w02 ∗ owns (c : Thread nD τ) sc1_1 fullShare s.w1
    ∗ owns (c : Thread nD τ) sc1_2 fullShare s.m02 ∗ owns (c : Thread nD τ) sc1_3 fullShare s.m1)

/-- The first region's staging buffers, idle here. -/
def idle1 (c : Dev nD) : sProp 𝕄 :=
  iprop((∃ f, (c : Thread nD τ).loc cc0_stg0_0 ↦{fullShare} f) ∗ (∃ f, (c : Thread nD τ).loc cc0_stg0_1 ↦{fullShare} f) ∗ (∃ f, (c : Thread nD τ).loc cc0_stg1_0 ↦{fullShare} f) ∗ (∃ f, (c : Thread nD τ).loc cc0_stg1_1 ↦{fullShare} f) ∗ (∃ f, (c : Thread nD τ).loc cc0_stg2_0 ↦{fullShare} f) ∗ (∃ f, (c : Thread nD τ).loc cc0_stg2_1 ↦{fullShare} f) ∗ (∃ f, (c : Thread nD τ).loc cc0_stg3_0 ↦{fullShare} f) ∗ (∃ f, (c : Thread nD τ).loc cc0_stg3_1 ↦{fullShare} f) ∗ (∃ f, (c : Thread nD τ).loc cc0_stg4_0 ↦{fullShare} f) ∗ (∃ f, (c : Thread nD τ).loc cc0_stg5_0 ↦{fullShare} f) ∗ (∃ f, (c : Thread nD τ).loc cc0_stg6_0 ↦{fullShare} f) ∗ (∃ f, (c : Thread nD τ).loc cc0_stg6_1 ↦{fullShare} f) ∗ (∃ f, (c : Thread nD τ).loc cc0_stg7_0 ↦{fullShare} f) ∗ (∃ f, (c : Thread nD τ).loc cc0_stg7_1 ↦{fullShare} f))

/-- The region's invariant: before the first point the carried buffers hold anything, after it what `carried` says. -/
def Phi1 (c : Dev nD) : (n : ℕ) → n ≤ cfg1.N → sProp 𝕄
  | 0, _ => Pipeline.ΦA spec1 c
  | n + 1, hn => iprop(idle1 c ∗ ownsCarry c (carried V c n hn) ∗ (∃ r, prngReg c r))

theorem Phi1_zero (c : Dev nD) (n : ℕ) (h : n ≤ cfg1.N) (hz : n = 0) : Phi1 V c n h = Pipeline.ΦA spec1 c := by
  subst hz; rfl

theorem Phi1_pos (c : Dev nD) (n : ℕ) (h : n ≤ cfg1.N) (hz : n ≠ 0) :
    Phi1 V c n h = iprop(idle1 c ∗ ownsCarry c (carried V c (n - 1) (by omega)) ∗ (∃ r, prngReg c r)) := by
  cases n with
  | zero => exact absurd rfl hz
  | succ n => rfl

/-- What the launch hands the region, the carried buffers apart, -/
theorem PhiA1_open (c : Dev nD) :
    (Pipeline.ΦA spec1 c : sProp 𝕄)
      ⊢ iprop(idle1 c ∗ iprop((∃ d, owns (c : Thread nD τ) sc1_0 fullShare d) ∗ (∃ d, owns (c : Thread nD τ) sc1_1 fullShare d) ∗ (∃ d, owns (c : Thread nD τ) sc1_2 fullShare d) ∗ (∃ d, owns (c : Thread nD τ) sc1_3 fullShare d)) ∗ (∃ r, prngReg c r)) := by
  unfold Pipeline.ΦA idle1; rw [scopedRest1_eq]; simp only [sc1_0, sc1_1, sc1_2, sc1_3, owns_whole]
  iintro ⟨⟨A1, A2, A3, A4, A5, A6, A7, A8, A9, A10, A11, A12, A13, A14, HS0, HS1, HS2, HS3⟩, Hg⟩
  isplitl [A1 A2 A3 A4 A5 A6 A7 A8 A9 A10 A11 A12 A13 A14]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    iexact A14
  isplitl [HS0 HS1 HS2 HS3]
  · isplitl [HS0]; · iexact HS0
    isplitl [HS1]; · iexact HS1
    isplitl [HS2]; · iexact HS2
    iexact HS3
  iexact Hg

/-- and put together again. -/
theorem PhiA1_close (c : Dev nD) :
    iprop(idle1 c ∗ iprop((∃ d, owns (c : Thread nD τ) sc1_0 fullShare d) ∗ (∃ d, owns (c : Thread nD τ) sc1_1 fullShare d) ∗ (∃ d, owns (c : Thread nD τ) sc1_2 fullShare d) ∗ (∃ d, owns (c : Thread nD τ) sc1_3 fullShare d)) ∗ (∃ r, prngReg c r))
      ⊢ (Pipeline.ΦA spec1 c : sProp 𝕄) := by
  unfold Pipeline.ΦA idle1; rw [scopedRest1_eq]; simp only [sc1_0, sc1_1, sc1_2, sc1_3, owns_whole]
  iintro ⟨⟨A1, A2, A3, A4, A5, A6, A7, A8, A9, A10, A11, A12, A13, A14⟩, ⟨HS0, HS1, HS2, HS3⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [HS0]; · iexact HS0
    isplitl [HS1]; · iexact HS1
    isplitl [HS2]; · iexact HS2
    iexact HS3
  iexact Hg

/-- The data of the second region: each input's buffer at its block, the output's at `out1`, the carried buffers by `Phi1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1 V c t := by dsimp only [dat1]
/-- Input 0's staging buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- Input 1's staging buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- Input 2's staging buffer holds its block at every point. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- Input 3's staging buffer holds its block at every point. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-- Input 4's staging buffer holds its block at every point. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
/-- Input 5's staging buffer holds its block at every point. -/
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
/-- Input 6's staging buffer holds its block at every point. -/
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

theorem Phi1_castSucc (c : Dev nD) (t : Fin cfg1.N) :
    (dat1 V c).Φ t.castSucc = Phi1 V c t.val (Nat.le_of_lt t.isLt) := by
  dsimp only [dat1]; exact Pipeline.Dat.Φ_castSucc (Phi1 V c) t

theorem chunkNext_m02 (x0 : Vec F S3x2x1x2048x128 .bf16) (x1 x2 : Vec F S1x1x2048x64 .f32) (x3 : Vec F S2x1x2048x4 .f32) (s : Carry F) : (chunkNext x0 x1 x2 x3 s).m02 = View.canon (pc_m02 x0 x1 x2 x3 s) := by
  unfold chunkNext; rfl

theorem chunkNext_m1 (x0 : Vec F S3x2x1x2048x128 .bf16) (x1 x2 : Vec F S1x1x2048x64 .f32) (x3 : Vec F S2x1x2048x4 .f32) (s : Carry F) : (chunkNext x0 x1 x2 x3 s).m1 = View.canon (pc_m1 x0 x1 x2 x3 s) := by
  unfold chunkNext; rfl

theorem chunkNext_w02 (x0 : Vec F S3x2x1x2048x128 .bf16) (x1 x2 : Vec F S1x1x2048x64 .f32) (x3 : Vec F S2x1x2048x4 .f32) (s : Carry F) : (chunkNext x0 x1 x2 x3 s).w02 = View.canon (pc_w02 x0 x1 x2 x3 s) := by
  unfold chunkNext; rfl

theorem chunkNext_w1 (x0 : Vec F S3x2x1x2048x128 .bf16) (x1 x2 : Vec F S1x1x2048x64 .f32) (x3 : Vec F S2x1x2048x4 .f32) (s : Carry F) : (chunkNext x0 x1 x2 x3 s).w1 = View.canon (pc_w1 x0 x1 x2 x3 s) := by
  unfold chunkNext; rfl

/-- What the run at the first chunk leaves in the output block. -/
theorem left_A_out (c : Dev nD) (i : grid1.Coords) (arg2 : Memref sig .tc .vmem S3x2x1x2048x128 .bf16) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S2x1x2048x4 .f32) (harg5 : arg5.IsWhole) (arg6 : Memref sig .tc .vmem S2x128x256 .f32) (harg6 : arg6.IsWhole) (arg7 : Memref sig .tc .vmem S2x128x128 .f32) (harg7 : arg7.IsWhole) (arg8 : Memref sig .tc .vmem S1x128 .f32) (harg8 : arg8.IsWhole) (arg9 : Memref sig .tc .vmem S1x2048x256 .f32) (harg9 : arg9.IsWhole) (arg10 : Memref sig .tc .vmem S2x128x256 .f32) (harg10 : arg10.IsWhole) (arg11 : Memref sig .tc .vmem S2x128x128 .f32) (harg11 : arg11.IsWhole) (arg12 : Memref sig .tc .vmem S2x128x256 .f32) (harg12 : arg12.IsWhole) (arg13 : Memref sig .tc .vmem S2x128x128 .f32) (harg13 : arg13.IsWhole) (hc0 : cond1_0 i)
    (x0 : Vec F S3x2x1x2048x128 .bf16) (x1 : Vec F S1x1x2048x64 .f32) (x2 : Vec F S1x1x2048x64 .f32) (x3 : Vec F S2x1x2048x4 .f32) (x4 : Vec F S2x128x256 .f32) (x5 : Vec F S2x128x128 .f32) (x6 : Vec F S1x128 .f32) {sp : Space} (v : View sig .tc sp S1x2048x256 .f32) (f) :
    v.read (Elt F) (v.writes (Elt F) f (kernelRun1_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).1) = chunkOut x0 x1 x2 x3 x6 (carry0 x4 x5) := by
  rw [run1_A_out]; exact View.read_writes_eq_canon _ _ _ (cover_out _ _ _ _ _ _)

/-- What the run at the first chunk leaves in the momentum of the gate and up weights. -/
theorem left_A_m02 (c : Dev nD) (i : grid1.Coords) (arg2 : Memref sig .tc .vmem S3x2x1x2048x128 .bf16) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S2x1x2048x4 .f32) (harg5 : arg5.IsWhole) (arg6 : Memref sig .tc .vmem S2x128x256 .f32) (harg6 : arg6.IsWhole) (arg7 : Memref sig .tc .vmem S2x128x128 .f32) (harg7 : arg7.IsWhole) (arg8 : Memref sig .tc .vmem S1x128 .f32) (harg8 : arg8.IsWhole) (arg9 : Memref sig .tc .vmem S1x2048x256 .f32) (harg9 : arg9.IsWhole) (arg10 : Memref sig .tc .vmem S2x128x256 .f32) (harg10 : arg10.IsWhole) (arg11 : Memref sig .tc .vmem S2x128x128 .f32) (harg11 : arg11.IsWhole) (arg12 : Memref sig .tc .vmem S2x128x256 .f32) (harg12 : arg12.IsWhole) (arg13 : Memref sig .tc .vmem S2x128x128 .f32) (harg13 : arg13.IsWhole) (hc0 : cond1_0 i)
    (x0 : Vec F S3x2x1x2048x128 .bf16) (x1 : Vec F S1x1x2048x64 .f32) (x2 : Vec F S1x1x2048x64 .f32) (x3 : Vec F S2x1x2048x4 .f32) (x4 : Vec F S2x128x256 .f32) (x5 : Vec F S2x128x128 .f32) (x6 : Vec F S1x128 .f32) {sp : Space} (v : View sig .tc sp S2x128x256 .f32) (f) :
    v.read (Elt F) (v.writes (Elt F) f (kernelRun1_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.1) = (chunkNext x0 x1 x2 x3 (carry0 x4 x5)).m02 := by
  refine Eq.trans ?_ (chunkNext_m02 x0 x1 x2 x3 (carry0 x4 x5)).symm
  rw [run1_A_m02, View.read_writes_eq_canon _ _ _ fun y => (cover_m02 x0 x1 x2 x3 (carry0 x4 x5) y).imp fun _ h => ⟨List.mem_append_left _ h.1, h.2⟩]
  exact funext fun y => canon_append_of_cover _ y _ (cover_m02 x0 x1 x2 x3 (carry0 x4 x5) y)

/-- What the run at the first chunk leaves in the momentum of the down weights. -/
theorem left_A_m1 (c : Dev nD) (i : grid1.Coords) (arg2 : Memref sig .tc .vmem S3x2x1x2048x128 .bf16) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S2x1x2048x4 .f32) (harg5 : arg5.IsWhole) (arg6 : Memref sig .tc .vmem S2x128x256 .f32) (harg6 : arg6.IsWhole) (arg7 : Memref sig .tc .vmem S2x128x128 .f32) (harg7 : arg7.IsWhole) (arg8 : Memref sig .tc .vmem S1x128 .f32) (harg8 : arg8.IsWhole) (arg9 : Memref sig .tc .vmem S1x2048x256 .f32) (harg9 : arg9.IsWhole) (arg10 : Memref sig .tc .vmem S2x128x256 .f32) (harg10 : arg10.IsWhole) (arg11 : Memref sig .tc .vmem S2x128x128 .f32) (harg11 : arg11.IsWhole) (arg12 : Memref sig .tc .vmem S2x128x256 .f32) (harg12 : arg12.IsWhole) (arg13 : Memref sig .tc .vmem S2x128x128 .f32) (harg13 : arg13.IsWhole) (hc0 : cond1_0 i)
    (x0 : Vec F S3x2x1x2048x128 .bf16) (x1 : Vec F S1x1x2048x64 .f32) (x2 : Vec F S1x1x2048x64 .f32) (x3 : Vec F S2x1x2048x4 .f32) (x4 : Vec F S2x128x256 .f32) (x5 : Vec F S2x128x128 .f32) (x6 : Vec F S1x128 .f32) {sp : Space} (v : View sig .tc sp S2x128x128 .f32) (f) :
    v.read (Elt F) (v.writes (Elt F) f (kernelRun1_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.2.1) = (chunkNext x0 x1 x2 x3 (carry0 x4 x5)).m1 := by
  refine Eq.trans ?_ (chunkNext_m1 x0 x1 x2 x3 (carry0 x4 x5)).symm
  rw [run1_A_m1, View.read_writes_eq_canon _ _ _ fun y => (cover_m1 x0 x1 x2 x3 (carry0 x4 x5) y).imp fun _ h => ⟨List.mem_append_left _ h.1, h.2⟩]
  exact funext fun y => canon_append_of_cover _ y _ (cover_m1 x0 x1 x2 x3 (carry0 x4 x5) y)

/-- What the run at the first chunk leaves in the gate and up weights. -/
theorem left_A_w02 (c : Dev nD) (i : grid1.Coords) (arg2 : Memref sig .tc .vmem S3x2x1x2048x128 .bf16) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S2x1x2048x4 .f32) (harg5 : arg5.IsWhole) (arg6 : Memref sig .tc .vmem S2x128x256 .f32) (harg6 : arg6.IsWhole) (arg7 : Memref sig .tc .vmem S2x128x128 .f32) (harg7 : arg7.IsWhole) (arg8 : Memref sig .tc .vmem S1x128 .f32) (harg8 : arg8.IsWhole) (arg9 : Memref sig .tc .vmem S1x2048x256 .f32) (harg9 : arg9.IsWhole) (arg10 : Memref sig .tc .vmem S2x128x256 .f32) (harg10 : arg10.IsWhole) (arg11 : Memref sig .tc .vmem S2x128x128 .f32) (harg11 : arg11.IsWhole) (arg12 : Memref sig .tc .vmem S2x128x256 .f32) (harg12 : arg12.IsWhole) (arg13 : Memref sig .tc .vmem S2x128x128 .f32) (harg13 : arg13.IsWhole) (hc0 : cond1_0 i)
    (x0 : Vec F S3x2x1x2048x128 .bf16) (x1 : Vec F S1x1x2048x64 .f32) (x2 : Vec F S1x1x2048x64 .f32) (x3 : Vec F S2x1x2048x4 .f32) (x4 : Vec F S2x128x256 .f32) (x5 : Vec F S2x128x128 .f32) (x6 : Vec F S1x128 .f32) {sp : Space} (v : View sig .tc sp S2x128x256 .f32) (f) :
    v.read (Elt F) (v.writes (Elt F) f (kernelRun1_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.1) = (chunkNext x0 x1 x2 x3 (carry0 x4 x5)).w02 := by
  refine Eq.trans ?_ (chunkNext_w02 x0 x1 x2 x3 (carry0 x4 x5)).symm
  rw [run1_A_w02, View.read_writes_eq_canon _ _ _ fun y => (cover_w02 x0 x1 x2 x3 (carry0 x4 x5) y).imp fun _ h => ⟨List.mem_append_left _ h.1, h.2⟩]
  exact funext fun y => canon_append_of_cover _ y _ (cover_w02 x0 x1 x2 x3 (carry0 x4 x5) y)

/-- What the run at the first chunk leaves in the down weights. -/
theorem left_A_w1 (c : Dev nD) (i : grid1.Coords) (arg2 : Memref sig .tc .vmem S3x2x1x2048x128 .bf16) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S2x1x2048x4 .f32) (harg5 : arg5.IsWhole) (arg6 : Memref sig .tc .vmem S2x128x256 .f32) (harg6 : arg6.IsWhole) (arg7 : Memref sig .tc .vmem S2x128x128 .f32) (harg7 : arg7.IsWhole) (arg8 : Memref sig .tc .vmem S1x128 .f32) (harg8 : arg8.IsWhole) (arg9 : Memref sig .tc .vmem S1x2048x256 .f32) (harg9 : arg9.IsWhole) (arg10 : Memref sig .tc .vmem S2x128x256 .f32) (harg10 : arg10.IsWhole) (arg11 : Memref sig .tc .vmem S2x128x128 .f32) (harg11 : arg11.IsWhole) (arg12 : Memref sig .tc .vmem S2x128x256 .f32) (harg12 : arg12.IsWhole) (arg13 : Memref sig .tc .vmem S2x128x128 .f32) (harg13 : arg13.IsWhole) (hc0 : cond1_0 i)
    (x0 : Vec F S3x2x1x2048x128 .bf16) (x1 : Vec F S1x1x2048x64 .f32) (x2 : Vec F S1x1x2048x64 .f32) (x3 : Vec F S2x1x2048x4 .f32) (x4 : Vec F S2x128x256 .f32) (x5 : Vec F S2x128x128 .f32) (x6 : Vec F S1x128 .f32) {sp : Space} (v : View sig .tc sp S2x128x128 .f32) (f) :
    v.read (Elt F) (v.writes (Elt F) f (kernelRun1_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.1) = (chunkNext x0 x1 x2 x3 (carry0 x4 x5)).w1 := by
  refine Eq.trans ?_ (chunkNext_w1 x0 x1 x2 x3 (carry0 x4 x5)).symm
  rw [run1_A_w1, View.read_writes_eq_canon _ _ _ fun y => (cover_w1 x0 x1 x2 x3 (carry0 x4 x5) y).imp fun _ h => ⟨List.mem_append_left _ h.1, h.2⟩]
  exact funext fun y => canon_append_of_cover _ y _ (cover_w1 x0 x1 x2 x3 (carry0 x4 x5) y)

/-- What the run at a later chunk leaves in the output block. -/
theorem left_B_out (c : Dev nD) (i : grid1.Coords) (arg2 : Memref sig .tc .vmem S3x2x1x2048x128 .bf16) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S2x1x2048x4 .f32) (harg5 : arg5.IsWhole) (arg6 : Memref sig .tc .vmem S2x128x256 .f32) (harg6 : arg6.IsWhole) (arg7 : Memref sig .tc .vmem S2x128x128 .f32) (harg7 : arg7.IsWhole) (arg8 : Memref sig .tc .vmem S1x128 .f32) (harg8 : arg8.IsWhole) (arg9 : Memref sig .tc .vmem S1x2048x256 .f32) (harg9 : arg9.IsWhole) (arg10 : Memref sig .tc .vmem S2x128x256 .f32) (harg10 : arg10.IsWhole) (arg11 : Memref sig .tc .vmem S2x128x128 .f32) (harg11 : arg11.IsWhole) (arg12 : Memref sig .tc .vmem S2x128x256 .f32) (harg12 : arg12.IsWhole) (arg13 : Memref sig .tc .vmem S2x128x128 .f32) (harg13 : arg13.IsWhole) (hc0 : ¬cond1_0 i)
    (x0 : Vec F S3x2x1x2048x128 .bf16) (x1 : Vec F S1x1x2048x64 .f32) (x2 : Vec F S1x1x2048x64 .f32) (x3 : Vec F S2x1x2048x4 .f32) (x4 : Vec F S2x128x256 .f32) (x5 : Vec F S2x128x128 .f32) (x6 : Vec F S1x128 .f32) (s : Carry F) {sp : Space} (v : View sig .tc sp S1x2048x256 .f32) (f) :
    v.read (Elt F) (v.writes (Elt F) f (kernelRun1_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 s.w02 s.w1 s.m02 s.m1).1) = chunkOut x0 x1 x2 x3 x6 s := by
  rw [run1_B_out]; exact View.read_writes_eq_canon _ _ _ (cover_out _ _ _ _ _ _)

/-- What the run at a later chunk leaves in the momentum of the gate and up weights. -/
theorem left_B_m02 (c : Dev nD) (i : grid1.Coords) (arg2 : Memref sig .tc .vmem S3x2x1x2048x128 .bf16) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S2x1x2048x4 .f32) (harg5 : arg5.IsWhole) (arg6 : Memref sig .tc .vmem S2x128x256 .f32) (harg6 : arg6.IsWhole) (arg7 : Memref sig .tc .vmem S2x128x128 .f32) (harg7 : arg7.IsWhole) (arg8 : Memref sig .tc .vmem S1x128 .f32) (harg8 : arg8.IsWhole) (arg9 : Memref sig .tc .vmem S1x2048x256 .f32) (harg9 : arg9.IsWhole) (arg10 : Memref sig .tc .vmem S2x128x256 .f32) (harg10 : arg10.IsWhole) (arg11 : Memref sig .tc .vmem S2x128x128 .f32) (harg11 : arg11.IsWhole) (arg12 : Memref sig .tc .vmem S2x128x256 .f32) (harg12 : arg12.IsWhole) (arg13 : Memref sig .tc .vmem S2x128x128 .f32) (harg13 : arg13.IsWhole) (hc0 : ¬cond1_0 i)
    (x0 : Vec F S3x2x1x2048x128 .bf16) (x1 : Vec F S1x1x2048x64 .f32) (x2 : Vec F S1x1x2048x64 .f32) (x3 : Vec F S2x1x2048x4 .f32) (x4 : Vec F S2x128x256 .f32) (x5 : Vec F S2x128x128 .f32) (x6 : Vec F S1x128 .f32) (s : Carry F) {sp : Space} (v : View sig .tc sp S2x128x256 .f32) (f) :
    v.read (Elt F) (v.writes (Elt F) f (kernelRun1_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 s.w02 s.w1 s.m02 s.m1).2.2.2.1) = (chunkNext x0 x1 x2 x3 s).m02 := by
  refine Eq.trans ?_ (chunkNext_m02 x0 x1 x2 x3 s).symm
  rw [run1_B_m02]; exact View.read_writes_eq_canon _ _ _ (cover_m02 _ _ _ _ _)

/-- What the run at a later chunk leaves in the momentum of the down weights. -/
theorem left_B_m1 (c : Dev nD) (i : grid1.Coords) (arg2 : Memref sig .tc .vmem S3x2x1x2048x128 .bf16) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S2x1x2048x4 .f32) (harg5 : arg5.IsWhole) (arg6 : Memref sig .tc .vmem S2x128x256 .f32) (harg6 : arg6.IsWhole) (arg7 : Memref sig .tc .vmem S2x128x128 .f32) (harg7 : arg7.IsWhole) (arg8 : Memref sig .tc .vmem S1x128 .f32) (harg8 : arg8.IsWhole) (arg9 : Memref sig .tc .vmem S1x2048x256 .f32) (harg9 : arg9.IsWhole) (arg10 : Memref sig .tc .vmem S2x128x256 .f32) (harg10 : arg10.IsWhole) (arg11 : Memref sig .tc .vmem S2x128x128 .f32) (harg11 : arg11.IsWhole) (arg12 : Memref sig .tc .vmem S2x128x256 .f32) (harg12 : arg12.IsWhole) (arg13 : Memref sig .tc .vmem S2x128x128 .f32) (harg13 : arg13.IsWhole) (hc0 : ¬cond1_0 i)
    (x0 : Vec F S3x2x1x2048x128 .bf16) (x1 : Vec F S1x1x2048x64 .f32) (x2 : Vec F S1x1x2048x64 .f32) (x3 : Vec F S2x1x2048x4 .f32) (x4 : Vec F S2x128x256 .f32) (x5 : Vec F S2x128x128 .f32) (x6 : Vec F S1x128 .f32) (s : Carry F) {sp : Space} (v : View sig .tc sp S2x128x128 .f32) (f) :
    v.read (Elt F) (v.writes (Elt F) f (kernelRun1_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 s.w02 s.w1 s.m02 s.m1).2.2.2.2.1) = (chunkNext x0 x1 x2 x3 s).m1 := by
  refine Eq.trans ?_ (chunkNext_m1 x0 x1 x2 x3 s).symm
  rw [run1_B_m1]; exact View.read_writes_eq_canon _ _ _ (cover_m1 _ _ _ _ _)

/-- What the run at a later chunk leaves in the gate and up weights. -/
theorem left_B_w02 (c : Dev nD) (i : grid1.Coords) (arg2 : Memref sig .tc .vmem S3x2x1x2048x128 .bf16) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S2x1x2048x4 .f32) (harg5 : arg5.IsWhole) (arg6 : Memref sig .tc .vmem S2x128x256 .f32) (harg6 : arg6.IsWhole) (arg7 : Memref sig .tc .vmem S2x128x128 .f32) (harg7 : arg7.IsWhole) (arg8 : Memref sig .tc .vmem S1x128 .f32) (harg8 : arg8.IsWhole) (arg9 : Memref sig .tc .vmem S1x2048x256 .f32) (harg9 : arg9.IsWhole) (arg10 : Memref sig .tc .vmem S2x128x256 .f32) (harg10 : arg10.IsWhole) (arg11 : Memref sig .tc .vmem S2x128x128 .f32) (harg11 : arg11.IsWhole) (arg12 : Memref sig .tc .vmem S2x128x256 .f32) (harg12 : arg12.IsWhole) (arg13 : Memref sig .tc .vmem S2x128x128 .f32) (harg13 : arg13.IsWhole) (hc0 : ¬cond1_0 i)
    (x0 : Vec F S3x2x1x2048x128 .bf16) (x1 : Vec F S1x1x2048x64 .f32) (x2 : Vec F S1x1x2048x64 .f32) (x3 : Vec F S2x1x2048x4 .f32) (x4 : Vec F S2x128x256 .f32) (x5 : Vec F S2x128x128 .f32) (x6 : Vec F S1x128 .f32) (s : Carry F) {sp : Space} (v : View sig .tc sp S2x128x256 .f32) (f) :
    v.read (Elt F) (v.writes (Elt F) f (kernelRun1_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 s.w02 s.w1 s.m02 s.m1).2.1) = (chunkNext x0 x1 x2 x3 s).w02 := by
  refine Eq.trans ?_ (chunkNext_w02 x0 x1 x2 x3 s).symm
  rw [run1_B_w02]; exact View.read_writes_eq_canon _ _ _ (cover_w02 _ _ _ _ _)

/-- What the run at a later chunk leaves in the down weights. -/
theorem left_B_w1 (c : Dev nD) (i : grid1.Coords) (arg2 : Memref sig .tc .vmem S3x2x1x2048x128 .bf16) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S2x1x2048x4 .f32) (harg5 : arg5.IsWhole) (arg6 : Memref sig .tc .vmem S2x128x256 .f32) (harg6 : arg6.IsWhole) (arg7 : Memref sig .tc .vmem S2x128x128 .f32) (harg7 : arg7.IsWhole) (arg8 : Memref sig .tc .vmem S1x128 .f32) (harg8 : arg8.IsWhole) (arg9 : Memref sig .tc .vmem S1x2048x256 .f32) (harg9 : arg9.IsWhole) (arg10 : Memref sig .tc .vmem S2x128x256 .f32) (harg10 : arg10.IsWhole) (arg11 : Memref sig .tc .vmem S2x128x128 .f32) (harg11 : arg11.IsWhole) (arg12 : Memref sig .tc .vmem S2x128x256 .f32) (harg12 : arg12.IsWhole) (arg13 : Memref sig .tc .vmem S2x128x128 .f32) (harg13 : arg13.IsWhole) (hc0 : ¬cond1_0 i)
    (x0 : Vec F S3x2x1x2048x128 .bf16) (x1 : Vec F S1x1x2048x64 .f32) (x2 : Vec F S1x1x2048x64 .f32) (x3 : Vec F S2x1x2048x4 .f32) (x4 : Vec F S2x128x256 .f32) (x5 : Vec F S2x128x128 .f32) (x6 : Vec F S1x128 .f32) (s : Carry F) {sp : Space} (v : View sig .tc sp S2x128x128 .f32) (f) :
    v.read (Elt F) (v.writes (Elt F) f (kernelRun1_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 s.w02 s.w1 s.m02 s.m1).2.2.1) = (chunkNext x0 x1 x2 x3 s).w1 := by
  refine Eq.trans ?_ (chunkNext_w1 x0 x1 x2 x3 s).symm
  rw [run1_B_w1]; exact View.read_writes_eq_canon _ _ _ (cover_w1 _ _ _ _ _)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 4000000 in
/-- The body at any point, by the two cases of the point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl,
    after1_0, after1_1, after1_2, after1_3, after1_4, after1_5, after1_6, after1_7]
  rw [show (dat1 V c).Φ t.succ = iprop(idle1 c ∗ ownsCarry c (carried V c t.val t.isLt) ∗ (∃ r, prngReg c r)) from rfl, carried_eq V c t]
  unfold out1 ownsCarry
  have hN : t.val < 64 := lt_of_lt_of_eq t.isLt (show cfg1.N = 64 from N_1)
  by_cases h0 : t.val % 4 = 0
  · have hc0 := (hcond1_0 t).mpr h0
    rw [start1_A V c t h0]
    by_cases hz : t.val = 0
    · rw [Phi1_castSucc V c t, Phi1_zero V c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ := (PhiA1_open c) $$ HΦ
      icases HΦ with ⟨Hi, ⟨HS0, HS1, HS2, HS3⟩, Hg⟩
      iapply ((kernelRun1_A c (grid1.coords t) _ _ _ _ _ _ _ _ _ _ _ _ _ _ _ _ _ _ _ _ _ _ _ _ hc0 (iblk1 V c 0 t) (iblk1 V c 1 t) (iblk1 V c 2 t) (iblk1 V c 3 t) (iblk1 V c 4 t) (iblk1 V c 5 t) (iblk1 V c 6 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, H6, ⟨%e7, H7⟩, ⟨%es0, HS0⟩, ⟨%es1, HS1⟩, ⟨%es2, HS2⟩, ⟨%es3, HS3⟩⟩
      isplitl [Hi HS0 HS1 HS2 HS3 Hg]
      · isplitl [Hi]; · iexact Hi
        isplitl [HS0 HS1 HS2 HS3]
        · isplitl [HS0]
          · unfold owns; iexists _; isplitr
            swap; · iexact HS0
            ipureintro; exact left_A_w02 c _ _ _ _ _ _ _ _ _ _ _ _ _ _ _ _ _ _ _ _ _ _ _ _ _ hc0 _ _ _ _ _ _ _ _ _
          isplitl [HS1]
          · unfold owns; iexists _; isplitr
            swap; · iexact HS1
            ipureintro; exact left_A_w1 c _ _ _ _ _ _ _ _ _ _ _ _ _ _ _ _ _ _ _ _ _ _ _ _ _ hc0 _ _ _ _ _ _ _ _ _
          isplitl [HS2]
          · unfold owns; iexists _; isplitr
            swap; · iexact HS2
            ipureintro; exact left_A_m02 c _ _ _ _ _ _ _ _ _ _ _ _ _ _ _ _ _ _ _ _ _ _ _ _ _ hc0 _ _ _ _ _ _ _ _ _
          unfold owns; iexists _; isplitr
          swap; · iexact HS3
          ipureintro; exact left_A_m1 c _ _ _ _ _ _ _ _ _ _ _ _ _ _ _ _ _ _ _ _ _ _ _ _ _ hc0 _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact left_A_out c _ _ _ _ _ _ _ _ _ _ _ _ _ _ _ _ _ _ _ _ _ _ _ _ _ hc0 _ _ _ _ _ _ _ _ _
    · rw [Phi1_castSucc V c t, Phi1_pos V c _ _ hz]
      unfold ownsCarry
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      skip
      icases HΦ with ⟨Hi, ⟨HS0, HS1, HS2, HS3⟩, Hg⟩
      iapply ((kernelRun1_A c (grid1.coords t) _ _ _ _ _ _ _ _ _ _ _ _ _ _ _ _ _ _ _ _ _ _ _ _ hc0 (iblk1 V c 0 t) (iblk1 V c 1 t) (iblk1 V c 2 t) (iblk1 V c 3 t) (iblk1 V c 4 t) (iblk1 V c 5 t) (iblk1 V c 6 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, ⟨%e7, H7⟩, ⟨%es0, HS0⟩, ⟨%es1, HS1⟩, ⟨%es2, HS2⟩, ⟨%es3, HS3⟩⟩
      isplitl [Hi HS0 HS1 HS2 HS3 Hg]
      · isplitl [Hi]; · iexact Hi
        isplitl [HS0 HS1 HS2 HS3]
        · isplitl [HS0]
          · unfold owns; iexists _; isplitr
            swap; · iexact HS0
            ipureintro; exact left_A_w02 c _ _ _ _ _ _ _ _ _ _ _ _ _ _ _ _ _ _ _ _ _ _ _ _ _ hc0 _ _ _ _ _ _ _ _ _
          isplitl [HS1]
          · unfold owns; iexists _; isplitr
            swap; · iexact HS1
            ipureintro; exact left_A_w1 c _ _ _ _ _ _ _ _ _ _ _ _ _ _ _ _ _ _ _ _ _ _ _ _ _ hc0 _ _ _ _ _ _ _ _ _
          isplitl [HS2]
          · unfold owns; iexists _; isplitr
            swap; · iexact HS2
            ipureintro; exact left_A_m02 c _ _ _ _ _ _ _ _ _ _ _ _ _ _ _ _ _ _ _ _ _ _ _ _ _ hc0 _ _ _ _ _ _ _ _ _
          unfold owns; iexists _; isplitr
          swap; · iexact HS3
          ipureintro; exact left_A_m1 c _ _ _ _ _ _ _ _ _ _ _ _ _ _ _ _ _ _ _ _ _ _ _ _ _ hc0 _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact left_A_out c _ _ _ _ _ _ _ _ _ _ _ _ _ _ _ _ _ _ _ _ _ _ _ _ _ hc0 _ _ _ _ _ _ _ _ _
  · have hc0 : ¬cond1_0 (grid1.coords t) := fun h => h0 ((hcond1_0 t).mp h)
    have hz : t.val ≠ 0 := fun h => h0 (by omega)
    rw [start1_B V c t h0, Phi1_castSucc V c t, Phi1_pos V c _ _ hz]
    unfold ownsCarry
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    skip
    icases HΦ with ⟨Hi, ⟨HS0, HS1, HS2, HS3⟩, Hg⟩
    iapply ((kernelRun1_B c (grid1.coords t) _ _ _ _ _ _ _ _ _ _ _ _ _ _ _ _ _ _ _ _ _ _ _ _ hc0 (iblk1 V c 0 t) (iblk1 V c 1 t) (iblk1 V c 2 t) (iblk1 V c 3 t) (iblk1 V c 4 t) (iblk1 V c 5 t) (iblk1 V c 6 t) (carried V c (t.val - 1) (by omega)).w02 (carried V c (t.val - 1) (by omega)).w1 (carried V c (t.val - 1) (by omega)).m02 (carried V c (t.val - 1) (by omega)).m1).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, ⟨%e7, H7⟩, ⟨%es0, HS0⟩, ⟨%es1, HS1⟩, ⟨%es2, HS2⟩, ⟨%es3, HS3⟩⟩
    isplitl [Hi HS0 HS1 HS2 HS3 Hg]
    · isplitl [Hi]; · iexact Hi
      isplitl [HS0 HS1 HS2 HS3]
      · isplitl [HS0]
        · unfold owns; iexists _; isplitr
          swap; · iexact HS0
          ipureintro; exact left_B_w02 c _ _ _ _ _ _ _ _ _ _ _ _ _ _ _ _ _ _ _ _ _ _ _ _ _ hc0 _ _ _ _ _ _ _ _ _ _
        isplitl [HS1]
        · unfold owns; iexists _; isplitr
          swap; · iexact HS1
          ipureintro; exact left_B_w1 c _ _ _ _ _ _ _ _ _ _ _ _ _ _ _ _ _ _ _ _ _ _ _ _ _ hc0 _ _ _ _ _ _ _ _ _ _
        isplitl [HS2]
        · unfold owns; iexists _; isplitr
          swap; · iexact HS2
          ipureintro; exact left_B_m02 c _ _ _ _ _ _ _ _ _ _ _ _ _ _ _ _ _ _ _ _ _ _ _ _ _ hc0 _ _ _ _ _ _ _ _ _ _
        unfold owns; iexists _; isplitr
        swap; · iexact HS3
        ipureintro; exact left_B_m1 c _ _ _ _ _ _ _ _ _ _ _ _ _ _ _ _ _ _ _ _ _ _ _ _ _ hc0 _ _ _ _ _ _ _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact left_B_out c _ _ _ _ _ _ _ _ _ _ _ _ _ _ _ _ _ _ _ _ _ _ _ _ _ hc0 _ _ _ _ _ _ _ _ _ _

/-- The body table's row at point `t`'s slots. -/
theorem defs₀_row1 (t : Fin cfg1.N) :
    defs₀ (F := F) .tc cfg1.body (cfg1.bodyArgs t (cfg1.slots t)) = bodyAt1 t := by
  unfold defs₀; rw [Defs.onTc_tc]

/-- The body's obligation at every point. -/
theorem body_obligation1 (c : Dev nD) :
    BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives it back, the contents forgotten. -/
theorem hout1 (c : Dev nD) : (dat1 V c).Φ (Fin.last cfg1.N) ⊢ Pipeline.ΦA spec1 c := by
  have hN : cfg1.N = 64 := N_1
  rw [show (dat1 V c).Φ (Fin.last cfg1.N) = Phi1 V c cfg1.N (Nat.le_refl _) from rfl, Phi1_pos V c _ _ (by omega)]
  refine .trans ?_ (PhiA1_close c)
  unfold ownsCarry
  iintro ⟨Hi, ⟨HS0, HS1, HS2, HS3⟩, Hg⟩
  isplitl [Hi]; · iexact Hi
  isplitl [HS0 HS1 HS2 HS3]
  · isplitl [HS0]; · iexists _; iexact HS0
    isplitl [HS1]; · iexists _; iexact HS1
    isplitl [HS2]; · iexists _; iexact HS2
    iexists _; iexact HS3
  iexact Hg

end Cert.KernelIdeal.Two

end
-- ==== Proof.IdealLaunch.lean ====
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Pipeline.RegionsLoop
public import Idealize.ShloMosaic.Lib.Pipeline.FrameSuffix
public import Idealize.ShloMosaic.Lib.Pipeline.RegionArraysF
public import Idealize.ShloMosaic.Lib.Pipeline.DatRel
public import Idealize.ShloMosaic.Lib.Pipeline.ArrRel
public import proofs.«01_k».proof.Proof.IdealQkvBody
public import proofs.«01_k».proof.Proof.IdealScanBody

@[expose] public section

set_option maxRecDepth 16384

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-! # The launch: two host stretches and two regions, from the start to the return

Every buffer's contents at each boundary are named; the first region's array of the rates, written back at every point, ends at
what its last third of points left, whatever the earlier points wrote. -/

/-! ## Arrays whose early write-backs are all written over -/

/-- Two data that name the same blocks from point `s` on leave the same in every element that some block from `s` on covers. -/
theorem arrAt_late {c : Dev nD} (d e : Dat τ (Elt F) Unit ℕ (UR sig nD τ) ℕ cfg0 c) (w : Fin cfg0.W) (s : ℕ)
    (h : ∀ t : Fin cfg0.N, s ≤ t.val → d.after w t = e.after w t) :
    ∀ (n : ℕ) (i : ((cfg0.win w).arr.view.loc (c : Thread nD τ)).2.ty.Idx) (t : Fin cfg0.N), s ≤ t.val → t.val < n →
      (cfg0.win w).flush t = true → i ∈ ((cfg0.win w).blk t).view.set → d.arrAt w n i = e.arrAt w n i
  | 0, _, _, _, ht, _, _ => absurd ht (Nat.not_lt_zero _)
  | n + 1, i, t, hs, ht, hf, hi => by
    rw [d.arrAt_succ_apply, e.arrAt_succ_apply]
    by_cases hn : n < cfg0.N
    swap
    · rw [dif_neg hn, dif_neg hn]
      exact arrAt_late d e w s h n i t hs (by have := t.isLt; omega) hf hi
    rw [dif_pos hn, dif_pos hn]
    by_cases hfn : (cfg0.win w).flush ⟨n, hn⟩ = true
    · rw [if_pos hfn, if_pos hfn]
      by_cases hin : i ∈ ((cfg0.win w).blk ⟨n, hn⟩).view.set
      · obtain ⟨x, rfl⟩ := View.exists_emb_of_mem_set _ hin
        rw [View.write_emb_of_mem _ _ (Finset.mem_univ x), View.write_emb_of_mem _ _ (Finset.mem_univ x)]
        have e1 : d.flushed w ⟨n, hn⟩ = e.flushed w ⟨n, hn⟩ := by
          unfold Dat.flushed
          by_cases hsn : s ≤ n
          · rw [h ⟨n, hn⟩ hsn]
          · exact absurd (lt_of_le_of_lt hs ht) (by omega)
        rw [e1]
      · rw [View.write_of_not_mem _ _ _ (by rwa [View.setOn_univ]), View.write_of_not_mem _ _ _ (by rwa [View.setOn_univ])]
        have htn : t.val ≠ n := fun e' => hin (by have : t = ⟨n, hn⟩ := Fin.ext e'; exact this ▸ hi)
        exact arrAt_late d e w s h n i t hs (by omega) hf hi
    · rw [if_neg hfn, if_neg hfn]
      have htn : t.val ≠ n := fun e' => hfn (by have : t = ⟨n, hn⟩ := Fin.ext e'; exact this ▸ hf)
      exact arrAt_late d e w s h n i t hs (by omega) hf hi

/-- The block of the rates' window is the point's rows, counted within its third. -/
theorem idx0_7 : ∀ t : Fin grid0.N, win0_7.index t = ![t.val % 32, 0] := by decide +kernel

/-- The last third's blocks cover the array of the rates. -/
theorem late_cover (i : S16384x64.Idx) :
    ∃ t : Fin cfg0.N, 64 ≤ t.val ∧ (cfg0.win 7).flush t = true ∧ i ∈ ((cfg0.win 7).blk t).view.set := by
  have h0 : (i 0).val < 16384 := (i 0).isLt
  have h1 : (i 1).val < 64 := (i 1).isLt
  have hN : cfg0.N = 96 := N_0
  obtain ⟨t, ht⟩ : ∃ t : Fin cfg0.N, t.val = 64 + (i 0).val / 512 := ⟨⟨64 + (i 0).val / 512, by omega⟩, rfl⟩
  refine ⟨t, by omega, flush0_7 t, ?_⟩
  mem_blk [idx0_7]
  omega

section
variable (V : (c : Dev nD) → (b : Ref sig .tc) → Buf (Elt F) ((c : Thread nD τ).loc b))

/-- Whatever the array of the rates may hold at the end is what the data name. -/
theorem arrAt7_unique (c : Dev nD) (G) (hG : ((dat0 V c).toRRel fgt0 (Rl0 V c)).ArrAt 7 cfg0.N G) :
    G = (dat0 V c).arrAt 7 cfg0.N := by
  obtain ⟨X, hX, hA⟩ := hG.exists_exact
  have e := hA (Function.update (fun _ _ _ => Classical.arbitrary _) 7 X) fun u _ _ => by rw [Function.update_self]
  rw [e]
  funext i
  obtain ⟨t, ht, hf, hi⟩ := late_cover i
  refine arrAt_late _ (dat0 V c) 7 64 (fun u hu => ?_) cfg0.N i t ht t.isLt hf hi
  rw [RDat.withAfter_after, Function.update_self]
  exact (dat0 V c).toRRel_leaves (fgt := fgt0) (Rl := Rl0 V c) (w := 7) rfl (hX u u.isLt (flush0_7 u)) hu

/-- So the first region's arrays end at what the data name. -/
theorem arrays0_exact (c : Dev nD) :
    (((dat0 V c).toRRel fgt0 (Rl0 V c)).arraysAt cfg0.N : sProp 𝕄) ⊢ (dat0 V c).arrays ((dat0 V c).arrAt · cfg0.N) := by
  unfold RDat.arraysAt Dat.arrays
  refine (BI.bigSep_exists_pi Finset.univ _).trans ?_
  iintro ⟨%A, H⟩
  ihave H' := (BI.bigSep_pure_sep Finset.univ (fun w => ((dat0 V c).toRRel fgt0 (Rl0 V c)).ArrAt w cfg0.N (A w)) _) $$ H
  icases H' with ⟨%hA, H⟩
  have e : A = fun w => (dat0 V c).arrAt w cfg0.N := funext fun w => by
    have hG := hA w (Finset.mem_univ w)
    by_cases hw : w = 7
    · subst hw; exact arrAt7_unique V c _ hG
    · exact (((dat0 V c).toR.override_arrAt (by simp only [show fgt0 w = false from decide_eq_false hw]) cfg0.N _).trans
        ((dat0 V c).toR_arrAt_iff w cfg0.N _)).mp hG
  subst e; iexact H
end

/-! ## The contents at each boundary -/

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14]
theorem hostOps0_args : ∀ a ∈ argRefs, a ∉ hostOps0_W := ListAll.forall_mem_of_all_decide (by decide +kernel)
theorem hostOps1_args : ∀ a ∈ argRefs, a ∉ hostOps1_W := ListAll.forall_mem_of_all_decide (by decide +kernel)
theorem argsIn0 : ∀ a ∈ argRefs, ∀ w : Fin cfg0.W, Pipeline.arrRef spec0 w = a → (cfg0.win w).isOut = false :=
  ListAll.forall_mem_of_all_decide (by decide +kernel)
theorem argsIn1 : ∀ a ∈ argRefs, ∀ w : Fin cfg1.W, Pipeline.arrRef spec1 w = a → (cfg1.win w).isOut = false :=
  ListAll.forall_mem_of_all_decide (by decide +kernel)

/-- At the launch. -/
abbrev B0 : Dev nD → Valuation τ sig (Elt F) := fun c b => m (c, b)
/-- After the first host stretch. -/
abbrev B1 : Dev nD → Valuation τ sig (Elt F) := fun c => StableHlo.after hostOps0 (B0 m c)
/-- The same, read at the core's references. -/
abbrev E1 : (c : Dev nD) → (b : Ref sig .tc) → Buf (Elt F) ((c : Thread nD τ).loc b) := fun c b => B1 m c b
/-- After the first region: its arrays at what its data leave there, all else unchanged. -/
def B2 (c : Dev nD) : Valuation τ sig (Elt F) := Pipeline.withArrays spec0 c (B1 m c) fun w => (dat0 (E1 m) c).arrAt w cfg0.N
abbrev E2 : (c : Dev nD) → (b : Ref sig .tc) → Buf (Elt F) ((c : Thread nD τ).loc b) := fun c b => B2 m c b
/-- After the second host stretch. -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- After the second region. -/
def B4 (c : Dev nD) : Valuation τ sig (Elt F) := Pipeline.withArrays spec1 c (B3 m c) fun w => (dat1 (E3 m) c).arrAt w cfg1.N
abbrev E4 : (c : Dev nD) → (b : Ref sig .tc) → Buf (Elt F) ((c : Thread nD τ).loc b) := fun c b => B4 m c b

theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- What is no output array of the region keeps its contents. -/
theorem B2_of (c : Dev nD) (r : Ref sig .tc) (h : ∀ w : Fin cfg0.W, Pipeline.arrRef spec0 w = r → (cfg0.win w).isOut = false) :
    B2 m c (Proc.devRef .tc r) = B1 m c (Proc.devRef .tc r) := by
  by_cases hw : ∃ w : Fin cfg0.W, Pipeline.arrRef spec0 w = r
  · obtain ⟨w, rfl⟩ := hw
    exact (B2_arr m c w).trans (((dat0 (E1 m) c).arrAt_in w (h w rfl) _).trans (A_eq0 (E1 m) c w))
  · exact B2_of_ne m c r fun w e => hw ⟨w, e⟩
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
/-- What is no output array of the region keeps its contents. -/
theorem B4_of (c : Dev nD) (r : Ref sig .tc) (h : ∀ w : Fin cfg1.W, Pipeline.arrRef spec1 w = r → (cfg1.win w).isOut = false) :
    B4 m c (Proc.devRef .tc r) = B3 m c (Proc.devRef .tc r) := by
  by_cases hw : ∃ w : Fin cfg1.W, Pipeline.arrRef spec1 w = r
  · obtain ⟨w, rfl⟩ := hw
    exact (B4_arr m c w).trans (((dat1 (E3 m) c).arrAt_in w (h w rfl) _).trans (A_eq1 (E3 m) c w))
  · exact B4_of_ne m c r fun w e => hw ⟨w, e⟩
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

theorem B1_of (c : Dev nD) (r : Ref sig .tc) (h : r ∉ hostOps0_W) : B1 m c (Proc.devRef .tc r) = B0 m c (Proc.devRef .tc r) :=
  StableHlo.after_of_writes_sub hostOps0 _ hostOps0_writes h
theorem B3_of (c : Dev nD) (r : Ref sig .tc) (h : r ∉ hostOps1_W) : B3 m c (Proc.devRef .tc r) = B2 m c (Proc.devRef .tc r) :=
  StableHlo.after_of_writes_sub hostOps1 _ hostOps1_writes h
/-- The arguments are as launched at the second boundary, -/
theorem B1_args (c : Dev nD) (a) (ha : a ∈ argRefs) : B1 m c (Proc.devRef .tc a) = m ((c : Thread nD τ).loc a) :=
  B1_of m c a (hostOps0_args a ha)
/-- at the third, -/
theorem B2_args (c : Dev nD) (a) (ha : a ∈ argRefs) : B2 m c (Proc.devRef .tc a) = m ((c : Thread nD τ).loc a) :=
  (B2_of m c a (argsIn0 a ha)).trans (B1_args m c a ha)
/-- and at the end. -/
theorem B4_args (c : Dev nD) (a) (ha : a ∈ argRefs) : B4 m c (Proc.devRef .tc a) = m ((c : Thread nD τ).loc a) :=
  (B4_of m c a (argsIn1 a ha)).trans ((B3_of m c a (hostOps1_args a ha)).trans (B2_args m c a ha))

/-! ## The regions over the thread state -/

/-- Both regions' data, at what each finds, -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
/-- read as relations: the first region's rates by theirs, all else exactly. -/
def rdats : (p : Fin 2) → (c : Dev nD) → RDat τ (Elt F) Unit ℕ (UR sig nD τ) ℕ (Pipeline.pin (pcfgs (F := F)) adm p) c
  | ⟨0, _⟩ => fun c => (dat0 (E1 m) c).toRRel fgt0 (Rl0 (E1 m) c)
  | ⟨1, _⟩ => fun c => (dat1 (E3 m) c).toR
abbrev 𝒱₀ : Variants := Variants.none
abbrev L : GSem nD τ sig → Finset Unit := fun _ => ∅
abbrev lv : GSem nD τ sig → Unit → ℕ := fun _ _ => 0
/-- What rides along: the generator register, and nothing owed. -/
abbrev ride (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state. -/
abbrev Tₙ (c : Dev nD) : sProp 𝕄 := iprop(StableHlo.held (c : Thread nD τ) (Pipeline.ucRefs τ sig) (B4 m c) ∗ ∃ r, prngReg c r)

set_option backward.isDefEq.respectTransparency.types false in
/-- The first region, entered from every buffer at `B1` and left at `B2`. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).toRRel
  hwaits := Pipeline.RDat.hwaits_of_owed_zero _ _ _ _ L lv 0 fun _ _ => rfl
  pre c := iprop(StableHlo.held (c : Thread nD τ) (Pipeline.ucRefs τ sig) (B1 m c) ∗ ride c)
  post c := iprop(StableHlo.held (c : Thread nD τ) (Pipeline.ucRefs τ sig) (B2 m c) ∗ ride c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.RDat.arrays_of_unscopedBufs (p := 0) (pcfgs (F := F)) adm (rdats m) launch0.win launch0.arr_whole c
      ((pdats m 0 c).share_full fun _ => rfl) (E1 m c) (A_eq0 (E1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = (dat0 (E1 m) c).Φ 0 from rfl]
    rw [show (dat0 (E1 m) c).Φ 0 = Pipeline.ΦA spec0 c from rfl]
    unfold Pipeline.ΦA
    iintro ⟨Hp, -, Hr⟩
    isplitl [Hr]; · iexact Hr
    iexact Hp
  hout c := by
    rw [Pipeline.ownSems0_none, show (rdats m 0 c).Φ (Fin.last _) = (dat0 (E1 m) c).Φ (Fin.last cfg0.N) from rfl]
    rw [show (dat0 (E1 m) c).Φ (Fin.last cfg0.N) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    show iprop(((dat0 (E1 m) c).toRRel fgt0 (Rl0 (E1 m) c)).arraysAt cfg0.N ∗ (pdats m 0 c).owesAt () (Fin.last cfg0.N) ∗ _ ∗ _) ⊢ _
    iintro ⟨Ha, HO, HY, Hrest⟩
    ihave Ha := (arrays0_exact (E1 m) c) $$ Ha
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second region, entered from every buffer at `B3` and left at `B4`. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := ((body_obligation1 (E3 m) c).loose).toR
  hwaits := Pipeline.RDat.hwaits_of_owed_zero _ _ _ _ L lv 1 fun _ _ => rfl
  pre c := iprop(StableHlo.held (c : Thread nD τ) (Pipeline.ucRefs τ sig) (B3 m c) ∗ ride c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.RDat.arrays_of_unscopedBufs (p := 1) (pcfgs (F := F)) adm (rdats m) launch1.win launch1.arr_whole c
      ((pdats m 1 c).share_full fun _ => rfl) (E3 m c) (A_eq1 (E3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = (dat1 (E3 m) c).Φ 0 from rfl]
    skip
    refine .trans ?_ (hin1 (E3 m) c)
    unfold Pipeline.ΦA
    iintro ⟨Hp, -, Hr⟩
    isplitl [Hr]; · iexact Hr
    iexact Hp
  hout c := by
    rw [Pipeline.ownSems0_none, show (rdats m 1 c).Φ (Fin.last _) = (dat1 (E3 m) c).Φ (Fin.last cfg1.N) from rfl]
    skip
    refine (hout1 (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    show iprop(((dat1 (E3 m) c).toR).arraysAt cfg1.N ∗ (pdats m 1 c).owesAt () (Fin.last cfg1.N) ∗ _ ∗ _) ⊢ _
    iintro ⟨Ha, HO, HY, Hrest⟩
    ihave Ha := (Entails.of_eq ((dat1 (E3 m) c).toR_arraysAt_eq cfg1.N)) $$ Ha
    imodintro
    isplitl [Ha Hrest HY]
    · isplitl [Ha Hrest]
      · iapply hjoin; isplitl [Ha]; · iexact Ha
        iexact Hrest
      iexact HY
    unfold Pipeline.Dat.owesAt Pipeline.owesWithin
    icases HO with ⟨%W, -, HO⟩; iexists W; iexact HO

/-! ## The run -/

/-- The program's four segments. -/
abbrev segs : List (Pipeline.RDat.Seg (pcfgs (F := F)) adm (rdats m) () defs₀ 𝒱₀ L lv) :=
  [ .host (hseg hostOps0 hostOps0_sub hostOps0_fresh (B0 m)),
    .region (reg0 m),
    .host (hseg hostOps1 hostOps1_sub hostOps1_fresh (B2 m)),
    .region (reg1 m) ]
theorem main_run (c : Dev nD) : main (F := F) c = Pipeline.RDat.Seg.run (segs m) := (main_chain c).trans (by chain_rfl)

set_option backward.isDefEq.respectTransparency.types false in
/-- Every execution ends with every unscoped buffer at its last boundary's contents and every counter at zero. -/
theorem run_all : θ_run defs (onTc (τ := τ) (main (F := F))) ⟨m, fun _ => 0, ρ⟩ (fun r =>
      (∀ c : Dev nD, ∀ b ∈ Pipeline.ucRefs τ sig, r.2.mem ((c : Thread nD τ).1, b) = B4 m c b) ∧ r.2.sem = fun _ => 0) :=
  Pipeline.RDat.θ_run_regions_kit_sems (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ ride c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h hz => ⟨h, funext fun g => hz g (.inr (regions_no_unscoped g.2))⟩)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c =>
    ⟨(h.1 c _ (mem_uc main_arg0 (by decide))).trans (B4_args m c main_arg0 (by decide)),
     (h.1 c _ (mem_uc main_arg1 (by decide))).trans (B4_args m c main_arg1 (by decide)),
     (h.1 c _ (mem_uc main_arg2 (by decide))).trans (B4_args m c main_arg2 (by decide)),
     (h.1 c _ (mem_uc main_arg3 (by decide))).trans (B4_args m c main_arg3 (by decide)),
     (h.1 c _ (mem_uc main_arg4 (by decide))).trans (B4_args m c main_arg4 (by decide)),
     (h.1 c _ (mem_uc main_arg5 (by decide))).trans (B4_args m c main_arg5 (by decide)),
     (h.1 c _ (mem_uc main_arg6 (by decide))).trans (B4_args m c main_arg6 (by decide)),
     (h.1 c _ (mem_uc main_arg7 (by decide))).trans (B4_args m c main_arg7 (by decide)),
     (h.1 c _ (mem_uc main_arg8 (by decide))).trans (B4_args m c main_arg8 (by decide)),
     (h.1 c _ (mem_uc main_arg9 (by decide))).trans (B4_args m c main_arg9 (by decide)),
     (h.1 c _ (mem_uc main_arg10 (by decide))).trans (B4_args m c main_arg10 (by decide)),
     (h.1 c _ (mem_uc main_arg11 (by decide))).trans (B4_args m c main_arg11 (by decide)),
     (h.1 c _ (mem_uc main_arg12 (by decide))).trans (B4_args m c main_arg12 (by decide)),
     (h.1 c _ (mem_uc main_arg13 (by decide))).trans (B4_args m c main_arg13 (by decide)),
     (h.1 c _ (mem_uc main_arg14 (by decide))).trans (B4_args m c main_arg14 (by decide))⟩, h.2⟩) (run_all m ρ)

end Cert.KernelIdeal.Two

end
-- ==== Proof.RefFrame.lean ====
/- The reference's run with its counters: every argument ends as launched and every semaphore counter at zero. -/
module

public import proofs.«01_k».proof.Proof.Gen.ReferenceIdeal.Run

@[expose] public section

set_option maxRecDepth 3660

noncomputable section

namespace Cert.ReferenceIdeal.Rest

open Cert.ReferenceIdeal Cert.ReferenceIdeal.Gen Cert.ReferenceIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg Ticket)

variable {F : FTy → Type} [FloatOps F]

local notation "𝕄" => MT nD τ sig Unit (Elt F) ℕ (Option PUnit) ℕ

/-- The program has no pipeline: nothing is admitted, no ticket is handed out, no level is named. -/
abbrev noAdm : (p : Fin 0) → (pcfgs (F := F) p).Adm := fun p => p.elim0
abbrev noTk : Fin 0 → Ticket (Ix := Unit) (Name := ℕ) (U := Option PUnit) (Lvl := ℕ) (nD := nD) (τ := τ) (pcfgs (F := F)) noAdm := fun j => j.elim0
abbrev noL : GSem nD τ sig → Finset Unit := fun _ => ∅
abbrev noLv : GSem nD τ sig → Unit → ℕ := fun _ _ => 0
theorem no_cells : Function.Injective (Pipeline.cellOf (nD := nD) (τ := τ) (Pipeline.pin (pcfgs (F := F)) noAdm)) := fun k => k.1.elim0

/-- What rides along with the buffers: that nothing is owed. -/
abbrev owed (c : Dev nD) : sProp 𝕄 := iprop(∃ W, owes (c : Thread nD τ) (0 : CellTallies nD τ sig Unit) W)

/-- Every counter belongs to some region's own names: none outlives one. -/
theorem counters_scoped : ∀ sm : SemLoc sig, sm.isScoped .tc = true := by decide

variable (m : (ℓ : Loc nD τ sig) → Buf (Elt F) ℓ) (ρ : Dev nD → PrngReg)

/-- The loop's test, with what rides along. -/
theorem test_spec : LoopCond (pcfgs (F := F)) defs₀ Variants.none loops owed (main_while0_cond (F := F)) condOps bodyI (entryContents preI m) 4 :=
  fun k hk c bd => by
    have hpost : ∀ v : Elt F .i1,
        iprop(iprop(⌜v = 1#1 ↔ k < 4⌝ ∗ boundary (c : Thread nD τ)
            ∗ held (c : Thread nD τ) (ucRefs τ sig) (after condOps (atTrip condOps bodyI (entryContents preI m) k c))) ∗ owed c)
          ⊢ iprop(⌜v = 1#1 ↔ k < 4⌝ ∗ boundary (c : Thread nD τ)
            ∗ held (c : Thread nD τ) (ucRefs τ sig) (after condOps (atTrip condOps bodyI (entryContents preI m) k c)) ∗ owed c) := fun v => by
      iintro ⟨⟨%hv, Hb, Hh⟩, Ho⟩
      isplitr; · ipureintro; exact hv
      isplitl [Hb]; · iexact Hb
      isplitl [Hh]; · iexact Hh
      iexact Ho
    refine BIBase.Entails.trans ?_ (((sep_mono_left (cond_spec m k hk c bd)).trans (wp_frame_r _ _ _)).trans (wp_mono _ _ _ hpost))
    iintro ⟨Hb, Hh, Ho⟩
    isplitl [Hb Hh]
    · isplitl [Hb]; · iexact Hb
      iexact Hh
    iexact Ho

/-- The stretches before the loop, the loop, the stretches after it. -/
def parts : List (CSeg (pcfgs (F := F)) noAdm defs₀ Variants.none noL noLv loops noTk) :=
  segsOf _ _ _ _ _ _ _ _ owed preI hpre (launchContents m)
    ++ loopSeg _ _ _ _ _ _ _ _ 0 main_while0_cond main_while0_body rfl condOps bodyI hbodyI (by rw [while0_body_chain]; rfl) 4
        (entryContents preI m) owed (test_spec m)
      :: segsOf _ _ _ _ _ _ _ _ owed postI hpost (fun c => after condOps (atTrip condOps bodyI (entryContents preI m) 4 c))

theorem parts_prog : (parts m).map CSeg.prog
    = (preI.map fun ops => (seq ops : Prog _ PUnit)) ++ HostLoop.enter 0 :: postI.map fun ops => (seq ops : Prog _ PUnit) := by
  unfold parts
  rw [List.map_append, List.map_cons, segsOf_prog, segsOf_prog]
  rfl

/-- The program is its stretches, the loop and the last stretch. -/
theorem main_parts (c : Dev nD) : main (F := F) c
    = Pipeline.chain ((preI.map fun ops => (seq ops : Prog _ PUnit)) ++ HostLoop.enter 0 :: postI.map fun ops => (seq ops : Prog _ PUnit)) := by
  rw [main_chain]; rfl

theorem parts_run (c : Dev nD) : CSeg.runL (parts m) = main (F := F) c := by
  unfold CSeg.runL
  rw [parts_prog, main_parts]

theorem parts_chain : CSeg.Chains (fun c => iprop(held (c : Thread nD τ) (ucRefs τ sig) (launchContents m c) ∗ owed c)) (parts m)
    (fun c => iprop(iprop(held (c : Thread nD τ) (ucRefs τ sig) (finalContents condOps preI bodyI postI 4 m c))
      ∗ ∃ W, owes (c : Thread nD τ) (0 : CellTallies nD τ sig Unit) W)) := by
  unfold parts
  exact CSeg.Chains.append (segsOf_chains _ _ _ _ _ _ _ _ owed preI hpre _) ⟨fun _ => .rfl, segsOf_chains _ _ _ _ _ _ _ _ owed postI hpost _⟩

set_option backward.isDefEq.respectTransparency.types false in
/-- Every execution ends with every buffer at the fold of the operations and every counter at zero. -/
theorem run_quiet : θ_run (defs (F := F)) (onTc (τ := τ) (main (F := F))) ⟨m, fun _ => 0, ρ⟩ (fun r =>
      (∀ (c : Dev nD) (b : Ref sig .tc), (Proc.devRef .tc b : DevRef τ sig).isScoped = false →
        r.2.mem ((c.tc : Thread nD τ).loc b) = finalContents condOps preI bodyI postI 4 m c (Proc.devRef .tc b))
      ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm no_cells defs₀ Variants.none noL noLv loops noTk m ρ main (parts m)
    (fun c Q => by
      rw [parts_run m c])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      iapply (show (BI.emp : sProp 𝕄) ⊢ bigSep Finset.univ (fun _ : Dev nD => (BI.emp : sProp 𝕄)) from by rw [BI.bigSep_emp_const])
      iempintro)
    (T₀ := fun c => iprop(held (c : Thread nD τ) (ucRefs τ sig) (launchContents m c) ∗ owed c))
    (Tₙ := fun c => iprop(held (c : Thread nD τ) (ucRefs τ sig) (finalContents condOps preI bodyI postI 4 m c)))
    (hch := parts_chain m)
    (hinit := by
      refine Pipeline.initEach noL noLv fun c => ?_
      rw [show unscopedBufs c (fun b => m ((c : Thread nD τ).loc b)) = held (c : Thread nD τ) (ucRefs τ sig) (launchContents m c)
        from Pipeline.unscopedBufs_held c (launchContents m c)]
      iintro ⟨⟨Hh, -, Ho, -, -, -⟩, -⟩
      imodintro
      isplitl [Hh]; · iexact Hh
      iexists ∅; iexact Ho)
    (QY := fun c s => ∀ b ∈ ucRefs τ sig, s.mem ((c : Dev nD), b) = finalContents condOps preI bodyI postI 4 m c b)
    (hfin := fun c s' => by
      unfold held
      iintro ⟨Hh, HS⟩
      imodintro
      iapply (pointsTo_read_all (ucRefs τ sig) (fun b => ((c : Dev nD), b)) (fun b => finalContents condOps preI bodyI postI 4 m c b) s')
      isplitl [Hh]; · iexact Hh
      iexact HS)
    (hQ := fun s h hz => ⟨fun c b hb => h c _ (devRef_mem_ucRefs b hb), funext fun g => hz g (.inr (counters_scoped g.2))⟩)

/-- The arguments end as launched and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c =>
    ⟨(h.1 c main_arg0 rfl).trans ((post_keeps_main_arg0 _).trans ((keep_main_arg0_condOps _).trans (atK_main_arg0 m c 4))),
     (h.1 c main_arg1 rfl).trans ((post_keeps_main_arg1 _).trans ((keep_main_arg1_condOps _).trans (atK_main_arg1 m c 4))),
     (h.1 c main_arg2 rfl).trans ((post_keeps_main_arg2 _).trans ((keep_main_arg2_condOps _).trans (atK_main_arg2 m c 4))),
     (h.1 c main_arg3 rfl).trans ((post_keeps_main_arg3 _).trans ((keep_main_arg3_condOps _).trans (atK_main_arg3 m c 4))),
     (h.1 c main_arg4 rfl).trans ((post_keeps_main_arg4 _).trans ((keep_main_arg4_condOps _).trans (atK_main_arg4 m c 4))),
     (h.1 c main_arg5 rfl).trans ((post_keeps_main_arg5 _).trans ((keep_main_arg5_condOps _).trans (atK_main_arg5 m c 4))),
     (h.1 c main_arg6 rfl).trans ((post_keeps_main_arg6 _).trans ((keep_main_arg6_condOps _).trans (atK_main_arg6 m c 4))),
     (h.1 c main_arg7 rfl).trans ((post_keeps_main_arg7 _).trans ((keep_main_arg7_condOps _).trans (atK_main_arg7 m c 4))),
     (h.1 c main_arg8 rfl).trans ((post_keeps_main_arg8 _).trans ((keep_main_arg8_condOps _).trans (atK_main_arg8 m c 4))),
     (h.1 c main_arg9 rfl).trans ((post_keeps_main_arg9 _).trans ((keep_main_arg9_condOps _).trans (atK_main_arg9 m c 4))),
     (h.1 c main_arg10 rfl).trans ((post_keeps_main_arg10 _).trans ((keep_main_arg10_condOps _).trans (atK_main_arg10 m c 4))),
     (h.1 c main_arg11 rfl).trans ((post_keeps_main_arg11 _).trans ((keep_main_arg11_condOps _).trans (atK_main_arg11 m c 4))),
     (h.1 c main_arg12 rfl).trans ((post_keeps_main_arg12 _).trans ((keep_main_arg12_condOps _).trans (atK_main_arg12 m c 4))),
     (h.1 c main_arg13 rfl).trans ((post_keeps_main_arg13 _).trans ((keep_main_arg13_condOps _).trans (atK_main_arg13 m c 4))),
     (h.1 c main_arg14 rfl).trans ((post_keeps_main_arg14 _).trans ((keep_main_arg14_condOps _).trans (atK_main_arg14 m c 4)))⟩, h.2⟩) (run_quiet m ρ)

end Cert.ReferenceIdeal.Rest

end
-- ==== Proof.Layer.lean ====
/- The layer in plain sums: one head's weights and momenta, what one chunk of positions makes of them, and what it puts out. -/
module

public import Idealize.ShloMosaic.Lib.Pointwise

@[expose] public section

noncomputable section

namespace Cert.Layer

open Idealize.ShloMosaic

/-- A table of numbers. -/
abbrev Mat (a b : ℕ) : Type := Fin a → Fin b → EReal

/-- The number the norms add below the root. -/
def eps : EReal := Ideal.ofBits .f32 0x358637BD#32

/-- `x` times the logistic of `x`. -/
def silu (x : EReal) : EReal := x * Ideal.logistic x

/-- The rotation by position: the halves of each row turned by the angles whose cosines and sines are given. -/
def rope (c s : Mat 2048 64) (x : Mat 2048 128) (i : Fin 2048) (d : Fin 128) : EReal :=
  if h : d.val < 64 then x i d * c i ⟨d.val, h⟩ + -(x i ⟨d.val + 64, by omega⟩) * s i ⟨d.val, h⟩
  else x i d * c i ⟨d.val - 64, by omega⟩ + x i ⟨d.val - 64, by omega⟩ * s i ⟨d.val - 64, by omega⟩

/-- One head's three weights and their momenta; the rows of the gate (`w0`) and of the up weight (`w2`) are the hidden features. -/
structure Head where
  w0 : Mat 128 128
  w1 : Mat 128 128
  w2 : Mat 128 128
  m0 : Mat 128 128
  m1 : Mat 128 128
  m2 : Mat 128 128

/-- Two heads agree when their tables do. -/
theorem Head.same {a b : Head} (h0 : ∀ e d, a.w0 e d = b.w0 e d) (h1 : ∀ e d, a.w1 e d = b.w1 e d) (h2 : ∀ e d, a.w2 e d = b.w2 e d)
    (k0 : ∀ e d, a.m0 e d = b.m0 e d) (k1 : ∀ e d, a.m1 e d = b.m1 e d) (k2 : ∀ e d, a.m2 e d = b.m2 e d) : a = b := by
  obtain ⟨_, _, _, _, _, _⟩ := a
  obtain ⟨_, _, _, _, _, _⟩ := b
  obtain rfl := funext fun e => funext (h0 e)
  obtain rfl := funext fun e => funext (h1 e)
  obtain rfl := funext fun e => funext (h2 e)
  obtain rfl := funext fun e => funext (k0 e)
  obtain rfl := funext fun e => funext (k1 e)
  obtain rfl := funext fun e => funext (k2 e)
  rfl

/-- A chunk's rows against a weight's rows. -/
def up (x : Mat 2048 128) (w : Mat 128 128) (i : Fin 2048) (e : Fin 128) : EReal := ∑ d, x i d * w e d

/-- The hidden features of a chunk. -/
def hid (x : Mat 2048 128) (w0 w2 : Mat 128 128) (i : Fin 2048) (e : Fin 128) : EReal := silu (up x w0 i e) * up x w2 i e

/-- A chunk's output. -/
def out (h : Head) (q : Mat 2048 128) (i : Fin 2048) (d : Fin 128) : EReal := ∑ e, hid q h.w0 h.w2 i e * h.w1 d e

/-- The value's rows against the down weight's columns. -/
def back (h : Head) (v : Mat 2048 128) (i : Fin 2048) (e : Fin 128) : EReal := ∑ f, v i f * h.w1 f e

/-- The change that reaches the gate before its activation. -/
def dgate (h : Head) (k v : Mat 2048 128) (i : Fin 2048) (e : Fin 128) : EReal :=
  back h v i e * up k h.w2 i e * Ideal.logistic (up k h.w0 i e) * (1 + up k h.w0 i e * (1 - Ideal.logistic (up k h.w0 i e)))

/-- The change that reaches the up branch. -/
def dup (h : Head) (k v : Mat 2048 128) (i : Fin 2048) (e : Fin 128) : EReal := back h v i e * silu (up k h.w0 i e)

/-- The mean of the momentum rates of a chunk. -/
def mbar (l : Mat 2048 4) : EReal := Ideal.div (∑ i, l i 3) (Ideal.ofBits .f32 0x45000000#32)

/-- The next momenta. -/
def next0 (h : Head) (k v : Mat 2048 128) (l : Mat 2048 4) (e d : Fin 128) : EReal :=
  mbar l * h.m0 e d + ∑ i, dgate h k v i e * (k i d * l i 0)
def next1 (h : Head) (k v : Mat 2048 128) (l : Mat 2048 4) (d e : Fin 128) : EReal :=
  mbar l * h.m1 d e + ∑ i, v i d * l i 1 * hid k h.w0 h.w2 i e
def next2 (h : Head) (k v : Mat 2048 128) (l : Mat 2048 4) (e d : Fin 128) : EReal :=
  mbar l * h.m2 e d + ∑ i, dup h k v i e * (k i d * l i 2)

/-- A table with its rows scaled to length one. -/
def unit (w : Mat 128 128) (a b : Fin 128) : EReal := w a b * Ideal.rsqrt ((∑ c, w a c * w a c) + eps)

/-- The head after a chunk of keys, values and rates. -/
def next (h : Head) (k v : Mat 2048 128) (l : Mat 2048 4) : Head where
  w0 := unit fun a b => h.w0 a b + next0 h k v l a b
  w1 := unit fun a b => h.w1 a b + next1 h k v l a b
  w2 := unit fun a b => h.w2 a b + next2 h k v l a b
  m0 := next0 h k v l
  m1 := next1 h k v l
  m2 := next2 h k v l

/-- A chunk's output scaled to root mean square one and by the given weights. -/
def normed (t : Fin 128 → EReal) (o : Mat 2048 128) (i : Fin 2048) (d : Fin 128) : EReal :=
  t d * (o i d * Ideal.rsqrt (Ideal.div (∑ c, o i c * o i c) (Ideal.ofBits .f32 0x43000000#32) + eps))

end Cert.Layer

end
-- ==== Proof.LayerInput.lean ====
/- The layer's inputs in plain sums: what the fifteen arguments give each head as queries, keys, values, rates and starting weights, and the layer's output. -/
module

public import proofs.«01_k».proof.Proof.Layer

@[expose] public section

noncomputable section

namespace Cert.Layer

open Idealize.ShloMosaic

/-- The fifteen arguments. -/
structure Inputs where
  x : FVec Ideal ⟨3, ![2, 8192, 2048]⟩ .f32
  pos : IVec ⟨2, ![2, 8192]⟩ 32
  w : FVec Ideal ⟨2, ![6144, 2048]⟩ .f32
  nq : FVec Ideal ⟨1, ![2048]⟩ .f32
  nk : FVec Ideal ⟨1, ![2048]⟩ .f32
  sc : FVec Ideal ⟨2, ![2048, 2]⟩ .f32
  off : FVec Ideal ⟨2, ![2048, 2]⟩ .f32
  w0 : FVec Ideal ⟨3, ![16, 128, 128]⟩ .f32
  w1 : FVec Ideal ⟨3, ![16, 128, 128]⟩ .f32
  w2 : FVec Ideal ⟨3, ![16, 128, 128]⟩ .f32
  lw : FVec Ideal ⟨2, ![48, 2048]⟩ .f32
  lb : FVec Ideal ⟨1, ![48]⟩ .f32
  mw : FVec Ideal ⟨2, ![16, 2048]⟩ .f32
  mb : FVec Ideal ⟨1, ![16]⟩ .f32
  tt : FVec Ideal ⟨1, ![128]⟩ .f32

/-- Feature `d` of group `g`. -/
def feat (g : Fin 16) (d : Fin 128) : Fin 2048 := ⟨g.val * 128 + d.val, by omega⟩

/-- A head's batch. -/
def bat (h : Fin 32) : Fin 2 := ⟨h.val / 16, by omega⟩

/-- A head's number within its batch. -/
def sub (h : Fin 32) : Fin 16 := ⟨h.val % 16, by omega⟩

/-- Position `p` of head `h` stands in this row of the activations. -/
def src (h : Fin 32) (p : Fin 8192) : Fin 8192 := ⟨h.val % 16 * 512 + p.val / 16, by omega⟩

/-- Position `p` of a head stands in this group of features. -/
def grp (p : Fin 8192) : Fin 16 := ⟨p.val % 16, by omega⟩

/-- Position `i` of chunk `c`. -/
def at_ (c : Fin 4) (i : Fin 2048) : Fin 8192 := ⟨c.val * 2048 + i.val, by omega⟩

/-- A row scaled to root mean square one and by `n`, then by `t`, and shifted by `o`. -/
def scaled (a n t o : Fin 2048 → EReal) (f : Fin 2048) : EReal :=
  n f * (a f * Ideal.rsqrt (Ideal.div (∑ c, a c * a c) (Ideal.ofBits .f32 0x45000000#32) + eps)) * t f + o f

/-- A group of a row scaled to length one. -/
def unitRow (z : Fin 2048 → EReal) (g : Fin 16) (d : Fin 128) : EReal :=
  z (feat g d) * Ideal.rsqrt ((∑ e, z (feat g e) * z (feat g e)) + eps)

/-- The logarithm of one plus the exponential, the larger part kept apart. -/
def softplus (z : EReal) : EReal := max z 0 + Ideal.log1p (Ideal.exp (-(FloatOps.absf (F := Ideal) (φ := .f32) z)))

variable (I : Inputs)

/-- Rows against third `j` of the projection. -/
def acc (j : Fin 3) (b : Fin 2) (s : Fin 8192) (f : Fin 2048) : EReal :=
  ∑ k : Fin 2048, I.x (ix3 b s k) * I.w (ix2 ⟨j.val * 2048 + f.val, by omega⟩ k)

def qact (b : Fin 2) (s : Fin 8192) (f : Fin 2048) : EReal :=
  silu (scaled (acc I 0 b s) (fun f => I.nq (ix1 f)) (fun f => I.sc (ix2 f 0)) (fun f => I.off (ix2 f 0)) f)
def kact (b : Fin 2) (s : Fin 8192) (f : Fin 2048) : EReal :=
  silu (scaled (acc I 1 b s) (fun f => I.nk (ix1 f)) (fun f => I.sc (ix2 f 1)) (fun f => I.off (ix2 f 1)) f)
def vact (b : Fin 2) (s : Fin 8192) (f : Fin 2048) : EReal := silu (acc I 2 b s f)

/-- Queries, keys and values of a head before the rotation. -/
def qrow (h : Fin 32) (p : Fin 8192) (d : Fin 128) : EReal := unitRow (qact I (bat h) (src h p)) (grp p) d
def krow (h : Fin 32) (p : Fin 8192) (d : Fin 128) : EReal := unitRow (kact I (bat h) (src h p)) (grp p) d
def vrow (h : Fin 32) (p : Fin 8192) (d : Fin 128) : EReal := vact I (bat h) (src h p) (feat (grp p) d)

/-- Pair `e`'s turning rate. -/
def freq (e : Fin 64) : EReal :=
  Ideal.div (Ideal.ofBits .f32 0x3F800000#32)
    (Ideal.pow (Ideal.ofBits .f32 0x49742400#32)
      (Ideal.div (0 + Ideal.ofBits .f32 0x40000000#32 * FloatOps.sitofp (F := Ideal) .f32 (BitVec.ofNat 32 e.val)) (Ideal.ofBits .f32 0x43000000#32)))

/-- The angle of pair `e` at a position. -/
def angle (b : Fin 2) (p : Fin 8192) (e : Fin 64) : EReal := FloatOps.sitofp (F := Ideal) .f32 (I.pos (ix2 b p)) * freq e

/-- Three learning rates and a momentum rate for each head and position. -/
def lrate (b : Fin 2) (p : Fin 8192) (o : Fin 48) : EReal :=
  softplus ((∑ k : Fin 2048, I.x (ix3 b p k) * I.lw (ix2 o k)) + I.lb (ix1 o) + Ideal.ofBits .f32 0xC0DD083C#32)
def mrate (b : Fin 2) (p : Fin 8192) (o : Fin 16) : EReal :=
  Ideal.logistic ((∑ k : Fin 2048, I.x (ix3 b p k) * I.mw (ix2 o k)) + I.mb (ix1 o))

/-- Cosines and sines of a chunk's angles. -/
def cosc (b : Fin 2) (c : Fin 4) : Mat 2048 64 := fun i e => Ideal.cos (angle I b (at_ c i) e)
def sinc (b : Fin 2) (c : Fin 4) : Mat 2048 64 := fun i e => Ideal.sin (angle I b (at_ c i) e)

/-- What chunk `c` brings to head `h`. -/
def qin (h : Fin 32) (c : Fin 4) : Mat 2048 128 := rope (cosc I (bat h) c) (sinc I (bat h) c) fun i d => qrow I h (at_ c i) d
def kin (h : Fin 32) (c : Fin 4) : Mat 2048 128 := rope (cosc I (bat h) c) (sinc I (bat h) c) fun i d => krow I h (at_ c i) d
def vin (h : Fin 32) (c : Fin 4) : Mat 2048 128 := fun i d => vrow I h (at_ c i) d
def lin (h : Fin 32) (c : Fin 4) : Mat 2048 4 := fun i e =>
  if he : e.val < 3 then lrate I (bat h) (at_ c i) ⟨h.val % 16 * 3 + e.val, by omega⟩ else mrate I (bat h) (at_ c i) (sub h)

/-- A head's starting weights. -/
def first (h : Fin 32) : Head where
  w0 e d := I.w0 (ix3 (sub h) e d)
  w1 e d := I.w1 (ix3 (sub h) e d)
  w2 e d := I.w2 (ix3 (sub h) e d)
  m0 _ _ := 0
  m1 _ _ := 0
  m2 _ _ := 0

/-- A head before chunk `n`. -/
def heads (h : Fin 32) : ℕ → Head
  | 0 => first I h
  | n + 1 => next (heads h n) (kin I h (Fin.ofNat 4 n)) (vin I h (Fin.ofNat 4 n)) (lin I h (Fin.ofNat 4 n))

/-- The layer's output at head `h`, chunk `c`. -/
def result (h : Fin 32) (c : Fin 4) (i : Fin 2048) (d : Fin 128) : EReal :=
  normed (fun d => I.tt (ix1 d)) (out (heads I h c.val) (qin I h c)) i d

end Cert.Layer

end
-- ==== Proof.IdealHost.lean ====
/- What the host's operations leave in the first region's operands, entry by entry. -/
module

public import proofs.«01_k».proof.Proof.IdealLaunch
public import proofs.«01_k».proof.Proof.LayerInput

@[expose] public section

set_option maxRecDepth 16384

noncomputable section

namespace Cert.KernelIdeal.Host0

open Idealize.ShloMosaic Idealize.ShloMosaic.TcCoe Idealize.SL.Sem
open Cert.KernelIdeal Cert.KernelIdeal.Gen Cert.KernelIdeal.Two
open Cert.Layer

variable (m : (ℓ : Loc nD τ sig) → Buf (Elt Ideal) ℓ) (c : Dev nD)

/-- The arguments as launched. -/
def inputs : Inputs where
  x := m ((c : Thread nD τ).loc main_arg0)
  pos := m ((c : Thread nD τ).loc main_arg1)
  w := m ((c : Thread nD τ).loc main_arg2)
  nq := m ((c : Thread nD τ).loc main_arg3)
  nk := m ((c : Thread nD τ).loc main_arg4)
  sc := m ((c : Thread nD τ).loc main_arg5)
  off := m ((c : Thread nD τ).loc main_arg6)
  w0 := m ((c : Thread nD τ).loc main_arg7)
  w1 := m ((c : Thread nD τ).loc main_arg8)
  w2 := m ((c : Thread nD τ).loc main_arg9)
  lw := m ((c : Thread nD τ).loc main_arg10)
  lb := m ((c : Thread nD τ).loc main_arg11)
  mw := m ((c : Thread nD τ).loc main_arg12)
  mb := m ((c : Thread nD τ).loc main_arg13)
  tt := m ((c : Thread nD τ).loc main_arg14)

theorem x_eq : (B1 m c (Proc.devRef .tc main_call0_v28) : FVec Ideal S16384x2048 .bf16) = truncf .bf16 (shapeCast S16384x2048 (inputs m c).x shapeCasts_S2x8192x2048_S16384x2048) bitsLt_bf16_f32 := by
  unfold B1
  after_results
  rfl

theorem x_at (r : Fin 16384) (k : Fin 2048) :
    (B1 m c (Proc.devRef .tc main_call0_v28) : FVec Ideal S16384x2048 .bf16) (ix2 r k) = (inputs m c).x (ix3 ⟨r.val / 8192, by omega⟩ ⟨r.val % 8192, by omega⟩ k) := by
  rw [x_eq]
  pointwise

theorem w_eq : (B1 m c (Proc.devRef .tc main_call0_v29) : FVec Ideal S6144x2048 .bf16) = truncf .bf16 (inputs m c).w bitsLt_bf16_f32 := by
  unfold B1
  after_results
  rfl

theorem w_at (r : Fin 6144) (k : Fin 2048) :
    (B1 m c (Proc.devRef .tc main_call0_v29) : FVec Ideal S6144x2048 .bf16) (ix2 r k) = (inputs m c).w (ix2 r k) := by
  rw [w_eq]
  pointwise

/-- Three rows stacked. -/
def stack (a b d : FVec Ideal S1x2048 .f32) : FVec Ideal S3x1x2048 .f32 :=
  shapeCast S3x1x2048 (concatenate S3x2048 0 [⟨S1x2048, a⟩, ⟨S1x2048, b⟩, ⟨S1x2048, d⟩] concatenates_S1x2048_S1x2048_S1x2048_S3x2048_d0) shapeCasts_S3x2048_S3x1x2048

theorem stack_at0 (a b d : FVec Ideal S1x2048 .f32) (f : Fin 2048) : stack a b d (ix3 0 0 f) = a (ix2 0 f) := by pointwise [stack]
theorem stack_at1 (a b d : FVec Ideal S1x2048 .f32) (f : Fin 2048) : stack a b d (ix3 1 0 f) = b (ix2 0 f) := by pointwise [stack]

/-- The stacked rows, from whatever precedes their stacking. -/
theorem aw_tail (U : Valuation τ sig (Elt Ideal)) : (StableHlo.after (hostOps0.drop 12) U (Proc.devRef .tc main_call0_v12) : FVec Ideal S3x1x2048 .f32)
    = stack (U (Proc.devRef .tc main_call0_v8)) (U (Proc.devRef .tc main_call0_v9)) (U (Proc.devRef .tc main_call0_v10)) := by
  simp only [hostOps0, List.drop]
  after_results
  rfl

theorem aw_row0 : (StableHlo.after (hostOps0.take 12) (B0 m c) (Proc.devRef .tc main_call0_v8) : FVec Ideal S1x2048 .f32) = broadcastInDim S1x2048 ![1] bcast_S2048_S1x2048_1 (mulf (inputs m c).nq (shapeCast S2048 (extractStridedSlice S2048x1 ![0, 0] (inputs m c).sc slices_S2048x2_S2048x1_0_0) shapeCasts_S2048x1_S2048)) := by
  simp only [hostOps0, List.take]
  after_results
  rfl

theorem aw_at0 (f : Fin 2048) : (B1 m c (Proc.devRef .tc main_call0_v12) : FVec Ideal S3x1x2048 .f32) (ix3 0 0 f) = (inputs m c).nq (ix1 f) * (inputs m c).sc (ix2 f 0) := by
  refine (congrFun (aw_tail (StableHlo.after (hostOps0.take 12) (B0 m c))) _).trans ((stack_at0 ..).trans ((congrFun (aw_row0 m c) _).trans ?_))
  pointwise

theorem aw_row1 : (StableHlo.after (hostOps0.take 12) (B0 m c) (Proc.devRef .tc main_call0_v9) : FVec Ideal S1x2048 .f32) = broadcastInDim S1x2048 ![1] bcast_S2048_S1x2048_1 (mulf (inputs m c).nk (shapeCast S2048 (extractStridedSlice S2048x1 ![0, 1] (inputs m c).sc slices_S2048x2_S2048x1_0_1) shapeCasts_S2048x1_S2048)) := by
  simp only [hostOps0, List.take]
  after_results
  rfl

theorem aw_at1 (f : Fin 2048) : (B1 m c (Proc.devRef .tc main_call0_v12) : FVec Ideal S3x1x2048 .f32) (ix3 1 0 f) = (inputs m c).nk (ix1 f) * (inputs m c).sc (ix2 f 1) := by
  refine (congrFun (aw_tail (StableHlo.after (hostOps0.take 12) (B0 m c))) _).trans ((stack_at1 ..).trans ((congrFun (aw_row1 m c) _).trans ?_))
  pointwise

/-- The stacked rows, from whatever precedes their stacking. -/
theorem bw_tail (U : Valuation τ sig (Elt Ideal)) : (StableHlo.after (hostOps0.drop 23) U (Proc.devRef .tc main_call0_v22) : FVec Ideal S3x1x2048 .f32)
    = stack (U (Proc.devRef .tc main_call0_v18)) (U (Proc.devRef .tc main_call0_v19)) (U (Proc.devRef .tc main_call0_v20)) := by
  simp only [hostOps0, List.drop]
  after_results
  rfl

theorem bw_row0 : (StableHlo.after (hostOps0.take 23) (B0 m c) (Proc.devRef .tc main_call0_v18) : FVec Ideal S1x2048 .f32) = broadcastInDim S1x2048 ![1] bcast_S2048_S1x2048_1 (shapeCast S2048 (extractStridedSlice S2048x1 ![0, 0] (inputs m c).off slices_S2048x2_S2048x1_0_0) shapeCasts_S2048x1_S2048) := by
  simp only [hostOps0, List.take]
  after_results
  rfl

theorem bw_at0 (f : Fin 2048) : (B1 m c (Proc.devRef .tc main_call0_v22) : FVec Ideal S3x1x2048 .f32) (ix3 0 0 f) = (inputs m c).off (ix2 f 0) := by
  refine (congrFun (bw_tail (StableHlo.after (hostOps0.take 23) (B0 m c))) _).trans ((stack_at0 ..).trans ((congrFun (bw_row0 m c) _).trans ?_))
  pointwise

theorem bw_row1 : (StableHlo.after (hostOps0.take 23) (B0 m c) (Proc.devRef .tc main_call0_v19) : FVec Ideal S1x2048 .f32) = broadcastInDim S1x2048 ![1] bcast_S2048_S1x2048_1 (shapeCast S2048 (extractStridedSlice S2048x1 ![0, 1] (inputs m c).off slices_S2048x2_S2048x1_0_1) shapeCasts_S2048x1_S2048) := by
  simp only [hostOps0, List.take]
  after_results
  rfl

theorem bw_at1 (f : Fin 2048) : (B1 m c (Proc.devRef .tc main_call0_v22) : FVec Ideal S3x1x2048 .f32) (ix3 1 0 f) = (inputs m c).off (ix2 f 1) := by
  refine (congrFun (bw_tail (StableHlo.after (hostOps0.take 23) (B0 m c))) _).trans ((stack_at1 ..).trans ((congrFun (bw_row1 m c) _).trans ?_))
  pointwise

theorem lw_eq : (B1 m c (Proc.devRef .tc main_call0_v30) : FVec Ideal S64x2048 .bf16)
    = truncf .bf16 (concatenate S64x2048 0 [⟨S48x2048, (inputs m c).lw⟩, ⟨S16x2048, (inputs m c).mw⟩] concatenates_S48x2048_S16x2048_S64x2048_d0) bitsLt_bf16_f32 := by
  unfold B1
  after_results
  rfl

theorem lb_eq : (B1 m c (Proc.devRef .tc main_call0_v27) : FVec Ideal S1x64 .f32)
    = broadcastInDim S1x64 ![1] bcast_S64_S1x64_1 (concatenate S64 0 [⟨S48, addf (inputs m c).lb (broadcastInDim S48 ![] bcast_S_S48 (constant S_ .f32 0xC0DD083C#32))⟩, ⟨S16, (inputs m c).mb⟩] concatenates_S48_S16_S64_d0) := by
  unfold B1
  after_results
  rfl

theorem lw_at (o : Fin 64) (k : Fin 2048) :
    (B1 m c (Proc.devRef .tc main_call0_v30) : FVec Ideal S64x2048 .bf16) (ix2 o k) = if h : o.val < 48 then (inputs m c).lw (ix2 ⟨o.val, h⟩ k) else (inputs m c).mw (ix2 ⟨o.val - 48, by omega⟩ k) := by
  rw [lw_eq]
  pointwise

theorem lb_at (o : Fin 64) :
    (B1 m c (Proc.devRef .tc main_call0_v27) : FVec Ideal S1x64 .f32) (ix2 0 o) = if h : o.val < 48 then (inputs m c).lb (ix1 ⟨o.val, h⟩) + Ideal.ofBits .f32 0xC0DD083C#32 else (inputs m c).mb (ix1 ⟨o.val - 48, by omega⟩) := by
  rw [lb_eq]
  pointwise

end Cert.KernelIdeal.Host0

end
-- ==== Proof.IdealActs.lean ====
/- What the first region leaves: the activations and the rates, row by row, in the layer's terms. -/
module

public import proofs.«01_k».proof.Proof.IdealHost

@[expose] public section

set_option maxRecDepth 16384

noncomputable section

namespace Cert.KernelIdeal.Acts

open Idealize.ShloMosaic Idealize.ShloMosaic.TcCoe Idealize.ShloMosaic.Tactic Idealize.SL Idealize.SL.Sem
open Idealize.ShloMosaic.Pipeline (Dat RDat Cfg Window)
open Cert.KernelIdeal Cert.KernelIdeal.Gen Cert.KernelIdeal.Two Cert.KernelIdeal.Host0
open Cert.Layer

/-! ## A point's blocks, in its operands -/

section Blocks
variable (x0 : Vec Ideal S512x2048 .bf16) (x1 : Vec Ideal S2048x2048 .bf16) (x2 x3 : FVec Ideal S1x1x2048 .f32)

theorem dot_at (r : Fin 512) (f : Fin 2048) : (k0_pay2 (F := Ideal) x0 x1) (ix2 r f) = ∑ k : Fin 2048, x0 (ix2 r k) * x1 (ix2 f k) := by
  pointwise [k0_pay2, k0_pay1]

theorem scaled_at (a : FVec Ideal S512x2048 .f32) (r : Fin 512) (f : Fin 2048) :
    (k0_pay7 (F := Ideal) a x2 x3) (ix2 r f)
      = silu (a (ix2 r f) * Ideal.rsqrt (Ideal.div (∑ c : Fin 2048, a (ix2 r c) * a (ix2 r c)) (Ideal.ofBits .f32 0x45000000#32) + eps) * x2 (ix3 0 0 f) + x3 (ix3 0 0 f)) := by
  pointwise [k0_pay7, silu, eps, Ideal.logistic]

theorem value_at (r : Fin 512) (f : Fin 2048) : (k0_pay5 (F := Ideal) x0 x1) (ix3 0 r f) = silu ((k0_pay2 (F := Ideal) x0 x1) (ix2 r f)) := by
  pointwise [k0_pay5, silu, Ideal.logistic]

/-- The block of the query and key thirds: each group of a row scaled to length one. -/
theorem unit_at (y : S1x512x2048.Idx) :
    (actA x0 x1 x2 x3) y = unitRow (fun f => (k0_pay7 (F := Ideal) (k0_pay2 x0 x1) x2 x3) (ix2 (y 1) f)) ⟨(y 2 : ℕ) / 128, by have h : (y 2 : ℕ) < 2048 := (y 2).isLt; omega⟩ ⟨(y 2 : ℕ) % 128, by omega⟩ := by
  unfold actA piecesA
  show View.canon _ _ = _
  canon_tiles x h
  all_goals
    open_payloads
    pointwise [unitRow, feat, eps]
    refine congrArg₂ (· * ·) ?_ (congrArg Ideal.rsqrt (congrArg (· + _) (Finset.sum_congr rfl fun e _ => congrArg₂ (· * ·) ?_ ?_)))
    all_goals exact congrArg (k0_pay7 (F := Ideal) (k0_pay2 x0 x1) x2 x3) ((ix2_inj ..).2 ⟨Fin.ext (by omega), Fin.ext (by dsimp only; omega)⟩)

theorem rates_at (x4 : Vec Ideal S64x2048 .bf16) (x5 : FVec Ideal S1x64 .f32) (r : Fin 512) (o : Fin 64) :
    (k0_pay6 (F := Ideal) x0 x4 x5) (ix2 r o) = if o.val < 48 then softplus ((∑ k : Fin 2048, x0 (ix2 r k) * x4 (ix2 o k)) + x5 (ix2 0 o))
      else Ideal.logistic ((∑ k : Fin 2048, x0 (ix2 r k) * x4 (ix2 o k)) + x5 (ix2 0 o)) := by
  have hs : IntOp.cmpi CmpIPredicate.slt (BitVec.ofNat 32 o.val) 48#32 = if o.val < 48 then 1#1 else 0#1 := by revert o; decide
  pointwise [k0_pay6, k0_pay1, softplus, Ideal.logistic]
  rw [hs]
  by_cases ho : o.val < 48
  · rw [if_pos ho, if_pos ho]
    refine (if_pos rfl).trans ((if_neg fun h => h rfl).trans ?_)
    rw [zero_sub]
  · rw [if_neg ho, if_neg ho]
    exact if_neg (by decide)

end Blocks

/-! ## The windows' blocks, in the arguments -/

theorem idx0_0 : ∀ t : Fin grid0.N, win0_0.index t = ![t.val % 32, 0] := by decide +kernel
theorem idx0_1 : ∀ t : Fin grid0.N, win0_1.index t = ![t.val / 32, 0] := by decide +kernel
theorem idx0_2 : ∀ t : Fin grid0.N, win0_2.index t = ![t.val / 32, 0, 0] := by decide +kernel
theorem idx0_3 : ∀ t : Fin grid0.N, win0_3.index t = ![t.val / 32, 0, 0] := by decide +kernel
theorem idx0_4 : ∀ t : Fin grid0.N, win0_4.index t = ![0, 0] := by decide +kernel
theorem idx0_5 : ∀ t : Fin grid0.N, win0_5.index t = ![0, 0] := by decide +kernel
theorem idx0_6 : ∀ t : Fin grid0.N, win0_6.index t = ![t.val / 32, t.val % 32, 0] := by decide +kernel

variable (m : (ℓ : Loc nD τ sig) → Buf (Elt Ideal) ℓ) (c : Dev nD) (t : Fin cfg0.N)

theorem t_lt : t.val < 96 := lt_of_lt_of_eq t.isLt N_0

/-- Row `r` of a point's block of rows. -/
def row (r : Fin 512) : Fin 16384 := ⟨t.val % 32 * 512 + r.val, by omega⟩
/-- A row's batch and its place there. -/
def rb (R : Fin 16384) : Fin 2 := ⟨R.val / 8192, by omega⟩
def rs (R : Fin 16384) : Fin 8192 := ⟨R.val % 8192, by omega⟩

theorem x_blk (r : Fin 512) (k : Fin 2048) : (iblk0 (E1 m) c 0 t : Vec Ideal S512x2048 .bf16) (ix2 r k) = (inputs m c).x (ix3 (rb (row t r)) (rs (row t r)) k) := by
  refine Eq.trans ?_ (x_at m c (row t r) k)
  unfold iblk0
  blk_ext [idx0_0 t, row]

theorem w_blk (f k : Fin 2048) : (iblk0 (E1 m) c 1 t : Vec Ideal S2048x2048 .bf16) (ix2 f k) = (inputs m c).w (ix2 ⟨t.val / 32 * 2048 + f.val, by have := t_lt t; omega⟩ k) := by
  refine Eq.trans ?_ (w_at m c _ k)
  unfold iblk0
  blk_ext [idx0_1 t]

theorem aw_blk (f : Fin 2048) : (iblk0 (E1 m) c 2 t : FVec Ideal S1x1x2048 .f32) (ix3 0 0 f) = (B1 m c (Proc.devRef .tc main_call0_v12) : FVec Ideal S3x1x2048 .f32) (ix3 ⟨t.val / 32, by have := t_lt t; omega⟩ 0 f) := by
  unfold iblk0
  blk_ext [idx0_2 t]

theorem bw_blk (f : Fin 2048) : (iblk0 (E1 m) c 3 t : FVec Ideal S1x1x2048 .f32) (ix3 0 0 f) = (B1 m c (Proc.devRef .tc main_call0_v22) : FVec Ideal S3x1x2048 .f32) (ix3 ⟨t.val / 32, by have := t_lt t; omega⟩ 0 f) := by
  unfold iblk0
  blk_ext [idx0_3 t]

theorem lw_blk (o : Fin 64) (k : Fin 2048) : (iblk0 (E1 m) c 4 t : Vec Ideal S64x2048 .bf16) (ix2 o k) = if h : o.val < 48 then (inputs m c).lw (ix2 ⟨o.val, h⟩ k) else (inputs m c).mw (ix2 ⟨o.val - 48, by omega⟩ k) := by
  refine Eq.trans ?_ (lw_at m c o k)
  unfold iblk0
  blk_ext [idx0_4 t]

theorem lb_blk (o : Fin 64) : (iblk0 (E1 m) c 5 t : FVec Ideal S1x64 .f32) (ix2 0 o) = if h : o.val < 48 then (inputs m c).lb (ix1 ⟨o.val, h⟩) + Ideal.ofBits .f32 0xC0DD083C#32 else (inputs m c).mb (ix1 ⟨o.val - 48, by omega⟩) := by
  refine Eq.trans ?_ (lb_at m c o)
  unfold iblk0
  blk_ext [idx0_5 t]

/-- The point's product is its rows against its third of the projection. -/
theorem acc_blk (j : Fin 3) (hj : t.val / 32 = j.val) (r : Fin 512) (f : Fin 2048) :
    (k0_pay2 (F := Ideal) (iblk0 (E1 m) c 0 t) (iblk0 (E1 m) c 1 t)) (ix2 r f) = acc (inputs m c) j (rb (row t r)) (rs (row t r)) f := by
  rw [dot_at]
  refine Finset.sum_congr rfl fun k _ => ?_
  rw [x_blk, w_blk]
  refine congrArg _ (congrArg (inputs m c).w ((ix2_inj ..).2 ⟨Fin.ext ?_, rfl⟩))
  show t.val / 32 * 2048 + f.val = j.val * 2048 + f.val
  rw [hj]

/-- What the first region leaves at a row, group and feature of each third. -/
def actRow (I : Inputs) (j : Fin 3) (R : Fin 16384) (g : Fin 16) (d : Fin 128) : EReal :=
  if j.val = 0 then unitRow (qact I (rb R) (rs R)) g d else if j.val = 1 then unitRow (kact I (rb R) (rs R)) g d else vact I (rb R) (rs R) (feat g d)

def actArr (I : Inputs) : FVec Ideal S3x16384x2048 .bf16 := fun i =>
  actRow I (i 0) (i 1) ⟨(i 2 : ℕ) / 128, by have h : (i 2 : ℕ) < 2048 := (i 2).isLt; omega⟩ ⟨(i 2 : ℕ) % 128, by omega⟩

/-- A row normed with the weights multiplied beforehand is the row normed and weighted in turn. -/
theorem scaled_eq (a n w o : Fin 2048 → EReal) (f : Fin 2048) :
    a f * Ideal.rsqrt (Ideal.div (∑ c : Fin 2048, a c * a c) (Ideal.ofBits .f32 0x45000000#32) + eps) * (n f * w f) + o f = scaled a n w o f := by
  unfold scaled
  rw [← mul_assoc, mul_comm _ (n f)]

theorem q_blk (h : t.val / 32 = 0) (r : Fin 512) (f : Fin 2048) :
    (k0_pay7 (F := Ideal) (k0_pay2 (iblk0 (E1 m) c 0 t) (iblk0 (E1 m) c 1 t)) (iblk0 (E1 m) c 2 t) (iblk0 (E1 m) c 3 t)) (ix2 r f)
      = qact (inputs m c) (rb (row t r)) (rs (row t r)) f := by
  have ej : (⟨t.val / 32, by have := t_lt t; omega⟩ : Fin 3) = 0 := Fin.ext h
  refine (scaled_at _ _ _ r f).trans (congrArg silu ?_)
  rw [aw_blk, bw_blk, ej, aw_at0, bw_at0]
  simp only [acc_blk m c t 0 h]
  exact scaled_eq (acc (inputs m c) 0 _ _) (fun f => (inputs m c).nq (ix1 f)) (fun f => (inputs m c).sc (ix2 f 0)) (fun f => (inputs m c).off (ix2 f 0)) f

theorem k_blk (h : t.val / 32 = 1) (r : Fin 512) (f : Fin 2048) :
    (k0_pay7 (F := Ideal) (k0_pay2 (iblk0 (E1 m) c 0 t) (iblk0 (E1 m) c 1 t)) (iblk0 (E1 m) c 2 t) (iblk0 (E1 m) c 3 t)) (ix2 r f)
      = kact (inputs m c) (rb (row t r)) (rs (row t r)) f := by
  have ej : (⟨t.val / 32, by have := t_lt t; omega⟩ : Fin 3) = 1 := Fin.ext h
  refine (scaled_at _ _ _ r f).trans (congrArg silu ?_)
  rw [aw_blk, bw_blk, ej, aw_at1, bw_at1]
  simp only [acc_blk m c t 1 h]
  exact scaled_eq (acc (inputs m c) 1 _ _) (fun f => (inputs m c).nk (ix1 f)) (fun f => (inputs m c).sc (ix2 f 1)) (fun f => (inputs m c).off (ix2 f 1)) f

/-- A point's activation block, at any index. -/
theorem act_blk (y : S1x512x2048.Idx) :
    (act0 (E1 m) c t : Vec Ideal S1x512x2048 .bf16) y = actRow (inputs m c) ⟨t.val / 32, by have := t_lt t; omega⟩ (row t (y 1))
      ⟨(y 2 : ℕ) / 128, by have h : (y 2 : ℕ) < 2048 := (y 2).isLt; omega⟩ ⟨(y 2 : ℕ) % 128, by omega⟩ := by
  have ht := t_lt t
  unfold act0 actRow
  by_cases h : t.val < 64
  · rw [if_pos h]
    refine (unit_at _ _ _ _ y).trans ?_
    by_cases h0 : t.val / 32 = 0
    · rw [if_pos h0]
      exact congrArg (unitRow · _ _) (funext fun f => q_blk m c t h0 (y 1) f)
    · have h1 : t.val / 32 = 1 := by omega
      rw [if_neg h0, if_pos h1]
      exact congrArg (unitRow · _ _) (funext fun f => k_blk m c t h1 (y 1) f)
  · have h2 : t.val / 32 = 2 := by omega
    rw [if_neg h, if_neg (by dsimp only; omega), if_neg (by dsimp only; omega)]
    have ey : y = ix3 0 (y 1) (y 2) := by
      funext a
      fin_cases a
      · exact Fin.ext (by have h : (y 0 : ℕ) < 1 := (y 0).isLt; show (y 0 : ℕ) = 0; omega)
      · rfl
      · rfl
    rw [ey]
    refine (value_at _ _ (y 1) (y 2)).trans (congrArg silu ((acc_blk m c t 2 h2 (y 1) (y 2)).trans (congrArg (acc _ _ _ _) (Fin.ext ?_))))
    show (y 2 : ℕ) = (y 2 : ℕ) / 128 * 128 + (y 2 : ℕ) % 128
    omega

/-- The activations the first region leaves. -/
theorem acts : (dat0 (E1 m) c).arrAt 6 cfg0.N = actArr (inputs m c) := by
  refine Dat.arrAt_eq_of_covers (dat0 (E1 m) c) 6 _ (by decide +kernel) fun t hf y => ?_
  rw [after0_6]
  blk_simp
  refine (act_blk m c t y).trans ?_
  unfold actArr
  blk_simp [idx0_6 t]
  have e0 : (y 0 : ℕ) < 1 := (y 0).isLt
  refine congrArg₂ (fun a b => actRow (inputs m c) a b _ _) (Fin.ext ?_) (Fin.ext ?_)
  · show t.val / 32 = _
    blk_simp [idx0_6 t] <;> try omega
  · show t.val % 32 * 512 + (y 1 : ℕ) = _
    blk_simp [idx0_6 t] <;> try omega

/-- The rates of every row: three learning rates a head, then a momentum rate a head. -/
def rateRow (I : Inputs) (R : Fin 16384) (o : Fin 64) : EReal :=
  if h : o.val < 48 then lrate I (rb R) (rs R) ⟨o.val, h⟩ else mrate I (rb R) (rs R) ⟨o.val - 48, by omega⟩

def rateArr (I : Inputs) : FVec Ideal S16384x64 .f32 := fun i => rateRow I (i 0) (i 1)

theorem rate_blk (r : Fin 512) (o : Fin 64) : (lrm0 (E1 m) c t : FVec Ideal S512x64 .f32) (ix2 r o) = rateRow (inputs m c) (row t r) o := by
  unfold lrm0
  refine (rates_at _ _ _ r o).trans ?_
  unfold rateRow
  by_cases ho : o.val < 48
  · rw [if_pos ho, dif_pos ho, lb_blk, dif_pos ho]
    unfold lrate
    rw [add_assoc]
    refine congrArg softplus (congrArg (· + _) (Finset.sum_congr rfl fun k _ => ?_))
    rw [x_blk, lw_blk, dif_pos ho]
  · rw [if_neg ho, dif_neg ho, lb_blk, dif_neg ho]
    unfold mrate
    refine congrArg Ideal.logistic (congrArg (· + _) (Finset.sum_congr rfl fun k _ => ?_))
    rw [x_blk, lw_blk, dif_neg ho]

/-- The rates the first region leaves. -/
theorem rates : (dat0 (E1 m) c).arrAt 7 cfg0.N = rateArr (inputs m c) := by
  refine Dat.arrAt_eq_of_covers (dat0 (E1 m) c) 7 _ (by decide +kernel) fun t hf y => ?_
  rw [after0_7]
  blk_simp
  have ey : y = ix2 (y 0) (y 1) := by
    funext a
    fin_cases a <;> rfl
  refine ((congrArg (lrm0 (E1 m) c t) ey).trans (rate_blk m c t (y 0) (y 1))).trans ?_
  unfold rateArr
  refine congrArg₂ (rateRow (inputs m c)) (Fin.ext ?_) (Fin.ext ?_)
  · show t.val % 32 * 512 + (y 0 : ℕ) = _
    blk_simp [idx0_7 t] <;> try omega
  · blk_simp [idx0_7 t] <;> try omega

end Cert.KernelIdeal.Acts

end
-- ==== Proof.IdealHost1.lean ====
/- What the host's operations leave in the second region's operands, entry by entry, in the layer's terms. -/
module

public import proofs.«01_k».proof.Proof.IdealActs

@[expose] public section

set_option maxRecDepth 16384

noncomputable section

namespace Cert.KernelIdeal.Host1

open Idealize.ShloMosaic Idealize.ShloMosaic.TcCoe Idealize.SL.Sem
open Cert.KernelIdeal Cert.KernelIdeal.Gen Cert.KernelIdeal.Two Cert.KernelIdeal.Host0 Cert.KernelIdeal.Acts
open Cert.Layer

/-! ## From any contents -/

section Any
variable (U : Valuation τ sig (Elt Ideal))

/-- Every position's angles. -/
def angles (P : IVec S2x8192 32) : FVec Ideal S2x8192x64 .f32 :=
  mulf (broadcastInDim S2x8192x64 ![0, 1, 2] bcast_S2x8192x1_S2x8192x64_0_1_2 (sitofp .f32 (broadcastInDim S2x8192x1 ![0, 1] bcast_S2x8192_S2x8192x1_0_1 P)))
    (broadcastInDim S2x8192x64 ![0, 1, 2] bcast_S1x1x64_S2x8192x64_0_1_2 (broadcastInDim S1x1x64 ![2] bcast_S64_S1x1x64_2
      (Host.divf (broadcastInDim S64 ![] bcast_S_S64 (constant S_ .f32 0x3F800000#32))
        (Host.powf (broadcastInDim S64 ![] bcast_S_S64 (constant S_ .f32 0x49742400#32))
          (Host.divf (addf (broadcastInDim S64 ![] bcast_S_S64 (constant S_ .f32 0x00000000#32))
            (mulf (broadcastInDim S64 ![] bcast_S_S64 (constant S_ .f32 0x40000000#32)) (sitofp .f32 (iotaInDim S64 32 0))))
            (broadcastInDim S64 ![] bcast_S_S64 (constant S_ .f32 0x43000000#32)))))))

theorem cos_eq : (StableHlo.after hostOps1 U (Proc.devRef .tc main_call0_v50) : FVec Ideal S2x4x2048x64 .f32)
    = shapeCast S2x4x2048x64 (Host.cos (angles (U (Proc.devRef .tc main_arg1)))) shapeCasts_S2x8192x64_S2x4x2048x64 := by
  after_results
  rfl

theorem sin_eq : (StableHlo.after hostOps1 U (Proc.devRef .tc main_call0_v52) : FVec Ideal S2x4x2048x64 .f32)
    = shapeCast S2x4x2048x64 (Host.sin (angles (U (Proc.devRef .tc main_arg1)))) shapeCasts_S2x8192x64_S2x4x2048x64 := by
  after_results
  rfl

theorem rate_eq : (StableHlo.after hostOps1 U (Proc.devRef .tc main_call0_v59) : FVec Ideal S32x4x2048x4 .f32)
    = shapeCast S32x4x2048x4 (transpose S2x16x8192x4 [0, 2, 1, 3] (concatenate S2x8192x16x4 3
        [⟨S2x8192x16x3, shapeCast S2x8192x16x3 (extractStridedSlice S16384x48 ![0, 0] (U (Proc.devRef .tc main_call0_v31_1) : FVec Ideal S16384x64 .f32) slices_S16384x64_S16384x48_0_0) shapeCasts_S16384x48_S2x8192x16x3⟩,
         ⟨S2x8192x16x1, shapeCast S2x8192x16x1 (extractStridedSlice S16384x16 ![0, 48] (U (Proc.devRef .tc main_call0_v31_1) : FVec Ideal S16384x64 .f32) slices_S16384x64_S16384x16_0_48) shapeCasts_S16384x16_S2x8192x16x1⟩]
        concatenates_S2x8192x16x3_S2x8192x16x1_S2x8192x16x4_d3) transposes_S2x8192x16x4_S2x16x8192x4_0_2_1_3) shapeCasts_S2x16x8192x4_S32x4x2048x4 := by
  after_results
  rfl

theorem w02_eq : (StableHlo.after hostOps1 U (Proc.devRef .tc main_call0_v62) : FVec Ideal S16x128x256 .f32)
    = concatenate S16x128x256 2 [⟨S16x128x128, transpose S16x128x128 [0, 2, 1] (U (Proc.devRef .tc main_arg7) : FVec Ideal S16x128x128 .f32) transposes_S16x128x128_S16x128x128_0_2_1⟩,
        ⟨S16x128x128, transpose S16x128x128 [0, 2, 1] (U (Proc.devRef .tc main_arg9) : FVec Ideal S16x128x128 .f32) transposes_S16x128x128_S16x128x128_0_2_1⟩]
      concatenates_S16x128x128_S16x128x128_S16x128x256_d2 := by
  after_results
  rfl

theorem tt_eq : (StableHlo.after hostOps1 U (Proc.devRef .tc main_call0_v63) : FVec Ideal S1x128 .f32)
    = broadcastInDim S1x128 ![1] bcast_S128_S1x128_1 (U (Proc.devRef .tc main_arg14) : FVec Ideal S128 .f32) := by
  after_results
  rfl

theorem qkv_eq : (StableHlo.after hostOps1 U (Proc.devRef .tc main_call0_v64) : FVec Ideal S3x32x4x2048x128 .bf16)
    = shapeCast S3x32x4x2048x128 (U (Proc.devRef .tc main_call0_v31_0) : FVec Ideal S3x16384x2048 .bf16) shapeCasts_S3x16384x2048_S3x32x4x2048x128 := by
  after_results
  rfl

end Any

variable (m : (ℓ : Loc nD τ sig) → Buf (Elt Ideal) ℓ) (c : Dev nD)

theorem angles_at (I : Inputs) (b : Fin 2) (p : Fin 8192) (e : Fin 64) : (angles I.pos) (ix3 b p e) = angle I b p e := by
  pointwise [angles, angle, freq]

theorem cos_at (b : Fin 2) (j : Fin 4) (i : Fin 2048) (e : Fin 64) :
    (B3 m c (Proc.devRef .tc main_call0_v50) : FVec Ideal S2x4x2048x64 .f32) (ix4 b j i e) = cosc (inputs m c) b j i e := by
  refine (congrFun (cos_eq (B2 m c)) _).trans ?_
  rw [B2_args m c main_arg1 (by decide)]
  refine Eq.trans ?_ (congrArg Ideal.cos (angles_at (inputs m c) b (at_ j i) e))
  pointwise [at_, inputs]

theorem sin_at (b : Fin 2) (j : Fin 4) (i : Fin 2048) (e : Fin 64) :
    (B3 m c (Proc.devRef .tc main_call0_v52) : FVec Ideal S2x4x2048x64 .f32) (ix4 b j i e) = sinc (inputs m c) b j i e := by
  refine (congrFun (sin_eq (B2 m c)) _).trans ?_
  rw [B2_args m c main_arg1 (by decide)]
  refine Eq.trans ?_ (congrArg Ideal.sin (angles_at (inputs m c) b (at_ j i) e))
  pointwise [at_, inputs]

theorem rate_at (h : Fin 32) (j : Fin 4) (i : Fin 2048) (e : Fin 4) :
    (B3 m c (Proc.devRef .tc main_call0_v59) : FVec Ideal S32x4x2048x4 .f32) (ix4 h j i e) = lin (inputs m c) h j i e := by
  refine (congrFun (rate_eq (B2 m c)) _).trans ?_
  rw [show B2 m c (Proc.devRef .tc main_call0_v31_1) = rateArr (inputs m c) from (B2_arr m c 7).trans (rates m c)]
  have n1 : (h.val / 16 * 8192 + (j.val * 2048 + i.val)) / 8192 = h.val / 16 := by omega
  have n2 : (h.val / 16 * 8192 + (j.val * 2048 + i.val)) % 8192 = j.val * 2048 + i.val := by omega
  by_cases he : e.val < 3
  · pointwise [rateArr, rateRow, lin, at_, rb, rs, bat, sub, he]
    rw [dif_pos (by omega)]
    simp only [n1, n2]
  · pointwise [rateArr, rateRow, lin, at_, rb, rs, bat, sub, he]
    simp only [n1, n2]

theorem w0_at (h : Fin 16) (d e : Fin 128) :
    (B3 m c (Proc.devRef .tc main_call0_v62) : FVec Ideal S16x128x256 .f32) (ix3 h d ⟨e.val, by omega⟩) = (inputs m c).w0 (ix3 h e d) := by
  refine (congrFun (w02_eq (B2 m c)) _).trans ?_
  rw [B2_args m c main_arg7 (by decide), B2_args m c main_arg9 (by decide)]
  pointwise [inputs]

theorem w2_at (h : Fin 16) (d e : Fin 128) :
    (B3 m c (Proc.devRef .tc main_call0_v62) : FVec Ideal S16x128x256 .f32) (ix3 h d ⟨128 + e.val, by omega⟩) = (inputs m c).w2 (ix3 h e d) := by
  refine (congrFun (w02_eq (B2 m c)) _).trans ?_
  rw [B2_args m c main_arg7 (by decide), B2_args m c main_arg9 (by decide)]
  pointwise [inputs]

theorem w1_at (h : Fin 16) (d e : Fin 128) :
    (B3 m c (Proc.devRef .tc main_arg8) : FVec Ideal S16x128x128 .f32) (ix3 h d e) = (inputs m c).w1 (ix3 h d e) :=
  congrFun ((B3_of m c main_arg8 (hostOps1_args main_arg8 (by decide))).trans (B2_args m c main_arg8 (by decide))) _

theorem tt_at (d : Fin 128) : (B3 m c (Proc.devRef .tc main_call0_v63) : FVec Ideal S1x128 .f32) (ix2 0 d) = (inputs m c).tt (ix1 d) := by
  refine (congrFun (tt_eq (B2 m c)) _).trans ?_
  rw [B2_args m c main_arg14 (by decide)]
  pointwise [inputs]

/-- The activations regrouped by head, chunk and position. -/
theorem qkv_at (a : Fin 3) (h : Fin 32) (j : Fin 4) (i : Fin 2048) (d : Fin 128) :
    (B3 m c (Proc.devRef .tc main_call0_v64) : FVec Ideal S3x32x4x2048x128 .bf16) (ix5 a h j i d)
      = if a.val = 0 then qrow (inputs m c) h (at_ j i) d else if a.val = 1 then krow (inputs m c) h (at_ j i) d else vrow (inputs m c) h (at_ j i) d := by
  refine (congrFun (qkv_eq (B2 m c)) _).trans ?_
  rw [show B2 m c (Proc.devRef .tc main_call0_v31_0) = actArr (inputs m c) from (B2_arr m c 6).trans (acts m c)]
  pointwise [actArr, actRow, rb, rs, at_, qrow, krow, vrow, bat, src, grp, feat]
  have n1 : (h.val * 512 + j.val * 128 + i.val / 16) / 8192 = h.val / 16 := by omega
  have n2 : (h.val * 512 + j.val * 128 + i.val / 16) % 8192 = h.val % 16 * 512 + (j.val * 2048 + i.val) / 16 := by omega
  have n3 : (i.val % 16 * 128 + d.val) / 128 = (j.val * 2048 + i.val) % 16 := by omega
  have n4 : (i.val % 16 * 128 + d.val) % 128 = d.val := by omega
  simp only [n1, n2, n3, n4]

end Cert.KernelIdeal.Host1

end
-- ==== Proof.IdealStep.lean ====
/- One grid point of the second region, head by head, is the layer's step. -/
module

public import proofs.«01_k».proof.Proof.IdealScanStep
public import proofs.«01_k».proof.Proof.Layer
public import Idealize.ShloMosaic.Lib.Pointwise

@[expose] public section

set_option maxRecDepth 16384

noncomputable section

namespace Cert.KernelIdeal.Chunk

open Idealize.ShloMosaic Idealize.ShloMosaic.TcCoe Idealize.SL.Sem
open Cert.KernelIdeal Cert.KernelIdeal.Gen Cert.KernelIdeal.Two
open Cert.Layer

/-- The row's number plus 64, modulo 128, as the body computes it on words. -/
theorem turn_word : ∀ j : Fin 128, Scalar.select
      (IntOp.andi
        (IntOp.xori
          (IntOp.cmpi CmpIPredicate.slt
            (IntOp.remsi ArithUnit.vector (IntOp.addi (BitVec.ofNat 32 j.val) 64#32)
              (Scalar.select (Scalar.cmpi CmpIPredicate.eq 128#32 0#32) 1#32 128#32))
            0#32)
          (Scalar.cmpi CmpIPredicate.slt (Scalar.select (Scalar.cmpi CmpIPredicate.eq 128#32 0#32) 1#32 128#32) 0#32))
        (IntOp.cmpi CmpIPredicate.ne
          (IntOp.remsi ArithUnit.vector (IntOp.addi (BitVec.ofNat 32 j.val) 64#32)
            (Scalar.select (Scalar.cmpi CmpIPredicate.eq 128#32 0#32) 1#32 128#32))
          0#32))
      (IntOp.addi
        (IntOp.remsi ArithUnit.vector (IntOp.addi (BitVec.ofNat 32 j.val) 64#32)
          (Scalar.select (Scalar.cmpi CmpIPredicate.eq 128#32 0#32) 1#32 128#32))
        (Scalar.select (Scalar.cmpi CmpIPredicate.eq 128#32 0#32) 1#32 128#32))
      (IntOp.remsi ArithUnit.vector (IntOp.addi (BitVec.ofNat 32 j.val) 64#32)
        (Scalar.select (Scalar.cmpi CmpIPredicate.eq 128#32 0#32) 1#32 128#32))
    = BitVec.ofNat 32 ((j.val + 64) % 128) := by
  decide +kernel

/-- Words of numbers below 128 are equal where the numbers are. -/
theorem word_eq (j d : Fin 128) : IntOp.cmpi CmpIPredicate.eq (BitVec.ofNat 32 d.val) (BitVec.ofNat 32 ((j.val + 64) % 128)) = if j = ⟨(d.val + 64) % 128, Nat.mod_lt _ (by decide)⟩ then 1#1 else 0#1 := by
  revert j d
  decide +kernel

/-- The matrix the rows are multiplied by has a one where the column is the row's number plus 64, modulo 128. -/
theorem turn_at (j d : Fin 128) : k1_pay8 (F := Ideal) (ix2 j d) = if j = ⟨(d.val + 64) % 128, Nat.mod_lt _ (by decide)⟩ then 1 else 0 := by
  pointwise [k1_pay8]
  refine (congrArg (fun w => Scalar.select (IntOp.cmpi CmpIPredicate.eq (BitVec.ofNat 32 d.val) w) (1 : EReal) 0) (turn_word j)).trans ?_
  show Scalar.select (IntOp.cmpi CmpIPredicate.eq (BitVec.ofNat 32 d.val) (BitVec.ofNat 32 ((j.val + 64) % 128))) (1 : EReal) 0 = _
  rw [word_eq]
  split <;> rfl

/-- The given weights of the angles as tables. -/
def ang (x : FVec Ideal S1x1x2048x64 .f32) : Mat 2048 64 := fun i d => x (ix4 0 0 i d)

/-- A block of rows as a table. -/
def rows (x : FVec Ideal S1x1x1x2048x128 .bf16) : Mat 2048 128 := fun i d => x (ix5 0 0 0 i d)

theorem turned (x : FVec Ideal S1x1x1x2048x128 .bf16) (i : Fin 2048) (d : Fin 128) :
    (∑ j : Fin 128, x (ix5 0 0 0 i j) * k1_pay8 (F := Ideal) (ix2 j d)) = rows x i ⟨(d.val + 64) % 128, Nat.mod_lt _ (by decide)⟩ := by
  simp only [turn_at, mul_ite, mul_one, mul_zero, Finset.sum_ite_eq', Finset.mem_univ, if_true]
  rfl

theorem pay9_at (x1 x2 : FVec Ideal S1x1x2048x64 .f32) (k : FVec Ideal S1x1x1x2048x128 .bf16) (i : Fin 2048) (d : Fin 128) :
    k1_pay9 (F := Ideal) (k1_pay6 x1) (k1_pay7 x2) k1_pay8 k (ix2 i d) = rope (ang x1) (ang x2) (rows k) i d := by
  pointwise [k1_pay9, k1_pay6, k1_pay7, turned, rope, rows, ang]
  by_cases h : d.val < 64
  · simp only [dif_pos h]
    rw [sub_eq_add_neg, zero_add, mul_neg, neg_mul]
    simp only [Nat.mod_eq_of_lt (show d.val + 64 < 128 by omega)]
  · simp only [dif_neg h]
    have e : (d.val + 64) % 128 = d.val - 64 := by omega
    simp only [e]

/-- The lower and upper half of the joined gate and up weights' columns. -/
def lo (e : Fin 128) : Fin 256 := ⟨e.val, by omega⟩
def hi (e : Fin 128) : Fin 256 := ⟨128 + e.val, by omega⟩

/-- One head's slices of the four carried buffers: its weights and momenta. -/
def sliced (w : FVec Ideal S1x128x256 .f32) (v : FVec Ideal S1x128x128 .f32) (m : FVec Ideal S1x128x256 .f32) (n : FVec Ideal S1x128x128 .f32) : Head where
  w0 e d := w (ix3 0 d (lo e))
  w1 a b := v (ix3 0 a b)
  w2 e d := w (ix3 0 d (hi e))
  m0 e d := m (ix3 0 d (lo e))
  m1 a b := n (ix3 0 a b)
  m2 e d := m (ix3 0 d (hi e))

/-- A block of rates as a table. -/
def rates (l : FVec Ideal S1x1x2048x4 .f32) : Mat 2048 4 := fun i e => l (ix4 0 0 i e)

section
variable (x1 x2 : FVec Ideal S1x1x2048x64 .f32) (x6 : FVec Ideal S1x128 .f32) (q k u : FVec Ideal S1x1x1x2048x128 .bf16) (l : FVec Ideal S1x1x2048x4 .f32)
  (w : FVec Ideal S1x128x256 .f32) (v : FVec Ideal S1x128x128 .f32) (m : FVec Ideal S1x128x256 .f32) (n : FVec Ideal S1x128x128 .f32)

theorem pay32_at (i : Fin 2048) (d : Fin 128) :
    k1_pay32 (F := Ideal) (k1_pay6 x1) (k1_pay7 x2) k1_pay8 k (ix2 i d) = rope (ang x1) (ang x2) (rows k) i d :=
  (show k1_pay32 (F := Ideal) (k1_pay6 x1) (k1_pay7 x2) k1_pay8 k = k1_pay9 (F := Ideal) (k1_pay6 x1) (k1_pay7 x2) k1_pay8 k from rfl) ▸ pay9_at x1 x2 k i d

/-! The second head's stretch of the body computes what the first's does, its operations cut at other places. -/

theorem ma1_eq : ma1 (F := Ideal) x1 x2 k u l w v m = ma0 (F := Ideal) x1 x2 k u l w v m := rfl
theorem mb1_eq : k1_pay49 (F := Ideal) (k1_pay46 l) (mb1 x1 x2 k u l w) n = mb0 (F := Ideal) x1 x2 k u l w n := rfl
theorem o1_eq : o1 (F := Ideal) x1 x2 x6 q w v = o0 (F := Ideal) x1 x2 x6 q w v := rfl

theorem gate_at (i : Fin 2048) (e : Fin 128) :
    k1_pay15 (F := Ideal) (k1_pay6 x1) (k1_pay7 x2) k1_pay8 k w (ix2 i e) = up (rope (ang x1) (ang x2) (rows k)) (sliced w v m n).w0 i e := by
  pointwise [k1_pay15, k1_pay14, k1_pay11, pay9_at, up, sliced, lo]

theorem up_at (i : Fin 2048) (e : Fin 128) :
    k1_pay16 (F := Ideal) (k1_pay6 x1) (k1_pay7 x2) k1_pay8 k w (ix2 i e) = up (rope (ang x1) (ang x2) (rows k)) (sliced w v m n).w2 i e := by
  pointwise [k1_pay16, k1_pay14, k1_pay11, pay9_at, up, sliced, hi]

theorem hid_at (i : Fin 2048) (e : Fin 128) :
    k1_pay19 (F := Ideal) (k1_pay6 x1) (k1_pay7 x2) k1_pay8 k w (ix2 i e) = hid (rope (ang x1) (ang x2) (rows k)) (sliced w v m n).w0 (sliced w v m n).w2 i e := by
  pointwise [k1_pay19, k1_pay18, k1_pay17, gate_at x1 x2 k w v m n, up_at x1 x2 k w v m n, hid, silu]

theorem back_at (i : Fin 2048) (e : Fin 128) :
    k1_pay20 (F := Ideal) u v (ix2 i e) = back (sliced w v m n) (rows u) i e := by
  pointwise [k1_pay20, k1_pay10, k1_pay12, back, sliced, rows]

theorem mbar_at : k1_pay22 (F := Ideal) l (ix2 0 0) = mbar (rates l) := by
  pointwise [k1_pay22, k1_pay21, mbar, rates]

theorem ma0_lo (e d : Fin 128) : ma0 (F := Ideal) x1 x2 k u l w v m (ix2 d (lo e)) = next0 (sliced w v m n) (rope (ang x1) (ang x2) (rows k)) (rows u) (rates l) e d := by
  pointwise [ma0, k1_pay23, k1_pay21, k1_pay17, k1_pay18, mbar_at, gate_at x1 x2 k w v m n, up_at x1 x2 k w v m n, back_at u w v m n, pay9_at, next0, dgate, lo]
  exact congrArg (_ + ·) (Finset.sum_congr rfl fun _ _ => mul_left_comm _ _ _)

theorem ma0_hi (e d : Fin 128) : ma0 (F := Ideal) x1 x2 k u l w v m (ix2 d (hi e)) = next2 (sliced w v m n) (rope (ang x1) (ang x2) (rows k)) (rows u) (rates l) e d := by
  pointwise [ma0, k1_pay23, k1_pay21, k1_pay17, k1_pay18, mbar_at, gate_at x1 x2 k w v m n, up_at x1 x2 k w v m n, back_at u w v m n, pay9_at, next2, dup, silu, hi]
  exact congrArg (_ + ·) (Finset.sum_congr rfl fun _ _ => mul_left_comm _ _ _)

theorem mb0_at (a b : Fin 128) : mb0 (F := Ideal) x1 x2 k u l w n (ix2 a b) = next1 (sliced w v m n) (rope (ang x1) (ang x2) (rows k)) (rows u) (rates l) a b := by
  pointwise [mb0, k1_pay24, k1_pay21, k1_pay10, mbar_at, hid_at x1 x2 k w v m n, next1]
  rfl

theorem out_at (i : Fin 2048) (d : Fin 128) :
    k1_pay13 (F := Ideal) (k1_pay6 x1) (k1_pay7 x2) k1_pay8 q w v (ix2 i d) = out (sliced w v m n) (rope (ang x1) (ang x2) (rows q)) i d := by
  refine (show _ = k1_pay39 (k1_pay12 v) (k1_pay18 (F := Ideal) (k1_pay6 x1) (k1_pay7 x2) k1_pay8 q w) (k1_pay16 (F := Ideal) (k1_pay6 x1) (k1_pay7 x2) k1_pay8 q w) (ix2 i d) from rfl).trans ?_
  pointwise [k1_pay39, k1_pay12, k1_pay18, k1_pay17, gate_at x1 x2 q w v m n, up_at x1 x2 q w v m n, out, hid, silu, sliced]

theorem o0_at (i : Fin 2048) (d : Fin 128) :
    o0 (F := Ideal) x1 x2 x6 q w v (ix3 0 i d) = normed (fun d => x6 (ix2 0 d)) (out (sliced w v m n) (rope (ang x1) (ang x2) (rows q))) i d := by
  pointwise [o0, k1_pay31, k1_pay30, k1_pay29, out_at x1 x2 q w v m n, normed, eps]

theorem w0_at (e d : Fin 128) : k1_pay27 (F := Ideal) (k1_pay11 w) (ma0 x1 x2 k u l w v m) (ix3 0 d (lo e)) = (next (sliced w v m n) (rope (ang x1) (ang x2) (rows k)) (rows u) (rates l)).w0 e d := by
  pointwise [k1_pay27, k1_pay11, ma0_lo x1 x2 k u l w v m n, next, unit, eps]
  rfl

theorem w2_at (e d : Fin 128) : k1_pay27 (F := Ideal) (k1_pay11 w) (ma0 x1 x2 k u l w v m) (ix3 0 d (hi e)) = (next (sliced w v m n) (rope (ang x1) (ang x2) (rows k)) (rows u) (rates l)).w2 e d := by
  pointwise [k1_pay27, k1_pay11, ma0_hi x1 x2 k u l w v m n, next, unit, eps]
  rfl

theorem w1_at (a b : Fin 128) : k1_pay28 (F := Ideal) (k1_pay12 v) (mb0 x1 x2 k u l w n) (ix3 0 a b) = (next (sliced w v m n) (rope (ang x1) (ang x2) (rows k)) (rows u) (rates l)).w1 a b := by
  pointwise [k1_pay28, k1_pay12, mb0_at x1 x2 k u l w v m n, next, unit, eps]
  rfl

end

/-- One head's part of the four carried buffers. -/
def part (st : Carry Ideal) (s : Fin 2) : Head where
  w0 e d := (show FVec Ideal S2x128x256 .f32 from st.w02) (ix3 s d (lo e))
  w1 a b := (show FVec Ideal S2x128x128 .f32 from st.w1) (ix3 s a b)
  w2 e d := (show FVec Ideal S2x128x256 .f32 from st.w02) (ix3 s d (hi e))
  m0 e d := (show FVec Ideal S2x128x256 .f32 from st.m02) (ix3 s d (lo e))
  m1 a b := (show FVec Ideal S2x128x128 .f32 from st.m1) (ix3 s a b)
  m2 e d := (show FVec Ideal S2x128x256 .f32 from st.m02) (ix3 s d (hi e))

variable (x0 : Vec Ideal S3x2x1x2048x128 .bf16) (x1 x2 : FVec Ideal S1x1x2048x64 .f32) (x3 : Vec Ideal S2x1x2048x4 .f32) (x6 : FVec Ideal S1x128 .f32) (st : Carry Ideal)

/-- The head's queries, keys, values and rates in the blocks of a pair of heads. -/
def qrow (s : Fin 2) : Mat 2048 128 := fun i d => x0 (ix5 0 s 0 i d)
def krow (s : Fin 2) : Mat 2048 128 := fun i d => x0 (ix5 1 s 0 i d)
def vrow (s : Fin 2) : Mat 2048 128 := fun i d => x0 (ix5 2 s 0 i d)
def lrow (s : Fin 2) : Mat 2048 4 := fun i e => x3 (ix4 s 0 i e)

/-- The slices one head's stretch of the body reads. -/
structure Reads (s : Fin 2) (q k u : Vec Ideal S1x1x1x2048x128 .bf16) (l : Vec Ideal S1x1x2048x4 .f32)
    (w : Vec Ideal S1x128x256 .f32) (v : Vec Ideal S1x128x128 .f32) (m : Vec Ideal S1x128x256 .f32) (n : Vec Ideal S1x128x128 .f32) : Prop where
  q : rows q = qrow x0 s
  k : rows k = krow x0 s
  u : rows u = vrow x0 s
  l : rates l = lrow x3 s
  h : sliced w v m n = part st s

theorem reads0 : Reads x0 x3 st 0
    (View.ld x0 (Rect.unit ![0, 0, 0, 0, 0] S1x1x1x2048x128.size inb_S3x2x1x2048x128_S1x1x1x2048x128_0_0_0_0_0)) (View.ld x0 (Rect.unit ![1, 0, 0, 0, 0] S1x1x1x2048x128.size inb_S3x2x1x2048x128_S1x1x1x2048x128_1_0_0_0_0)) (View.ld x0 (Rect.unit ![2, 0, 0, 0, 0] S1x1x1x2048x128.size inb_S3x2x1x2048x128_S1x1x1x2048x128_2_0_0_0_0)) (View.ld x3 (Rect.unit ![0, 0, 0, 0] S1x1x2048x4.size inb_S2x1x2048x4_S1x1x2048x4_0_0_0_0)) (View.ld st.w02 (Rect.unit ![0, 0, 0] S1x128x256.size inb_S2x128x256_S1x128x256_0_0_0)) (View.ld st.w1 (Rect.unit ![0, 0, 0] S1x128x128.size inb_S2x128x128_S1x128x128_0_0_0)) (View.ld st.m02 (Rect.unit ![0, 0, 0] S1x128x256.size inb_S2x128x256_S1x128x256_0_0_0)) (View.ld st.m1 (Rect.unit ![0, 0, 0] S1x128x128.size inb_S2x128x128_S1x128x128_0_0_0)) where
  q := by funext i d; pointwise [rows, qrow]
  k := by funext i d; pointwise [rows, krow]
  u := by funext i d; pointwise [rows, vrow]
  l := by funext i d; pointwise [rates, lrow]
  h := by
    refine Head.mk.injEq .. |>.mpr ⟨?_, ?_, ?_, ?_, ?_, ?_⟩ <;> funext e d <;> pointwise

theorem reads1 : Reads x0 x3 st 1
    (View.ld x0 (Rect.unit ![0, 1, 0, 0, 0] S1x1x1x2048x128.size inb_S3x2x1x2048x128_S1x1x1x2048x128_0_1_0_0_0)) (View.ld x0 (Rect.unit ![1, 1, 0, 0, 0] S1x1x1x2048x128.size inb_S3x2x1x2048x128_S1x1x1x2048x128_1_1_0_0_0)) (View.ld x0 (Rect.unit ![2, 1, 0, 0, 0] S1x1x1x2048x128.size inb_S3x2x1x2048x128_S1x1x1x2048x128_2_1_0_0_0)) (View.ld x3 (Rect.unit ![1, 0, 0, 0] S1x1x2048x4.size inb_S2x1x2048x4_S1x1x2048x4_1_0_0_0)) (View.ld st.w02 (Rect.unit ![1, 0, 0] S1x128x256.size inb_S2x128x256_S1x128x256_1_0_0)) (View.ld st.w1 (Rect.unit ![1, 0, 0] S1x128x128.size inb_S2x128x128_S1x128x128_1_0_0)) (View.ld st.m02 (Rect.unit ![1, 0, 0] S1x128x256.size inb_S2x128x256_S1x128x256_1_0_0)) (View.ld st.m1 (Rect.unit ![1, 0, 0] S1x128x128.size inb_S2x128x128_S1x128x128_1_0_0)) where
  q := by funext i d; pointwise [rows, qrow]
  k := by funext i d; pointwise [rows, krow]
  u := by funext i d; pointwise [rows, vrow]
  l := by funext i d; pointwise [rates, lrow]
  h := by
    refine Head.mk.injEq .. |>.mpr ⟨?_, ?_, ?_, ?_, ?_, ?_⟩ <;> funext e d <;> pointwise

variable {x0 x3 st} {s : Fin 2} {q k u : Vec Ideal S1x1x1x2048x128 .bf16} {l : Vec Ideal S1x1x2048x4 .f32}
  {w : Vec Ideal S1x128x256 .f32} {v : Vec Ideal S1x128x128 .f32} {m : Vec Ideal S1x128x256 .f32} {n : Vec Ideal S1x128x128 .f32}

/-- The head after the chunk. -/
abbrev after (x0 : FVec Ideal S3x2x1x2048x128 .bf16) (x1 x2 : FVec Ideal S1x1x2048x64 .f32) (x3 : FVec Ideal S2x1x2048x4 .f32) (st : Carry Ideal) (s : Fin 2) : Head :=
  next (part st s) (rope (ang x1) (ang x2) (krow x0 s)) (vrow x0 s) (lrow x3 s)

theorem Reads.m0 (R : Reads x0 x3 st s q k u l w v m n) (e d : Fin 128) : ma0 (F := Ideal) x1 x2 k u l w v m (ix2 d (lo e)) = (after x0 x1 x2 x3 st s).m0 e d := by
  refine (ma0_lo x1 x2 k u l w v m n e d).trans ?_
  rw [R.k, R.u, R.l, R.h]; rfl

theorem Reads.m2 (R : Reads x0 x3 st s q k u l w v m n) (e d : Fin 128) : ma0 (F := Ideal) x1 x2 k u l w v m (ix2 d (hi e)) = (after x0 x1 x2 x3 st s).m2 e d := by
  refine (ma0_hi x1 x2 k u l w v m n e d).trans ?_
  rw [R.k, R.u, R.l, R.h]; rfl

theorem Reads.m1 (R : Reads x0 x3 st s q k u l w v m n) (a b : Fin 128) : mb0 (F := Ideal) x1 x2 k u l w n (ix2 a b) = (after x0 x1 x2 x3 st s).m1 a b := by
  refine (mb0_at x1 x2 k u l w v m n a b).trans ?_
  rw [R.k, R.u, R.l, R.h]; rfl

theorem Reads.w0 (R : Reads x0 x3 st s q k u l w v m n) (e d : Fin 128) : k1_pay27 (F := Ideal) (k1_pay11 w) (ma0 x1 x2 k u l w v m) (ix3 0 d (lo e)) = (after x0 x1 x2 x3 st s).w0 e d := by
  refine (w0_at x1 x2 k u l w v m n e d).trans ?_
  rw [R.k, R.u, R.l, R.h]

theorem Reads.w2 (R : Reads x0 x3 st s q k u l w v m n) (e d : Fin 128) : k1_pay27 (F := Ideal) (k1_pay11 w) (ma0 x1 x2 k u l w v m) (ix3 0 d (hi e)) = (after x0 x1 x2 x3 st s).w2 e d := by
  refine (w2_at x1 x2 k u l w v m n e d).trans ?_
  rw [R.k, R.u, R.l, R.h]

theorem Reads.w1 (R : Reads x0 x3 st s q k u l w v m n) (a b : Fin 128) : k1_pay28 (F := Ideal) (k1_pay12 v) (mb0 x1 x2 k u l w n) (ix3 0 a b) = (after x0 x1 x2 x3 st s).w1 a b := by
  refine (w1_at x1 x2 k u l w v m n a b).trans ?_
  rw [R.k, R.u, R.l, R.h]

theorem Reads.o (R : Reads x0 x3 st s q k u l w v m n) (i : Fin 2048) (d : Fin 128) :
    o0 (F := Ideal) x1 x2 x6 q w v (ix3 0 i d) = normed (fun d => x6 (ix2 0 d)) (out (part st s) (rope (ang x1) (ang x2) (qrow x0 s))) i d := by
  refine (o0_at x1 x2 x6 q w v m n i d).trans ?_
  rw [R.q, R.h]

variable (x0 x3 st)

/-- An index is determined by its three coordinates. -/
theorem at3 {a b c : ℕ} (x : (⟨3, ![a, b, c]⟩ : Shape).Idx) (i : Fin a) (j : Fin b) (k : Fin c) (hi : i.val = (x 0).val) (hj : j.val = (x 1).val) (hk : k.val = (x 2).val) :
    x = ix3 i j k :=
  (eq_ix3 x).trans ((ix3_inj ..).2 ⟨Fin.ext hi.symm, Fin.ext hj.symm, Fin.ext hk.symm⟩)

set_option maxHeartbeats 800000 in
theorem part_next_w0 (s : Fin 2) (e d : Fin 128) : (part (chunkNext x0 x1 x2 x3 st) s).w0 e d = (after x0 x1 x2 x3 st s).w0 e d := by
  unfold chunkNext pc_w02
  show View.canon _ _ = _
  canon_tiles x h
  · obtain rfl : s = 1 := Fin.ext (show s.val = 1 by have h0' : s.val = 1 + (x 0).val := h0; omega)
    rw [at3 x 0 d (lo e) (by show 0 = (x 0).val; omega) h1 h2]
    exact ((reads1 x0 x3 st).w0 x1 x2 e d)
  · obtain rfl : s = 0 := Fin.ext (show s.val = 0 by have h0' : s.val = (x 0).val := h0; omega)
    rw [at3 x 0 d (lo e) (by show 0 = (x 0).val; omega) h1 h2]
    exact ((reads0 x0 x3 st).w0 x1 x2 e d)

set_option maxHeartbeats 800000 in
theorem part_next_w1 (s : Fin 2) (e d : Fin 128) : (part (chunkNext x0 x1 x2 x3 st) s).w1 e d = (after x0 x1 x2 x3 st s).w1 e d := by
  unfold chunkNext pc_w1
  show View.canon _ _ = _
  canon_tiles x h
  · obtain rfl : s = 1 := Fin.ext (show s.val = 1 by have h0' : s.val = 1 + (x 0).val := h0; omega)
    rw [at3 x 0 e d (by show 0 = (x 0).val; omega) h1 h2]
    exact ((reads1 x0 x3 st).w1 x1 x2 e d)
  · obtain rfl : s = 0 := Fin.ext (show s.val = 0 by have h0' : s.val = (x 0).val := h0; omega)
    rw [at3 x 0 e d (by show 0 = (x 0).val; omega) h1 h2]
    exact ((reads0 x0 x3 st).w1 x1 x2 e d)

set_option maxHeartbeats 800000 in
theorem part_next_w2 (s : Fin 2) (e d : Fin 128) : (part (chunkNext x0 x1 x2 x3 st) s).w2 e d = (after x0 x1 x2 x3 st s).w2 e d := by
  unfold chunkNext pc_w02
  show View.canon _ _ = _
  canon_tiles x h
  · obtain rfl : s = 1 := Fin.ext (show s.val = 1 by have h0' : s.val = 1 + (x 0).val := h0; omega)
    rw [at3 x 0 d (hi e) (by show 0 = (x 0).val; omega) h1 h2]
    exact ((reads1 x0 x3 st).w2 x1 x2 e d)
  · obtain rfl : s = 0 := Fin.ext (show s.val = 0 by have h0' : s.val = (x 0).val := h0; omega)
    rw [at3 x 0 d (hi e) (by show 0 = (x 0).val; omega) h1 h2]
    exact ((reads0 x0 x3 st).w2 x1 x2 e d)

set_option maxHeartbeats 800000 in
theorem part_next_m0 (s : Fin 2) (e d : Fin 128) : (part (chunkNext x0 x1 x2 x3 st) s).m0 e d = (after x0 x1 x2 x3 st s).m0 e d := by
  unfold chunkNext pc_m02
  show View.canon _ _ = _
  canon_tiles x h
  · obtain rfl : s = 1 := Fin.ext (show s.val = 1 by have h0' : s.val = 1 + (x 0).val := h0; omega)
    rw [at3 x 0 d (lo e) (by show 0 = (x 0).val; omega) h1 h2]
    exact Eq.trans (by pointwise [k1_pay50, ma1_eq]) ((reads1 x0 x3 st).m0 x1 x2 e d)
  · obtain rfl : s = 0 := Fin.ext (show s.val = 0 by have h0' : s.val = (x 0).val := h0; omega)
    rw [at3 x 0 d (lo e) (by show 0 = (x 0).val; omega) h1 h2]
    exact Eq.trans (by unfold mas0 k1_pay25; pointwise; rfl) ((reads0 x0 x3 st).m0 x1 x2 e d)

set_option maxHeartbeats 800000 in
theorem part_next_m1 (s : Fin 2) (e d : Fin 128) : (part (chunkNext x0 x1 x2 x3 st) s).m1 e d = (after x0 x1 x2 x3 st s).m1 e d := by
  unfold chunkNext pc_m1
  show View.canon _ _ = _
  canon_tiles x h
  · obtain rfl : s = 1 := Fin.ext (show s.val = 1 by have h0' : s.val = 1 + (x 0).val := h0; omega)
    rw [at3 x 0 e d (by show 0 = (x 0).val; omega) h1 h2]
    exact Eq.trans (by unfold k1_pay51; pointwise [mb1_eq]) ((reads1 x0 x3 st).m1 x1 x2 e d)
  · obtain rfl : s = 0 := Fin.ext (show s.val = 0 by have h0' : s.val = (x 0).val := h0; omega)
    rw [at3 x 0 e d (by show 0 = (x 0).val; omega) h1 h2]
    exact Eq.trans (by pointwise [k1_pay26]) ((reads0 x0 x3 st).m1 x1 x2 e d)

set_option maxHeartbeats 800000 in
theorem part_next_m2 (s : Fin 2) (e d : Fin 128) : (part (chunkNext x0 x1 x2 x3 st) s).m2 e d = (after x0 x1 x2 x3 st s).m2 e d := by
  unfold chunkNext pc_m02
  show View.canon _ _ = _
  canon_tiles x h
  · obtain rfl : s = 1 := Fin.ext (show s.val = 1 by have h0' : s.val = 1 + (x 0).val := h0; omega)
    rw [at3 x 0 d (hi e) (by show 0 = (x 0).val; omega) h1 h2]
    exact Eq.trans (by pointwise [k1_pay50, ma1_eq]) ((reads1 x0 x3 st).m2 x1 x2 e d)
  · obtain rfl : s = 0 := Fin.ext (show s.val = 0 by have h0' : s.val = (x 0).val := h0; omega)
    rw [at3 x 0 d (hi e) (by show 0 = (x 0).val; omega) h1 h2]
    exact Eq.trans (by unfold mas0 k1_pay25; pointwise; rfl) ((reads0 x0 x3 st).m2 x1 x2 e d)

/-- A chunk takes each of the pair's heads one step on. -/
theorem part_next (s : Fin 2) : part (chunkNext x0 x1 x2 x3 st) s = after x0 x1 x2 x3 st s :=
  Head.same (part_next_w0 x0 x1 x2 x3 st s) (part_next_w1 x0 x1 x2 x3 st s) (part_next_w2 x0 x1 x2 x3 st s)
    (part_next_m0 x0 x1 x2 x3 st s) (part_next_m1 x0 x1 x2 x3 st s) (part_next_m2 x0 x1 x2 x3 st s)

/-- The chunk's output block: each head's half, normed. -/
theorem chunkOut_at (s : Fin 2) (i : Fin 2048) (d : Fin 128) :
    (show FVec Ideal S1x2048x256 .f32 from chunkOut x0 x1 x2 x3 x6 st) (ix3 0 i ⟨s.val * 128 + d.val, by omega⟩)
      = normed (fun d => x6 (ix2 0 d)) (out (part st s) (rope (ang x1) (ang x2) (qrow x0 s))) i d := by
  unfold chunkOut pc_out
  show View.canon _ _ = _
  canon_tiles x h
  · have h2' : s.val * 128 + d.val = 128 + (x 2).val := h2
    obtain rfl : s = 1 := Fin.ext (show s.val = 1 by omega)
    rw [at3 x 0 i d (by show 0 = (x 0).val; omega) h1 (by have : (1 : Fin 2).val = 1 := rfl; omega)]
    exact (reads1 x0 x3 st).o x1 x2 x6 i d
  · have h2' : s.val * 128 + d.val = (x 2).val := h2
    obtain rfl : s = 0 := Fin.ext (show s.val = 0 by omega)
    rw [at3 x 0 i d (by show 0 = (x 0).val; omega) h1 (by have : (0 : Fin 2).val = 0 := rfl; omega)]
    exact (reads0 x0 x3 st).o x1 x2 x6 i d

end Cert.KernelIdeal.Chunk

end
-- ==== Proof.IdealRows.lean ====
/- The second region's points in the layer's terms: the blocks each reads, the heads it carries, and the array the region leaves. -/
module

public import proofs.«01_k».proof.Proof.IdealHost1
public import proofs.«01_k».proof.Proof.IdealStep

@[expose] public section

set_option maxRecDepth 16384

noncomputable section

namespace Cert.KernelIdeal.Rows

open Idealize.ShloMosaic Idealize.ShloMosaic.TcCoe Idealize.ShloMosaic.Tactic Idealize.SL Idealize.SL.Sem
open Idealize.ShloMosaic.Pipeline (Dat RDat Cfg Window)
open Cert.KernelIdeal Cert.KernelIdeal.Gen Cert.KernelIdeal.Two Cert.KernelIdeal.Host0 Cert.KernelIdeal.Host1 Cert.KernelIdeal.Chunk
open Cert.Layer (Inputs Mat Head bat sub at_ cosc sinc lin qin kin vin first heads result rope normed out next)

/-! ## Where the windows stand -/

theorem idx1_0 : ∀ t : Fin grid1.N, win1_0.index t = ![0, t.val / 4, t.val % 4, 0, 0] := by decide +kernel
theorem idx1_1 : ∀ t : Fin grid1.N, win1_1.index t = ![t.val / 32, t.val % 4, 0, 0] := by decide +kernel
theorem idx1_2 : ∀ t : Fin grid1.N, win1_2.index t = ![t.val / 32, t.val % 4, 0, 0] := by decide +kernel
theorem idx1_3 : ∀ t : Fin grid1.N, win1_3.index t = ![t.val / 4, t.val % 4, 0, 0] := by decide +kernel
theorem idx1_4 : ∀ t : Fin grid1.N, win1_4.index t = ![t.val / 4 % 8, 0, 0] := by decide +kernel
theorem idx1_5 : ∀ t : Fin grid1.N, win1_5.index t = ![t.val / 4 % 8, 0, 0] := by decide +kernel
theorem idx1_6 : ∀ t : Fin grid1.N, win1_6.index t = ![0, 0] := by decide +kernel
theorem idx1_7 : ∀ t : Fin grid1.N, win1_7.index t = ![t.val / 32, t.val % 4, t.val / 4 % 8] := by decide +kernel

variable (m : (ℓ : Loc nD τ sig) → Buf (Elt Ideal) ℓ) (c : Dev nD) (t : Fin cfg1.N)

theorem t_lt : t.val < 64 := lt_of_lt_of_eq t.isLt N_1

/-- The head a point's slot `s` works on. -/
def hd (s : Fin 2) : Fin 32 := ⟨2 * (t.val / 4) + s.val, by have := t_lt t; omega⟩

/-- Its chunk. -/
def ck : Fin 4 := ⟨t.val % 4, by omega⟩

/-! ## The blocks -/

theorem qkv_blk (a : Fin 3) (s : Fin 2) (i : Fin 2048) (d : Fin 128) :
    (iblk1 (E3 m) c 0 t : Vec Ideal S3x2x1x2048x128 .bf16) (ix5 a s 0 i d)
      = if a.val = 0 then Cert.Layer.qrow (inputs m c) (hd t s) (at_ (ck t) i) d
        else if a.val = 1 then Cert.Layer.krow (inputs m c) (hd t s) (at_ (ck t) i) d
        else Cert.Layer.vrow (inputs m c) (hd t s) (at_ (ck t) i) d := by
  refine Eq.trans ?_ (qkv_at m c a (hd t s) (ck t) i d)
  unfold iblk1
  blk_ext [idx1_0 t, hd, ck]

theorem cos_blk (s : Fin 2) (i : Fin 2048) (e : Fin 64) :
    (iblk1 (E3 m) c 1 t : FVec Ideal S1x1x2048x64 .f32) (ix4 0 0 i e) = cosc (inputs m c) (bat (hd t s)) (ck t) i e := by
  refine Eq.trans ?_ (cos_at m c (bat (hd t s)) (ck t) i e)
  unfold iblk1
  blk_ext [idx1_1 t, hd, ck, bat]

theorem sin_blk (s : Fin 2) (i : Fin 2048) (e : Fin 64) :
    (iblk1 (E3 m) c 2 t : FVec Ideal S1x1x2048x64 .f32) (ix4 0 0 i e) = sinc (inputs m c) (bat (hd t s)) (ck t) i e := by
  refine Eq.trans ?_ (sin_at m c (bat (hd t s)) (ck t) i e)
  unfold iblk1
  blk_ext [idx1_2 t, hd, ck, bat]

theorem rate_blk (s : Fin 2) (i : Fin 2048) (e : Fin 4) :
    (iblk1 (E3 m) c 3 t : Vec Ideal S2x1x2048x4 .f32) (ix4 s 0 i e) = lin (inputs m c) (hd t s) (ck t) i e := by
  refine Eq.trans ?_ (rate_at m c (hd t s) (ck t) i e)
  unfold iblk1
  blk_ext [idx1_3 t, hd, ck]

theorem w0_blk (s : Fin 2) (d e : Fin 128) :
    (iblk1 (E3 m) c 4 t : FVec Ideal S2x128x256 .f32) (ix3 s d (lo e)) = (inputs m c).w0 (ix3 (sub (hd t s)) e d) := by
  refine Eq.trans ?_ (w0_at m c (sub (hd t s)) d e)
  unfold iblk1
  blk_ext [idx1_4 t, hd, sub, lo]

theorem w2_blk (s : Fin 2) (d e : Fin 128) :
    (iblk1 (E3 m) c 4 t : FVec Ideal S2x128x256 .f32) (ix3 s d (hi e)) = (inputs m c).w2 (ix3 (sub (hd t s)) e d) := by
  refine Eq.trans ?_ (w2_at m c (sub (hd t s)) d e)
  unfold iblk1
  blk_ext [idx1_4 t, hd, sub, hi]

theorem w1_blk (s : Fin 2) (d e : Fin 128) :
    (iblk1 (E3 m) c 5 t : FVec Ideal S2x128x128 .f32) (ix3 s d e) = (inputs m c).w1 (ix3 (sub (hd t s)) d e) := by
  refine Eq.trans ?_ (w1_at m c (sub (hd t s)) d e)
  unfold iblk1
  blk_ext [idx1_5 t, hd, sub]

theorem tt_blk (d : Fin 128) : (iblk1 (E3 m) c 6 t : FVec Ideal S1x128 .f32) (ix2 0 d) = (inputs m c).tt (ix1 d) := by
  refine Eq.trans ?_ (tt_at m c d)
  unfold iblk1
  blk_ext [idx1_6 t]

/-! ## The rows a slot reads -/

theorem q_in (s : Fin 2) : rope (ang (iblk1 (E3 m) c 1 t)) (ang (iblk1 (E3 m) c 2 t)) (Chunk.qrow (iblk1 (E3 m) c 0 t) s) = qin (inputs m c) (hd t s) (ck t) := by
  unfold qin
  rw [show ang (iblk1 (E3 m) c 1 t) = cosc (inputs m c) (bat (hd t s)) (ck t) from funext fun i => funext fun e => cos_blk m c t s i e,
    show ang (iblk1 (E3 m) c 2 t) = sinc (inputs m c) (bat (hd t s)) (ck t) from funext fun i => funext fun e => sin_blk m c t s i e,
    show Chunk.qrow (iblk1 (E3 m) c 0 t) s = _ from funext fun i => funext fun d => qkv_blk m c t 0 s i d]
  rfl

theorem k_in (s : Fin 2) : rope (ang (iblk1 (E3 m) c 1 t)) (ang (iblk1 (E3 m) c 2 t)) (Chunk.krow (iblk1 (E3 m) c 0 t) s) = kin (inputs m c) (hd t s) (ck t) := by
  unfold kin
  rw [show ang (iblk1 (E3 m) c 1 t) = cosc (inputs m c) (bat (hd t s)) (ck t) from funext fun i => funext fun e => cos_blk m c t s i e,
    show ang (iblk1 (E3 m) c 2 t) = sinc (inputs m c) (bat (hd t s)) (ck t) from funext fun i => funext fun e => sin_blk m c t s i e,
    show Chunk.krow (iblk1 (E3 m) c 0 t) s = _ from funext fun i => funext fun d => qkv_blk m c t 1 s i d]
  rfl

theorem v_in (s : Fin 2) : Chunk.vrow (iblk1 (E3 m) c 0 t) s = vin (inputs m c) (hd t s) (ck t) := by
  rw [show Chunk.vrow (iblk1 (E3 m) c 0 t) s = _ from funext fun i => funext fun d => qkv_blk m c t 2 s i d]
  rfl

theorem l_in (s : Fin 2) : lrow (iblk1 (E3 m) c 3 t) s = lin (inputs m c) (hd t s) (ck t) := funext fun i => funext fun e => rate_blk m c t s i e

/-! ## What the points carry -/

/-- A point's step, on one slot's head. -/
theorem step_at (st : Carry Ideal) (s : Fin 2) :
    part (chunkNext (iblk1 (E3 m) c 0 t) (iblk1 (E3 m) c 1 t) (iblk1 (E3 m) c 2 t) (iblk1 (E3 m) c 3 t) st) s
      = next (part st s) (kin (inputs m c) (hd t s) (ck t)) (vin (inputs m c) (hd t s) (ck t)) (lin (inputs m c) (hd t s) (ck t)) := by
  refine (part_next _ _ _ _ st s).trans ?_
  unfold Chunk.after
  rw [k_in, v_in, l_in]

theorem pay2_at (x : Vec Ideal S2x128x256 .f32) (s : Fin 2) (d : Fin 128) (e : Fin 256) : (k1_pay2 (F := Ideal) x) (ix3 s d e) = x (ix3 s d e) := by
  pointwise [k1_pay2]

theorem pay3_at (x : Vec Ideal S2x128x128 .f32) (s : Fin 2) (d e : Fin 128) : (k1_pay3 (F := Ideal) x) (ix3 s d e) = x (ix3 s d e) := by
  pointwise [k1_pay3]

theorem pay4_at (s : Fin 2) (d : Fin 128) (e : Fin 256) : (k1_pay4 (F := Ideal)) (ix3 s d e) = (0 : EReal) := by
  pointwise [k1_pay4]

theorem pay5_at (s : Fin 2) (d e : Fin 128) : (k1_pay5 (F := Ideal)) (ix3 s d e) = (0 : EReal) := by
  pointwise [k1_pay5]

section Filled
variable (x4 : Vec Ideal S2x128x256 .f32) (x5 : Vec Ideal S2x128x128 .f32) (s : Fin 2) (e d : Fin 128)

theorem filled_w0 : (part (carry0 x4 x5) s).w0 e d = x4 (ix3 s d (lo e)) := pay2_at x4 s d (lo e)
theorem filled_w1 : (part (carry0 x4 x5) s).w1 e d = x5 (ix3 s e d) := pay3_at x5 s e d
theorem filled_w2 : (part (carry0 x4 x5) s).w2 e d = x4 (ix3 s d (hi e)) := pay2_at x4 s d (hi e)
theorem filled_m0 : (part (carry0 x4 x5) s).m0 e d = 0 := pay4_at s d (lo e)
theorem filled_m1 : (part (carry0 x4 x5) s).m1 e d = 0 := pay5_at s e d
theorem filled_m2 : (part (carry0 x4 x5) s).m2 e d = 0 := pay4_at s d (hi e)

end Filled

/-- What a pair's first point starts from is the given weights. -/
theorem first_at (s : Fin 2) : part (carry0 (iblk1 (E3 m) c 4 t) (iblk1 (E3 m) c 5 t)) s = first (inputs m c) (hd t s) := by
  refine Head.same (fun e d => ?_) (fun e d => ?_) (fun e d => ?_) (fun e d => ?_) (fun e d => ?_) (fun e d => ?_)
  · rw [filled_w0, w0_blk]; rfl
  · rw [filled_w1, w1_blk]; rfl
  · rw [filled_w2, w2_blk]; rfl
  · rw [filled_m0]; rfl
  · rw [filled_m1]; rfl
  · rw [filled_m2]; rfl

/-- Every point starts from its heads as the chunks before it left them. -/
theorem start_at (s : Fin 2) : ∀ n (hn : n < cfg1.N), part (start1 (E3 m) c ⟨n, hn⟩) s = heads (inputs m c) (hd ⟨n, hn⟩ s) (n % 4)
  | 0, hn => by
    rw [start1_A (E3 m) c ⟨0, hn⟩ (Nat.zero_mod 4)]
    exact first_at m c ⟨0, hn⟩ s
  | n + 1, hn => by
    by_cases h : (n + 1) % 4 = 0
    · rw [start1_A (E3 m) c ⟨n + 1, hn⟩ h, h]
      exact first_at m c ⟨n + 1, hn⟩ s
    · have hn' : n < cfg1.N := Nat.lt_of_succ_lt hn
      rw [start1_B (E3 m) c ⟨n + 1, hn⟩ h]
      refine (congrArg (fun z => part z s) (carried_eq (E3 m) c ⟨n, hn'⟩)).trans ?_
      rw [step_at, start_at s n hn']
      have e1 : hd ⟨n + 1, hn⟩ s = hd ⟨n, hn'⟩ s := Fin.ext (by show 2 * ((n + 1) / 4) + s.val = 2 * (n / 4) + s.val; omega)
      have e2 : (n + 1) % 4 = n % 4 + 1 := by omega
      have e3 : ck ⟨n, hn'⟩ = Fin.ofNat 4 (n % 4) := Fin.ext (by show n % 4 = n % 4 % 4; omega)
      rw [e1, e2, e3]
      rfl

/-! ## The array -/

/-- The layer's output as one array. -/
def layer (I : Inputs) : FVec Ideal S2x8192x2048 .f32 := fun i =>
  result I ⟨(i 0 : ℕ) * 16 + (i 2 : ℕ) / 128, by have h0 : (i 0 : ℕ) < 2 := (i 0).isLt; have h2 : (i 2 : ℕ) < 2048 := (i 2).isLt; omega⟩
    ⟨(i 1 : ℕ) / 2048, by have h1 : (i 1 : ℕ) < 8192 := (i 1).isLt; omega⟩ ⟨(i 1 : ℕ) % 2048, by omega⟩ ⟨(i 2 : ℕ) % 128, by omega⟩

theorem out_at (s : Fin 2) (i : Fin 2048) (d : Fin 128) :
    (show FVec Ideal S1x2048x256 .f32 from out1 (E3 m) c t) (ix3 0 i ⟨s.val * 128 + d.val, by omega⟩) = result (inputs m c) (hd t s) (ck t) i d := by
  unfold out1
  refine (chunkOut_at _ _ _ _ _ _ s i d).trans ?_
  unfold result
  rw [q_in, show part (start1 (E3 m) c t) s = heads (inputs m c) (hd t s) (ck t).val from start_at m c s t.val t.isLt,
    show (fun d => (iblk1 (E3 m) c 6 t : FVec Ideal S1x128 .f32) (ix2 0 d)) = fun d => (inputs m c).tt (ix1 d) from funext fun d => tt_blk m c t d]

theorem out_blk (y : S1x2048x256.Idx) :
    (show FVec Ideal S1x2048x256 .f32 from out1 (E3 m) c t) y
      = result (inputs m c) (hd t ⟨(y 2 : ℕ) / 128, by have h : (y 2 : ℕ) < 256 := (y 2).isLt; omega⟩) (ck t) (y 1) ⟨(y 2 : ℕ) % 128, by omega⟩ := by
  have h2 : (y 2 : ℕ) < 256 := (y 2).isLt
  have h0 : (y 0 : ℕ) < 1 := (y 0).isLt
  refine Eq.trans (congrArg _ ?_) (out_at m c t ⟨(y 2 : ℕ) / 128, by omega⟩ (y 1) ⟨(y 2 : ℕ) % 128, by omega⟩)
  funext a
  fin_cases a
  · exact Fin.ext (show (y 0 : ℕ) = 0 by omega)
  · rfl
  · exact Fin.ext (show (y 2 : ℕ) = (y 2 : ℕ) / 128 * 128 + (y 2 : ℕ) % 128 by omega)

/-- The second region leaves the layer's output. -/
theorem layer_eq : (dat1 (E3 m) c).arrAt 7 cfg1.N = layer (inputs m c) := by
  refine Dat.arrAt_eq_of_covers (dat1 (E3 m) c) 7 _ (by decide +kernel) fun t hf y => ?_
  rw [after1_7]
  blk_simp
  refine (out_blk m c t y).trans ?_
  unfold layer
  blk_simp [idx1_7 t]
  have e0 : (y 0 : ℕ) < 1 := (y 0).isLt
  have e1 : (y 1 : ℕ) < 2048 := (y 1).isLt
  have e2 : (y 2 : ℕ) < 256 := (y 2).isLt
  have ht := t_lt t
  have same : ∀ {h h' : Fin 32} {c c' : Fin 4} {i i' : Fin 2048} {d d' : Fin 128} (I : Inputs), h = h' → c = c' → i = i' → d = d' → result I h c i d = result I h' c' i' d' := by
    rintro _ _ _ _ _ _ _ _ I rfl rfl rfl rfl
    rfl
  refine same _ (Fin.ext ?_) (Fin.ext ?_) (Fin.ext ?_) (Fin.ext ?_)
  · show 2 * (t.val / 4) + (y 2 : ℕ) / 128 = _
    dsimp only
    omega
  · show t.val % 4 = _
    dsimp only
    omega
  · show (y 1 : ℕ) = _
    dsimp only
    omega
  · show (y 2 : ℕ) % 128 = _
    dsimp only
    omega

end Cert.KernelIdeal.Rows

end
-- ==== Proof.RefSteps.lean ====
/- The reference's run over the generated step (the generated account of the same, with the lemma for the stacked results proved by
   definitional unfolding): buffers that hold a state before a trip hold the next state after it. -/
module

public import proofs.«01_k».proof.Proof.Gen.ReferenceIdeal.Run
public import proofs.«01_k».proof.Proof.Gen.ReferenceIdeal.Step

@[expose] public section

noncomputable section

namespace Cert.ReferenceIdeal.Steps

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v197_8) = s.main_v197_8
  f_9 : V0 (Proc.devRef .tc main_v197_9) = s.main_v197_9
  f_10 : V0 (Proc.devRef .tc main_v197_10) = s.main_v197_10
  f_11 : V0 (Proc.devRef .tc main_v197_11) = s.main_v197_11
  f_12 : V0 (Proc.devRef .tc main_v197_12) = s.main_v197_12
  f_13 : V0 (Proc.devRef .tc main_v197_13) = s.main_v197_13
  f_14 : V0 (Proc.devRef .tc main_v197_14) = s.main_v197_14
  f_0 : V0 (Proc.devRef .tc main_v197_0) = s.main_v197_0
  f_1 : V0 (Proc.devRef .tc main_v197_1) = s.main_v197_1
  f_2 : V0 (Proc.devRef .tc main_v197_2) = s.main_v197_2
  f_3 : V0 (Proc.devRef .tc main_v197_3) = s.main_v197_3
  f_4 : V0 (Proc.devRef .tc main_v197_4) = s.main_v197_4
  f_5 : V0 (Proc.devRef .tc main_v197_5) = s.main_v197_5
  f_6 : V0 (Proc.devRef .tc main_v197_6) = s.main_v197_6
  n_7 : V0 (Proc.devRef .tc main_v197_7) = constantI S_ 32 (BitVec.ofNat 32 j)

variable {V0 s j}

set_option maxRecDepth 8192 in
theorem al_0 (h : Holds V0 s j) : (constantI S_ 32 0#32 : (Proc.devRef .tc main_while0b_call1_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call1_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call1_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x32x2048x128 (V0 (Proc.devRef .tc main_v197_0)) (fun k => (((![V0 (Proc.devRef .tc main_v197_7), constantI S_ 32 0#32, constantI S_ 32 0#32, constantI S_ 32 0#32] : Fin 4 → (⟨S_, .i32⟩ : BufTy).Contents (Elt F))) k (Shape.Idx.first h_S_)).toInt) sliceFits_S4x32x2048x128_S1x32x2048x128 : (Proc.devRef .tc main_while0b_call1_v0 : DevRef τ sig).ty.Contents (Elt F)) = Cert.ReferenceIdeal.Step.b3 j s := by
  unfold Cert.ReferenceIdeal.Step.b3
  rw [← al_0 h, ← al_1 h, ← al_2 h, h.f_0, h.n_7]
  try rfl
set_option maxRecDepth 8192 in
theorem al_4 (h : Holds V0 s j) : (res_main_while0b_v216 V0 : (Proc.devRef .tc main_while0b_v216 : DevRef τ sig).ty.Contents (Elt F)) = Cert.ReferenceIdeal.Step.b4 j s := by
  unfold res_main_while0b_v216 Cert.ReferenceIdeal.Step.b4
  rw [← al_3 h]
  try rfl
set_option maxRecDepth 8192 in
theorem al_5 (h : Holds V0 s j) : (constantI S_ 32 0#32 : (Proc.devRef .tc main_while0b_call2_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call2_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call2_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x32x2048x128 (V0 (Proc.devRef .tc main_v197_1)) (fun k => (((![V0 (Proc.devRef .tc main_v197_7), constantI S_ 32 0#32, constantI S_ 32 0#32, constantI S_ 32 0#32] : Fin 4 → (⟨S_, .i32⟩ : BufTy).Contents (Elt F))) k (Shape.Idx.first h_S_)).toInt) sliceFits_S4x32x2048x128_S1x32x2048x128 : (Proc.devRef .tc main_while0b_call2_v0 : DevRef τ sig).ty.Contents (Elt F)) = Cert.ReferenceIdeal.Step.b8 j s := by
  unfold Cert.ReferenceIdeal.Step.b8
  rw [← al_5 h, ← al_6 h, ← al_7 h, h.f_1, h.n_7]
  try rfl
set_option maxRecDepth 8192 in
theorem al_9 (h : Holds V0 s j) : (res_main_while0b_v217 V0 : (Proc.devRef .tc main_while0b_v217 : DevRef τ sig).ty.Contents (Elt F)) = Cert.ReferenceIdeal.Step.b9 j s := by
  unfold res_main_while0b_v217 Cert.ReferenceIdeal.Step.b9
  rw [← al_8 h]
  try rfl
set_option maxRecDepth 8192 in
theorem al_10 (h : Holds V0 s j) : (constantI S_ 32 0#32 : (Proc.devRef .tc main_while0b_call3_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call3_c_0 : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call3_c_1 : DevRef τ sig).ty.Contents (Elt F)) = Cert.ReferenceIdeal.Step.b12 j s := by
  unfold Cert.ReferenceIdeal.Step.b12
  rfl
set_option maxRecDepth 8192 in
theorem al_13 (h : Holds V0 s j) : (Host.dynamicSlice S1x32x2048x128 (V0 (Proc.devRef .tc main_v197_2)) (fun k => (((![V0 (Proc.devRef .tc main_v197_7), constantI S_ 32 0#32, constantI S_ 32 0#32, constantI S_ 32 0#32] : Fin 4 → (⟨S_, .i32⟩ : BufTy).Contents (Elt F))) k (Shape.Idx.first h_S_)).toInt) sliceFits_S4x32x2048x128_S1x32x2048x128 : (Proc.devRef .tc main_while0b_call3_v0 : DevRef τ sig).ty.Contents (Elt F)) = Cert.ReferenceIdeal.Step.b13 j s := by
  unfold Cert.ReferenceIdeal.Step.b13
  rw [← al_10 h, ← al_11 h, ← al_12 h, h.f_2, h.n_7]
  try rfl
set_option maxRecDepth 8192 in
theorem al_14 (h : Holds V0 s j) : (res_main_while0b_v218 V0 : (Proc.devRef .tc main_while0b_v218 : DevRef τ sig).ty.Contents (Elt F)) = Cert.ReferenceIdeal.Step.b14 j s := by
  unfold res_main_while0b_v218 Cert.ReferenceIdeal.Step.b14
  rw [← al_13 h]
  try rfl
set_option maxRecDepth 8192 in
theorem al_15 (h : Holds V0 s j) : (constantI S_ 32 0#32 : (Proc.devRef .tc main_while0b_call4_c : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call4_c_0 : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call4_c_1 : DevRef τ sig).ty.Contents (Elt F)) = Cert.ReferenceIdeal.Step.b17 j s := by
  unfold Cert.ReferenceIdeal.Step.b17
  rfl
set_option maxRecDepth 8192 in
theorem al_18 (h : Holds V0 s j) : (Host.dynamicSlice S1x32x2048x1 (V0 (Proc.devRef .tc main_v197_3)) (fun k => (((![V0 (Proc.devRef .tc main_v197_7), constantI S_ 32 0#32, constantI S_ 32 0#32, constantI S_ 32 0#32] : Fin 4 → (⟨S_, .i32⟩ : BufTy).Contents (Elt F))) k (Shape.Idx.first h_S_)).toInt) sliceFits_S4x32x2048x1_S1x32x2048x1 : (Proc.devRef .tc main_while0b_call4_v0 : DevRef τ sig).ty.Contents (Elt F)) = Cert.ReferenceIdeal.Step.b18 j s := by
  unfold Cert.ReferenceIdeal.Step.b18
  rw [← al_15 h, ← al_16 h, ← al_17 h, h.f_3, h.n_7]
  try rfl
set_option maxRecDepth 8192 in
theorem al_19 (h : Holds V0 s j) : (shapeCast S32x2048x1 (Host.dynamicSlice S1x32x2048x1 (V0 (Proc.devRef .tc main_v197_3)) (fun k => (((![V0 (Proc.devRef .tc main_v197_7), constantI S_ 32 0#32, constantI S_ 32 0#32, constantI S_ 32 0#32] : Fin 4 → (⟨S_, .i32⟩ : BufTy).Contents (Elt F))) k (Shape.Idx.first h_S_)).toInt) sliceFits_S4x32x2048x1_S1x32x2048x1) shapeCasts_S1x32x2048x1_S32x2048x1 : (Proc.devRef .tc main_while0b_v219 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (constantI S_ 32 0#32 : (Proc.devRef .tc main_while0b_call5_c : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call5_c_0 : DevRef τ sig).ty.Contents (Elt F)) = Cert.ReferenceIdeal.Step.b21 j s := by
  unfold Cert.ReferenceIdeal.Step.b21
  rfl
set_option maxRecDepth 8192 in
theorem al_22 (h : Holds V0 s j) : (constantI S_ 32 0#32 : (Proc.devRef .tc main_while0b_call5_c_1 : DevRef τ sig).ty.Contents (Elt F)) = Cert.ReferenceIdeal.Step.b22 j s := by
  unfold Cert.ReferenceIdeal.Step.b22
  rfl
set_option maxRecDepth 8192 in
theorem al_23 (h : Holds V0 s j) : (Host.dynamicSlice S1x32x2048x1 (V0 (Proc.devRef .tc main_v197_4)) (fun k => (((![V0 (Proc.devRef .tc main_v197_7), constantI S_ 32 0#32, constantI S_ 32 0#32, constantI S_ 32 0#32] : Fin 4 → (⟨S_, .i32⟩ : BufTy).Contents (Elt F))) k (Shape.Idx.first h_S_)).toInt) sliceFits_S4x32x2048x1_S1x32x2048x1 : (Proc.devRef .tc main_while0b_call5_v0 : DevRef τ sig).ty.Contents (Elt F)) = Cert.ReferenceIdeal.Step.b23 j s := by
  unfold Cert.ReferenceIdeal.Step.b23
  rw [← al_20 h, ← al_21 h, ← al_22 h, h.f_4, h.n_7]
  try rfl
set_option maxRecDepth 8192 in
theorem al_24 (h : Holds V0 s j) : (shapeCast S32x2048x1 (Host.dynamicSlice S1x32x2048x1 (V0 (Proc.devRef .tc main_v197_4)) (fun k => (((![V0 (Proc.devRef .tc main_v197_7), constantI S_ 32 0#32, constantI S_ 32 0#32, constantI S_ 32 0#32] : Fin 4 → (⟨S_, .i32⟩ : BufTy).Contents (Elt F))) k (Shape.Idx.first h_S_)).toInt) sliceFits_S4x32x2048x1_S1x32x2048x1) shapeCasts_S1x32x2048x1_S32x2048x1 : (Proc.devRef .tc main_while0b_v220 : DevRef τ sig).ty.Contents (Elt F)) = Cert.ReferenceIdeal.Step.b24 j s := by
  unfold Cert.ReferenceIdeal.Step.b24
  rw [← al_23 h]
  try rfl
set_option maxRecDepth 8192 in
theorem al_25 (h : Holds V0 s j) : (constantI S_ 32 0#32 : (Proc.devRef .tc main_while0b_call6_c : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call6_c_0 : DevRef τ sig).ty.Contents (Elt F)) = Cert.ReferenceIdeal.Step.b26 j s := by
  unfold Cert.ReferenceIdeal.Step.b26
  rfl
set_option maxRecDepth 8192 in
theorem al_27 (h : Holds V0 s j) : (constantI S_ 32 0#32 : (Proc.devRef .tc main_while0b_call6_c_1 : DevRef τ sig).ty.Contents (Elt F)) = Cert.ReferenceIdeal.Step.b27 j s := by
  unfold Cert.ReferenceIdeal.Step.b27
  rfl
set_option maxRecDepth 8192 in
theorem al_28 (h : Holds V0 s j) : (Host.dynamicSlice S1x32x2048x1 (V0 (Proc.devRef .tc main_v197_5)) (fun k => (((![V0 (Proc.devRef .tc main_v197_7), constantI S_ 32 0#32, constantI S_ 32 0#32, constantI S_ 32 0#32] : Fin 4 → (⟨S_, .i32⟩ : BufTy).Contents (Elt F))) k (Shape.Idx.first h_S_)).toInt) sliceFits_S4x32x2048x1_S1x32x2048x1 : (Proc.devRef .tc main_while0b_call6_v0 : DevRef τ sig).ty.Contents (Elt F)) = Cert.ReferenceIdeal.Step.b28 j s := by
  unfold Cert.ReferenceIdeal.Step.b28
  rw [← al_25 h, ← al_26 h, ← al_27 h, h.f_5, h.n_7]
  try rfl
set_option maxRecDepth 8192 in
theorem al_29 (h : Holds V0 s j) : (shapeCast S32x2048x1 (Host.dynamicSlice S1x32x2048x1 (V0 (Proc.devRef .tc main_v197_5)) (fun k => (((![V0 (Proc.devRef .tc main_v197_7), constantI S_ 32 0#32, constantI S_ 32 0#32, constantI S_ 32 0#32] : Fin 4 → (⟨S_, .i32⟩ : BufTy).Contents (Elt F))) k (Shape.Idx.first h_S_)).toInt) sliceFits_S4x32x2048x1_S1x32x2048x1) shapeCasts_S1x32x2048x1_S32x2048x1 : (Proc.devRef .tc main_while0b_v221 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (constantI S_ 32 0#32 : (Proc.devRef .tc main_while0b_call7_c : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_call7_c_0 : DevRef τ sig).ty.Contents (Elt F)) = Cert.ReferenceIdeal.Step.b31 j s := by
  unfold Cert.ReferenceIdeal.Step.b31
  rfl
set_option maxRecDepth 8192 in
theorem al_32 (h : Holds V0 s j) : (constantI S_ 32 0#32 : (Proc.devRef .tc main_while0b_call7_c_1 : DevRef τ sig).ty.Contents (Elt F)) = Cert.ReferenceIdeal.Step.b32 j s := by
  unfold Cert.ReferenceIdeal.Step.b32
  rfl
set_option maxRecDepth 8192 in
theorem al_33 (h : Holds V0 s j) : (Host.dynamicSlice S1x32x2048x1 (V0 (Proc.devRef .tc main_v197_6)) (fun k => (((![V0 (Proc.devRef .tc main_v197_7), constantI S_ 32 0#32, constantI S_ 32 0#32, constantI S_ 32 0#32] : Fin 4 → (⟨S_, .i32⟩ : BufTy).Contents (Elt F))) k (Shape.Idx.first h_S_)).toInt) sliceFits_S4x32x2048x1_S1x32x2048x1 : (Proc.devRef .tc main_while0b_call7_v0 : DevRef τ sig).ty.Contents (Elt F)) = Cert.ReferenceIdeal.Step.b33 j s := by
  unfold Cert.ReferenceIdeal.Step.b33
  rw [← al_30 h, ← al_31 h, ← al_32 h, h.f_6, h.n_7]
  try rfl
set_option maxRecDepth 8192 in
theorem al_34 (h : Holds V0 s j) : (shapeCast S32x2048x1 (Host.dynamicSlice S1x32x2048x1 (V0 (Proc.devRef .tc main_v197_6)) (fun k => (((![V0 (Proc.devRef .tc main_v197_7), constantI S_ 32 0#32, constantI S_ 32 0#32, constantI S_ 32 0#32] : Fin 4 → (⟨S_, .i32⟩ : BufTy).Contents (Elt F))) k (Shape.Idx.first h_S_)).toInt) sliceFits_S4x32x2048x1_S1x32x2048x1) shapeCasts_S1x32x2048x1_S32x2048x1 : (Proc.devRef .tc main_while0b_v222 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (res_main_while0b_v223 V0 : (Proc.devRef .tc main_while0b_v223 : DevRef τ sig).ty.Contents (Elt F)) = Cert.ReferenceIdeal.Step.b35 j s := by
  unfold res_main_while0b_v223 Cert.ReferenceIdeal.Step.b35
  rw [← al_4 h, h.f_8]
  try rfl
set_option maxRecDepth 8192 in
theorem al_36 (h : Holds V0 s j) : (Host.negf (res_main_while0b_v223 V0) : (Proc.devRef .tc main_while0b_v224 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (Host.exp (Host.negf (res_main_while0b_v223 V0)) : (Proc.devRef .tc main_while0b_v225 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (constant S_ .f32 0x3F800000#32 : (Proc.devRef .tc main_while0b_cst_44 : DevRef τ sig).ty.Contents (Elt F)) = Cert.ReferenceIdeal.Step.b38 j s := by
  unfold Cert.ReferenceIdeal.Step.b38
  rfl
set_option maxRecDepth 8192 in
theorem al_39 (h : Holds V0 s j) : (broadcastInDim S32x2048x128 ![] bcast_S_S32x2048x128 (constant S_ .f32 0x3F800000#32) : (Proc.devRef .tc main_while0b_v226 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (addf (broadcastInDim S32x2048x128 ![] bcast_S_S32x2048x128 (constant S_ .f32 0x3F800000#32)) (Host.exp (Host.negf (res_main_while0b_v223 V0))) : (Proc.devRef .tc main_while0b_v227 : DevRef τ sig).ty.Contents (Elt F)) = Cert.ReferenceIdeal.Step.b40 j s := by
  unfold Cert.ReferenceIdeal.Step.b40
  rw [← al_39 h, ← al_37 h]
  try rfl
set_option maxRecDepth 8192 in
theorem al_41 (h : Holds V0 s j) : (constant S_ .f32 0x3F800000#32 : (Proc.devRef .tc main_while0b_cst_45 : DevRef τ sig).ty.Contents (Elt F)) = Cert.ReferenceIdeal.Step.b41 j s := by
  unfold Cert.ReferenceIdeal.Step.b41
  rfl
set_option maxRecDepth 8192 in
theorem al_42 (h : Holds V0 s j) : (broadcastInDim S32x2048x128 ![] bcast_S_S32x2048x128 (constant S_ .f32 0x3F800000#32) : (Proc.devRef .tc main_while0b_v228 : DevRef τ sig).ty.Contents (Elt F)) = Cert.ReferenceIdeal.Step.b42 j s := by
  unfold Cert.ReferenceIdeal.Step.b42
  rw [← al_41 h]
  try rfl
set_option maxRecDepth 8192 in
theorem al_43 (h : Holds V0 s j) : (Host.divf (broadcastInDim S32x2048x128 ![] bcast_S_S32x2048x128 (constant S_ .f32 0x3F800000#32)) (addf (broadcastInDim S32x2048x128 ![] bcast_S_S32x2048x128 (constant S_ .f32 0x3F800000#32)) (Host.exp (Host.negf (res_main_while0b_v223 V0)))) : (Proc.devRef .tc main_while0b_v229 : DevRef τ sig).ty.Contents (Elt F)) = Cert.ReferenceIdeal.Step.b43 j s := by
  unfold Cert.ReferenceIdeal.Step.b43
  rw [← al_42 h, ← al_40 h]
  try rfl
set_option maxRecDepth 8192 in
theorem al_44 (h : Holds V0 s j) : (mulf (res_main_while0b_v223 V0) (Host.divf (broadcastInDim S32x2048x128 ![] bcast_S_S32x2048x128 (constant S_ .f32 0x3F800000#32)) (addf (broadcastInDim S32x2048x128 ![] bcast_S_S32x2048x128 (constant S_ .f32 0x3F800000#32)) (Host.exp (Host.negf (res_main_while0b_v223 V0))))) : (Proc.devRef .tc main_while0b_v230 : DevRef τ sig).ty.Contents (Elt F)) = Cert.ReferenceIdeal.Step.b44 j s := by
  unfold Cert.ReferenceIdeal.Step.b44
  rw [← al_35 h, ← al_43 h]
  try rfl
set_option maxRecDepth 8192 in
theorem al_45 (h : Holds V0 s j) : (Host.dotGeneral dot_S32x2048x128_S32x128x128_S32x2048x128_2_2_1_1_0_0 none (res_main_while0b_v216 V0) (V0 (Proc.devRef .tc main_v197_10)) : (Proc.devRef .tc main_while0b_v231 : DevRef τ sig).ty.Contents (Elt F)) = Cert.ReferenceIdeal.Step.b45 j s := by
  unfold Cert.ReferenceIdeal.Step.b45
  rw [← al_4 h, h.f_10]
  try rfl
set_option maxRecDepth 8192 in
theorem al_46 (h : Holds V0 s j) : (mulf (mulf (res_main_while0b_v223 V0) (Host.divf (broadcastInDim S32x2048x128 ![] bcast_S_S32x2048x128 (constant S_ .f32 0x3F800000#32)) (addf (broadcastInDim S32x2048x128 ![] bcast_S_S32x2048x128 (constant S_ .f32 0x3F800000#32)) (Host.exp (Host.negf (res_main_while0b_v223 V0)))))) (Host.dotGeneral dot_S32x2048x128_S32x128x128_S32x2048x128_2_2_1_1_0_0 none (res_main_while0b_v216 V0) (V0 (Proc.devRef .tc main_v197_10))) : (Proc.devRef .tc main_while0b_v232 : DevRef τ sig).ty.Contents (Elt F)) = Cert.ReferenceIdeal.Step.b46 j s := by
  unfold Cert.ReferenceIdeal.Step.b46
  rw [← al_44 h, ← al_45 h]
  try rfl
set_option maxRecDepth 8192 in
theorem al_47 (h : Holds V0 s j) : (Host.dotGeneral dot_S32x2048x128_S32x128x128_S32x2048x128_2_2_1_1_0_0 none (mulf (mulf (res_main_while0b_v223 V0) (Host.divf (broadcastInDim S32x2048x128 ![] bcast_S_S32x2048x128 (constant S_ .f32 0x3F800000#32)) (addf (broadcastInDim S32x2048x128 ![] bcast_S_S32x2048x128 (constant S_ .f32 0x3F800000#32)) (Host.exp (Host.negf (res_main_while0b_v223 V0)))))) (Host.dotGeneral dot_S32x2048x128_S32x128x128_S32x2048x128_2_2_1_1_0_0 none (res_main_while0b_v216 V0) (V0 (Proc.devRef .tc main_v197_10)))) (V0 (Proc.devRef .tc main_v197_9)) : (Proc.devRef .tc main_while0b_v233 : DevRef τ sig).ty.Contents (Elt F)) = Cert.ReferenceIdeal.Step.b47 j s := by
  unfold Cert.ReferenceIdeal.Step.b47
  rw [← al_46 h, h.f_9]
  try rfl
set_option maxRecDepth 8192 in
theorem al_48 (h : Holds V0 s j) : (res_main_while0b_v234 V0 : (Proc.devRef .tc main_while0b_v234 : DevRef τ sig).ty.Contents (Elt F)) = Cert.ReferenceIdeal.Step.b48 j s := by
  unfold res_main_while0b_v234 Cert.ReferenceIdeal.Step.b48
  rw [← al_9 h, h.f_8]
  try rfl
set_option maxRecDepth 8192 in
theorem al_49 (h : Holds V0 s j) : (res_main_while0b_v235 V0 : (Proc.devRef .tc main_while0b_v235 : DevRef τ sig).ty.Contents (Elt F)) = Cert.ReferenceIdeal.Step.b49 j s := by
  unfold res_main_while0b_v235 Cert.ReferenceIdeal.Step.b49
  rw [← al_9 h, h.f_10]
  try rfl
set_option maxRecDepth 8192 in
theorem al_50 (h : Holds V0 s j) : (Host.negf (res_main_while0b_v234 V0) : (Proc.devRef .tc main_while0b_v236 : DevRef τ sig).ty.Contents (Elt F)) = Cert.ReferenceIdeal.Step.b50 j s := by
  unfold Cert.ReferenceIdeal.Step.b50
  rw [← al_48 h]
  try rfl
set_option maxRecDepth 8192 in
theorem al_51 (h : Holds V0 s j) : (Host.exp (Host.negf (res_main_while0b_v234 V0)) : (Proc.devRef .tc main_while0b_v237 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (constant S_ .f32 0x3F800000#32 : (Proc.devRef .tc main_while0b_cst_46 : DevRef τ sig).ty.Contents (Elt F)) = Cert.ReferenceIdeal.Step.b52 j s := by
  unfold Cert.ReferenceIdeal.Step.b52
  rfl
set_option maxRecDepth 8192 in
theorem al_53 (h : Holds V0 s j) : (broadcastInDim S32x2048x128 ![] bcast_S_S32x2048x128 (constant S_ .f32 0x3F800000#32) : (Proc.devRef .tc main_while0b_v238 : DevRef τ sig).ty.Contents (Elt F)) = Cert.ReferenceIdeal.Step.b53 j s := by
  unfold Cert.ReferenceIdeal.Step.b53
  rw [← al_52 h]
  try rfl
set_option maxRecDepth 8192 in
theorem al_54 (h : Holds V0 s j) : (addf (broadcastInDim S32x2048x128 ![] bcast_S_S32x2048x128 (constant S_ .f32 0x3F800000#32)) (Host.exp (Host.negf (res_main_while0b_v234 V0))) : (Proc.devRef .tc main_while0b_v239 : DevRef τ sig).ty.Contents (Elt F)) = Cert.ReferenceIdeal.Step.b54 j s := by
  unfold Cert.ReferenceIdeal.Step.b54
  rw [← al_53 h, ← al_51 h]
  try rfl
set_option maxRecDepth 8192 in
theorem al_55 (h : Holds V0 s j) : (constant S_ .f32 0x3F800000#32 : (Proc.devRef .tc main_while0b_cst_47 : DevRef τ sig).ty.Contents (Elt F)) = Cert.ReferenceIdeal.Step.b55 j s := by
  unfold Cert.ReferenceIdeal.Step.b55
  rfl
set_option maxRecDepth 8192 in
theorem al_56 (h : Holds V0 s j) : (broadcastInDim S32x2048x128 ![] bcast_S_S32x2048x128 (constant S_ .f32 0x3F800000#32) : (Proc.devRef .tc main_while0b_v240 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (Host.divf (broadcastInDim S32x2048x128 ![] bcast_S_S32x2048x128 (constant S_ .f32 0x3F800000#32)) (addf (broadcastInDim S32x2048x128 ![] bcast_S_S32x2048x128 (constant S_ .f32 0x3F800000#32)) (Host.exp (Host.negf (res_main_while0b_v234 V0)))) : (Proc.devRef .tc main_while0b_v241 : DevRef τ sig).ty.Contents (Elt F)) = Cert.ReferenceIdeal.Step.b57 j s := by
  unfold Cert.ReferenceIdeal.Step.b57
  rw [← al_56 h, ← al_54 h]
  try rfl
set_option maxRecDepth 8192 in
theorem al_58 (h : Holds V0 s j) : (mulf (res_main_while0b_v234 V0) (Host.divf (broadcastInDim S32x2048x128 ![] bcast_S_S32x2048x128 (constant S_ .f32 0x3F800000#32)) (addf (broadcastInDim S32x2048x128 ![] bcast_S_S32x2048x128 (constant S_ .f32 0x3F800000#32)) (Host.exp (Host.negf (res_main_while0b_v234 V0))))) : (Proc.devRef .tc main_while0b_v242 : DevRef τ sig).ty.Contents (Elt F)) = Cert.ReferenceIdeal.Step.b58 j s := by
  unfold Cert.ReferenceIdeal.Step.b58
  rw [← al_48 h, ← al_57 h]
  try rfl
set_option maxRecDepth 8192 in
theorem al_59 (h : Holds V0 s j) : (mulf (mulf (res_main_while0b_v234 V0) (Host.divf (broadcastInDim S32x2048x128 ![] bcast_S_S32x2048x128 (constant S_ .f32 0x3F800000#32)) (addf (broadcastInDim S32x2048x128 ![] bcast_S_S32x2048x128 (constant S_ .f32 0x3F800000#32)) (Host.exp (Host.negf (res_main_while0b_v234 V0)))))) (res_main_while0b_v235 V0) : (Proc.devRef .tc main_while0b_v243 : DevRef τ sig).ty.Contents (Elt F)) = Cert.ReferenceIdeal.Step.b59 j s := by
  unfold Cert.ReferenceIdeal.Step.b59
  rw [← al_58 h, ← al_49 h]
  try rfl
set_option maxRecDepth 8192 in
theorem al_60 (h : Holds V0 s j) : (res_main_while0b_v244 V0 : (Proc.devRef .tc main_while0b_v244 : DevRef τ sig).ty.Contents (Elt F)) = Cert.ReferenceIdeal.Step.b60 j s := by
  unfold res_main_while0b_v244 Cert.ReferenceIdeal.Step.b60
  rw [← al_14 h, h.f_9]
  try rfl
set_option maxRecDepth 8192 in
theorem al_61 (h : Holds V0 s j) : (Host.negf (res_main_while0b_v234 V0) : (Proc.devRef .tc main_while0b_v245 : DevRef τ sig).ty.Contents (Elt F)) = Cert.ReferenceIdeal.Step.b61 j s := by
  unfold Cert.ReferenceIdeal.Step.b61
  rw [← al_48 h]
  try rfl
set_option maxRecDepth 8192 in
theorem al_62 (h : Holds V0 s j) : (Host.exp (Host.negf (res_main_while0b_v234 V0)) : (Proc.devRef .tc main_while0b_v246 : DevRef τ sig).ty.Contents (Elt F)) = Cert.ReferenceIdeal.Step.b62 j s := by
  unfold Cert.ReferenceIdeal.Step.b62
  rw [← al_61 h]
  try rfl
set_option maxRecDepth 8192 in
theorem al_63 (h : Holds V0 s j) : (constant S_ .f32 0x3F800000#32 : (Proc.devRef .tc main_while0b_cst_48 : DevRef τ sig).ty.Contents (Elt F)) = Cert.ReferenceIdeal.Step.b63 j s := by
  unfold Cert.ReferenceIdeal.Step.b63
  rfl
set_option maxRecDepth 8192 in
theorem al_64 (h : Holds V0 s j) : (broadcastInDim S32x2048x128 ![] bcast_S_S32x2048x128 (constant S_ .f32 0x3F800000#32) : (Proc.devRef .tc main_while0b_v247 : DevRef τ sig).ty.Contents (Elt F)) = Cert.ReferenceIdeal.Step.b64 j s := by
  unfold Cert.ReferenceIdeal.Step.b64
  rw [← al_63 h]
  try rfl
set_option maxRecDepth 8192 in
theorem al_65 (h : Holds V0 s j) : (addf (broadcastInDim S32x2048x128 ![] bcast_S_S32x2048x128 (constant S_ .f32 0x3F800000#32)) (Host.exp (Host.negf (res_main_while0b_v234 V0))) : (Proc.devRef .tc main_while0b_v248 : DevRef τ sig).ty.Contents (Elt F)) = Cert.ReferenceIdeal.Step.b65 j s := by
  unfold Cert.ReferenceIdeal.Step.b65
  rw [← al_64 h, ← al_62 h]
  try rfl
set_option maxRecDepth 8192 in
theorem al_66 (h : Holds V0 s j) : (constant S_ .f32 0x3F800000#32 : (Proc.devRef .tc main_while0b_cst_49 : DevRef τ sig).ty.Contents (Elt F)) = Cert.ReferenceIdeal.Step.b66 j s := by
  unfold Cert.ReferenceIdeal.Step.b66
  rfl
set_option maxRecDepth 8192 in
theorem al_67 (h : Holds V0 s j) : (broadcastInDim S32x2048x128 ![] bcast_S_S32x2048x128 (constant S_ .f32 0x3F800000#32) : (Proc.devRef .tc main_while0b_v249 : DevRef τ sig).ty.Contents (Elt F)) = Cert.ReferenceIdeal.Step.b67 j s := by
  unfold Cert.ReferenceIdeal.Step.b67
  rw [← al_66 h]
  try rfl
set_option maxRecDepth 8192 in
theorem al_68 (h : Holds V0 s j) : (Host.divf (broadcastInDim S32x2048x128 ![] bcast_S_S32x2048x128 (constant S_ .f32 0x3F800000#32)) (addf (broadcastInDim S32x2048x128 ![] bcast_S_S32x2048x128 (constant S_ .f32 0x3F800000#32)) (Host.exp (Host.negf (res_main_while0b_v234 V0)))) : (Proc.devRef .tc main_while0b_v250 : DevRef τ sig).ty.Contents (Elt F)) = Cert.ReferenceIdeal.Step.b68 j s := by
  unfold Cert.ReferenceIdeal.Step.b68
  rw [← al_67 h, ← al_65 h]
  try rfl
set_option maxRecDepth 8192 in
theorem al_69 (h : Holds V0 s j) : (mulf (res_main_while0b_v234 V0) (Host.divf (broadcastInDim S32x2048x128 ![] bcast_S_S32x2048x128 (constant S_ .f32 0x3F800000#32)) (addf (broadcastInDim S32x2048x128 ![] bcast_S_S32x2048x128 (constant S_ .f32 0x3F800000#32)) (Host.exp (Host.negf (res_main_while0b_v234 V0))))) : (Proc.devRef .tc main_while0b_v251 : DevRef τ sig).ty.Contents (Elt F)) = Cert.ReferenceIdeal.Step.b69 j s := by
  unfold Cert.ReferenceIdeal.Step.b69
  rw [← al_48 h, ← al_68 h]
  try rfl
set_option maxRecDepth 8192 in
theorem al_70 (h : Holds V0 s j) : (mulf (res_main_while0b_v244 V0) (mulf (res_main_while0b_v234 V0) (Host.divf (broadcastInDim S32x2048x128 ![] bcast_S_S32x2048x128 (constant S_ .f32 0x3F800000#32)) (addf (broadcastInDim S32x2048x128 ![] bcast_S_S32x2048x128 (constant S_ .f32 0x3F800000#32)) (Host.exp (Host.negf (res_main_while0b_v234 V0)))))) : (Proc.devRef .tc main_while0b_v252 : DevRef τ sig).ty.Contents (Elt F)) = Cert.ReferenceIdeal.Step.b70 j s := by
  unfold Cert.ReferenceIdeal.Step.b70
  rw [← al_60 h, ← al_69 h]
  try rfl
set_option maxRecDepth 8192 in
theorem al_71 (h : Holds V0 s j) : (Host.negf (res_main_while0b_v234 V0) : (Proc.devRef .tc main_while0b_v253 : DevRef τ sig).ty.Contents (Elt F)) = Cert.ReferenceIdeal.Step.b71 j s := by
  unfold Cert.ReferenceIdeal.Step.b71
  rw [← al_48 h]
  try rfl
set_option maxRecDepth 8192 in
theorem al_72 (h : Holds V0 s j) : (Host.exp (Host.negf (res_main_while0b_v234 V0)) : (Proc.devRef .tc main_while0b_v254 : DevRef τ sig).ty.Contents (Elt F)) = Cert.ReferenceIdeal.Step.b72 j s := by
  unfold Cert.ReferenceIdeal.Step.b72
  rw [← al_71 h]
  try rfl
set_option maxRecDepth 8192 in
theorem al_73 (h : Holds V0 s j) : (constant S_ .f32 0x3F800000#32 : (Proc.devRef .tc main_while0b_cst_50 : DevRef τ sig).ty.Contents (Elt F)) = Cert.ReferenceIdeal.Step.b73 j s := by
  unfold Cert.ReferenceIdeal.Step.b73
  rfl
set_option maxRecDepth 8192 in
theorem al_74 (h : Holds V0 s j) : (broadcastInDim S32x2048x128 ![] bcast_S_S32x2048x128 (constant S_ .f32 0x3F800000#32) : (Proc.devRef .tc main_while0b_v255 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (addf (broadcastInDim S32x2048x128 ![] bcast_S_S32x2048x128 (constant S_ .f32 0x3F800000#32)) (Host.exp (Host.negf (res_main_while0b_v234 V0))) : (Proc.devRef .tc main_while0b_v256 : DevRef τ sig).ty.Contents (Elt F)) = Cert.ReferenceIdeal.Step.b75 j s := by
  unfold Cert.ReferenceIdeal.Step.b75
  rw [← al_74 h, ← al_72 h]
  try rfl
set_option maxRecDepth 8192 in
theorem al_76 (h : Holds V0 s j) : (constant S_ .f32 0x3F800000#32 : (Proc.devRef .tc main_while0b_cst_51 : DevRef τ sig).ty.Contents (Elt F)) = Cert.ReferenceIdeal.Step.b76 j s := by
  unfold Cert.ReferenceIdeal.Step.b76
  rfl
set_option maxRecDepth 8192 in
theorem al_77 (h : Holds V0 s j) : (broadcastInDim S32x2048x128 ![] bcast_S_S32x2048x128 (constant S_ .f32 0x3F800000#32) : (Proc.devRef .tc main_while0b_v257 : DevRef τ sig).ty.Contents (Elt F)) = Cert.ReferenceIdeal.Step.b77 j s := by
  unfold Cert.ReferenceIdeal.Step.b77
  rw [← al_76 h]
  try rfl
set_option maxRecDepth 8192 in
theorem al_78 (h : Holds V0 s j) : (res_main_while0b_v258 V0 : (Proc.devRef .tc main_while0b_v258 : DevRef τ sig).ty.Contents (Elt F)) = Cert.ReferenceIdeal.Step.b78 j s := by
  unfold res_main_while0b_v258 Cert.ReferenceIdeal.Step.b78
  rw [← al_77 h, ← al_75 h]
  try rfl
set_option maxRecDepth 8192 in
theorem al_79 (h : Holds V0 s j) : (mulf (res_main_while0b_v244 V0) (res_main_while0b_v235 V0) : (Proc.devRef .tc main_while0b_v259 : DevRef τ sig).ty.Contents (Elt F)) = Cert.ReferenceIdeal.Step.b79 j s := by
  unfold Cert.ReferenceIdeal.Step.b79
  rw [← al_60 h, ← al_49 h]
  try rfl
set_option maxRecDepth 8192 in
theorem al_80 (h : Holds V0 s j) : (mulf (mulf (res_main_while0b_v244 V0) (res_main_while0b_v235 V0)) (res_main_while0b_v258 V0) : (Proc.devRef .tc main_while0b_v260 : DevRef τ sig).ty.Contents (Elt F)) = Cert.ReferenceIdeal.Step.b80 j s := by
  unfold Cert.ReferenceIdeal.Step.b80
  rw [← al_79 h, ← al_78 h]
  try rfl
set_option maxRecDepth 8192 in
theorem al_81 (h : Holds V0 s j) : (constant S_ .f32 0x3F800000#32 : (Proc.devRef .tc main_while0b_cst_52 : DevRef τ sig).ty.Contents (Elt F)) = Cert.ReferenceIdeal.Step.b81 j s := by
  unfold Cert.ReferenceIdeal.Step.b81
  rfl
set_option maxRecDepth 8192 in
theorem al_82 (h : Holds V0 s j) : (broadcastInDim S32x2048x128 ![] bcast_S_S32x2048x128 (constant S_ .f32 0x3F800000#32) : (Proc.devRef .tc main_while0b_v261 : DevRef τ sig).ty.Contents (Elt F)) = Cert.ReferenceIdeal.Step.b82 j s := by
  unfold Cert.ReferenceIdeal.Step.b82
  rw [← al_81 h]
  try rfl
set_option maxRecDepth 8192 in
theorem al_83 (h : Holds V0 s j) : (subf (broadcastInDim S32x2048x128 ![] bcast_S_S32x2048x128 (constant S_ .f32 0x3F800000#32)) (res_main_while0b_v258 V0) : (Proc.devRef .tc main_while0b_v262 : DevRef τ sig).ty.Contents (Elt F)) = Cert.ReferenceIdeal.Step.b83 j s := by
  unfold Cert.ReferenceIdeal.Step.b83
  rw [← al_82 h, ← al_78 h]
  try rfl
set_option maxRecDepth 8192 in
theorem al_84 (h : Holds V0 s j) : (mulf (res_main_while0b_v234 V0) (subf (broadcastInDim S32x2048x128 ![] bcast_S_S32x2048x128 (constant S_ .f32 0x3F800000#32)) (res_main_while0b_v258 V0)) : (Proc.devRef .tc main_while0b_v263 : DevRef τ sig).ty.Contents (Elt F)) = Cert.ReferenceIdeal.Step.b84 j s := by
  unfold Cert.ReferenceIdeal.Step.b84
  rw [← al_48 h, ← al_83 h]
  try rfl
set_option maxRecDepth 8192 in
theorem al_85 (h : Holds V0 s j) : (constant S_ .f32 0x3F800000#32 : (Proc.devRef .tc main_while0b_cst_53 : DevRef τ sig).ty.Contents (Elt F)) = Cert.ReferenceIdeal.Step.b85 j s := by
  unfold Cert.ReferenceIdeal.Step.b85
  rfl
set_option maxRecDepth 8192 in
theorem al_86 (h : Holds V0 s j) : (broadcastInDim S32x2048x128 ![] bcast_S_S32x2048x128 (constant S_ .f32 0x3F800000#32) : (Proc.devRef .tc main_while0b_v264 : DevRef τ sig).ty.Contents (Elt F)) = Cert.ReferenceIdeal.Step.b86 j s := by
  unfold Cert.ReferenceIdeal.Step.b86
  rw [← al_85 h]
  try rfl
set_option maxRecDepth 8192 in
theorem al_87 (h : Holds V0 s j) : (addf (broadcastInDim S32x2048x128 ![] bcast_S_S32x2048x128 (constant S_ .f32 0x3F800000#32)) (mulf (res_main_while0b_v234 V0) (subf (broadcastInDim S32x2048x128 ![] bcast_S_S32x2048x128 (constant S_ .f32 0x3F800000#32)) (res_main_while0b_v258 V0))) : (Proc.devRef .tc main_while0b_v265 : DevRef τ sig).ty.Contents (Elt F)) = Cert.ReferenceIdeal.Step.b87 j s := by
  unfold Cert.ReferenceIdeal.Step.b87
  rw [← al_86 h, ← al_84 h]
  try rfl
set_option maxRecDepth 8192 in
theorem al_88 (h : Holds V0 s j) : (mulf (mulf (mulf (res_main_while0b_v244 V0) (res_main_while0b_v235 V0)) (res_main_while0b_v258 V0)) (addf (broadcastInDim S32x2048x128 ![] bcast_S_S32x2048x128 (constant S_ .f32 0x3F800000#32)) (mulf (res_main_while0b_v234 V0) (subf (broadcastInDim S32x2048x128 ![] bcast_S_S32x2048x128 (constant S_ .f32 0x3F800000#32)) (res_main_while0b_v258 V0)))) : (Proc.devRef .tc main_while0b_v266 : DevRef τ sig).ty.Contents (Elt F)) = Cert.ReferenceIdeal.Step.b88 j s := by
  unfold Cert.ReferenceIdeal.Step.b88
  rw [← al_80 h, ← al_87 h]
  try rfl
set_option maxRecDepth 8192 in
theorem al_89 (h : Holds V0 s j) : (broadcastInDim S32x2048x128 ![0, 1, 2] bcast_S32x2048x1_S32x2048x128_0_1_2 (shapeCast S32x2048x1 (Host.dynamicSlice S1x32x2048x1 (V0 (Proc.devRef .tc main_v197_3)) (fun k => (((![V0 (Proc.devRef .tc main_v197_7), constantI S_ 32 0#32, constantI S_ 32 0#32, constantI S_ 32 0#32] : Fin 4 → (⟨S_, .i32⟩ : BufTy).Contents (Elt F))) k (Shape.Idx.first h_S_)).toInt) sliceFits_S4x32x2048x1_S1x32x2048x1) shapeCasts_S1x32x2048x1_S32x2048x1) : (Proc.devRef .tc main_while0b_v267 : DevRef τ sig).ty.Contents (Elt F)) = Cert.ReferenceIdeal.Step.b89 j s := by
  unfold Cert.ReferenceIdeal.Step.b89
  rw [← al_19 h]
  try rfl
set_option maxRecDepth 8192 in
theorem al_90 (h : Holds V0 s j) : (mulf (res_main_while0b_v217 V0) (broadcastInDim S32x2048x128 ![0, 1, 2] bcast_S32x2048x1_S32x2048x128_0_1_2 (shapeCast S32x2048x1 (Host.dynamicSlice S1x32x2048x1 (V0 (Proc.devRef .tc main_v197_3)) (fun k => (((![V0 (Proc.devRef .tc main_v197_7), constantI S_ 32 0#32, constantI S_ 32 0#32, constantI S_ 32 0#32] : Fin 4 → (⟨S_, .i32⟩ : BufTy).Contents (Elt F))) k (Shape.Idx.first h_S_)).toInt) sliceFits_S4x32x2048x1_S1x32x2048x1) shapeCasts_S1x32x2048x1_S32x2048x1)) : (Proc.devRef .tc main_while0b_v268 : DevRef τ sig).ty.Contents (Elt F)) = Cert.ReferenceIdeal.Step.b90 j s := by
  unfold Cert.ReferenceIdeal.Step.b90
  rw [← al_9 h, ← al_89 h]
  try rfl
set_option maxRecDepth 8192 in
theorem al_91 (h : Holds V0 s j) : (Host.dotGeneral dot_S32x2048x128_S32x2048x128_S32x128x128_1_1_2_2_0_0 none (mulf (mulf (mulf (res_main_while0b_v244 V0) (res_main_while0b_v235 V0)) (res_main_while0b_v258 V0)) (addf (broadcastInDim S32x2048x128 ![] bcast_S_S32x2048x128 (constant S_ .f32 0x3F800000#32)) (mulf (res_main_while0b_v234 V0) (subf (broadcastInDim S32x2048x128 ![] bcast_S_S32x2048x128 (constant S_ .f32 0x3F800000#32)) (res_main_while0b_v258 V0))))) (mulf (res_main_while0b_v217 V0) (broadcastInDim S32x2048x128 ![0, 1, 2] bcast_S32x2048x1_S32x2048x128_0_1_2 (shapeCast S32x2048x1 (Host.dynamicSlice S1x32x2048x1 (V0 (Proc.devRef .tc main_v197_3)) (fun k => (((![V0 (Proc.devRef .tc main_v197_7), constantI S_ 32 0#32, constantI S_ 32 0#32, constantI S_ 32 0#32] : Fin 4 → (⟨S_, .i32⟩ : BufTy).Contents (Elt F))) k (Shape.Idx.first h_S_)).toInt) sliceFits_S4x32x2048x1_S1x32x2048x1) shapeCasts_S1x32x2048x1_S32x2048x1))) : (Proc.devRef .tc main_while0b_v269 : DevRef τ sig).ty.Contents (Elt F)) = Cert.ReferenceIdeal.Step.b91 j s := by
  unfold Cert.ReferenceIdeal.Step.b91
  rw [← al_88 h, ← al_90 h]
  try rfl
set_option maxRecDepth 8192 in
theorem al_92 (h : Holds V0 s j) : (broadcastInDim S32x2048x128 ![0, 1, 2] bcast_S32x2048x1_S32x2048x128_0_1_2 (shapeCast S32x2048x1 (Host.dynamicSlice S1x32x2048x1 (V0 (Proc.devRef .tc main_v197_4)) (fun k => (((![V0 (Proc.devRef .tc main_v197_7), constantI S_ 32 0#32, constantI S_ 32 0#32, constantI S_ 32 0#32] : Fin 4 → (⟨S_, .i32⟩ : BufTy).Contents (Elt F))) k (Shape.Idx.first h_S_)).toInt) sliceFits_S4x32x2048x1_S1x32x2048x1) shapeCasts_S1x32x2048x1_S32x2048x1) : (Proc.devRef .tc main_while0b_v270 : DevRef τ sig).ty.Contents (Elt F)) = Cert.ReferenceIdeal.Step.b92 j s := by
  unfold Cert.ReferenceIdeal.Step.b92
  rw [← al_24 h]
  try rfl
set_option maxRecDepth 8192 in
theorem al_93 (h : Holds V0 s j) : (mulf (res_main_while0b_v218 V0) (broadcastInDim S32x2048x128 ![0, 1, 2] bcast_S32x2048x1_S32x2048x128_0_1_2 (shapeCast S32x2048x1 (Host.dynamicSlice S1x32x2048x1 (V0 (Proc.devRef .tc main_v197_4)) (fun k => (((![V0 (Proc.devRef .tc main_v197_7), constantI S_ 32 0#32, constantI S_ 32 0#32, constantI S_ 32 0#32] : Fin 4 → (⟨S_, .i32⟩ : BufTy).Contents (Elt F))) k (Shape.Idx.first h_S_)).toInt) sliceFits_S4x32x2048x1_S1x32x2048x1) shapeCasts_S1x32x2048x1_S32x2048x1)) : (Proc.devRef .tc main_while0b_v271 : DevRef τ sig).ty.Contents (Elt F)) = Cert.ReferenceIdeal.Step.b93 j s := by
  unfold Cert.ReferenceIdeal.Step.b93
  rw [← al_14 h, ← al_92 h]
  try rfl
set_option maxRecDepth 8192 in
theorem al_94 (h : Holds V0 s j) : (Host.dotGeneral dot_S32x2048x128_S32x2048x128_S32x128x128_1_1_2_2_0_0 none (mulf (res_main_while0b_v218 V0) (broadcastInDim S32x2048x128 ![0, 1, 2] bcast_S32x2048x1_S32x2048x128_0_1_2 (shapeCast S32x2048x1 (Host.dynamicSlice S1x32x2048x1 (V0 (Proc.devRef .tc main_v197_4)) (fun k => (((![V0 (Proc.devRef .tc main_v197_7), constantI S_ 32 0#32, constantI S_ 32 0#32, constantI S_ 32 0#32] : Fin 4 → (⟨S_, .i32⟩ : BufTy).Contents (Elt F))) k (Shape.Idx.first h_S_)).toInt) sliceFits_S4x32x2048x1_S1x32x2048x1) shapeCasts_S1x32x2048x1_S32x2048x1))) (mulf (mulf (res_main_while0b_v234 V0) (Host.divf (broadcastInDim S32x2048x128 ![] bcast_S_S32x2048x128 (constant S_ .f32 0x3F800000#32)) (addf (broadcastInDim S32x2048x128 ![] bcast_S_S32x2048x128 (constant S_ .f32 0x3F800000#32)) (Host.exp (Host.negf (res_main_while0b_v234 V0)))))) (res_main_while0b_v235 V0)) : (Proc.devRef .tc main_while0b_v272 : DevRef τ sig).ty.Contents (Elt F)) = Cert.ReferenceIdeal.Step.b94 j s := by
  unfold Cert.ReferenceIdeal.Step.b94
  rw [← al_93 h, ← al_59 h]
  try rfl
set_option maxRecDepth 8192 in
theorem al_95 (h : Holds V0 s j) : (broadcastInDim S32x2048x128 ![0, 1, 2] bcast_S32x2048x1_S32x2048x128_0_1_2 (shapeCast S32x2048x1 (Host.dynamicSlice S1x32x2048x1 (V0 (Proc.devRef .tc main_v197_5)) (fun k => (((![V0 (Proc.devRef .tc main_v197_7), constantI S_ 32 0#32, constantI S_ 32 0#32, constantI S_ 32 0#32] : Fin 4 → (⟨S_, .i32⟩ : BufTy).Contents (Elt F))) k (Shape.Idx.first h_S_)).toInt) sliceFits_S4x32x2048x1_S1x32x2048x1) shapeCasts_S1x32x2048x1_S32x2048x1) : (Proc.devRef .tc main_while0b_v273 : DevRef τ sig).ty.Contents (Elt F)) = Cert.ReferenceIdeal.Step.b95 j s := by
  unfold Cert.ReferenceIdeal.Step.b95
  rw [← al_29 h]
  try rfl
set_option maxRecDepth 8192 in
theorem al_96 (h : Holds V0 s j) : (mulf (res_main_while0b_v217 V0) (broadcastInDim S32x2048x128 ![0, 1, 2] bcast_S32x2048x1_S32x2048x128_0_1_2 (shapeCast S32x2048x1 (Host.dynamicSlice S1x32x2048x1 (V0 (Proc.devRef .tc main_v197_5)) (fun k => (((![V0 (Proc.devRef .tc main_v197_7), constantI S_ 32 0#32, constantI S_ 32 0#32, constantI S_ 32 0#32] : Fin 4 → (⟨S_, .i32⟩ : BufTy).Contents (Elt F))) k (Shape.Idx.first h_S_)).toInt) sliceFits_S4x32x2048x1_S1x32x2048x1) shapeCasts_S1x32x2048x1_S32x2048x1)) : (Proc.devRef .tc main_while0b_v274 : DevRef τ sig).ty.Contents (Elt F)) = Cert.ReferenceIdeal.Step.b96 j s := by
  unfold Cert.ReferenceIdeal.Step.b96
  rw [← al_9 h, ← al_95 h]
  try rfl
set_option maxRecDepth 8192 in
theorem al_97 (h : Holds V0 s j) : (Host.dotGeneral dot_S32x2048x128_S32x2048x128_S32x128x128_1_1_2_2_0_0 none (mulf (res_main_while0b_v244 V0) (mulf (res_main_while0b_v234 V0) (Host.divf (broadcastInDim S32x2048x128 ![] bcast_S_S32x2048x128 (constant S_ .f32 0x3F800000#32)) (addf (broadcastInDim S32x2048x128 ![] bcast_S_S32x2048x128 (constant S_ .f32 0x3F800000#32)) (Host.exp (Host.negf (res_main_while0b_v234 V0))))))) (mulf (res_main_while0b_v217 V0) (broadcastInDim S32x2048x128 ![0, 1, 2] bcast_S32x2048x1_S32x2048x128_0_1_2 (shapeCast S32x2048x1 (Host.dynamicSlice S1x32x2048x1 (V0 (Proc.devRef .tc main_v197_5)) (fun k => (((![V0 (Proc.devRef .tc main_v197_7), constantI S_ 32 0#32, constantI S_ 32 0#32, constantI S_ 32 0#32] : Fin 4 → (⟨S_, .i32⟩ : BufTy).Contents (Elt F))) k (Shape.Idx.first h_S_)).toInt) sliceFits_S4x32x2048x1_S1x32x2048x1) shapeCasts_S1x32x2048x1_S32x2048x1))) : (Proc.devRef .tc main_while0b_v275 : DevRef τ sig).ty.Contents (Elt F)) = Cert.ReferenceIdeal.Step.b97 j s := by
  unfold Cert.ReferenceIdeal.Step.b97
  rw [← al_70 h, ← al_96 h]
  try rfl
set_option maxRecDepth 8192 in
theorem al_98 (h : Holds V0 s j) : (constant S_ .f32 0x00000000#32 : (Proc.devRef .tc main_while0b_cst_54 : DevRef τ sig).ty.Contents (Elt F)) = Cert.ReferenceIdeal.Step.b98 j s := by
  unfold Cert.ReferenceIdeal.Step.b98
  rfl
set_option maxRecDepth 8192 in
theorem al_99 (h : Holds V0 s j) : (Host.reduceAdd (shapeCast S32x2048x1 (Host.dynamicSlice S1x32x2048x1 (V0 (Proc.devRef .tc main_v197_6)) (fun k => (((![V0 (Proc.devRef .tc main_v197_7), constantI S_ 32 0#32, constantI S_ 32 0#32, constantI S_ 32 0#32] : Fin 4 → (⟨S_, .i32⟩ : BufTy).Contents (Elt F))) k (Shape.Idx.first h_S_)).toInt) sliceFits_S4x32x2048x1_S1x32x2048x1) shapeCasts_S1x32x2048x1_S32x2048x1) (constant S_ .f32 0x00000000#32) reducesTo_S32x2048x1_S32x1_d1 h_S_ : (Proc.devRef .tc main_while0b_v276 : DevRef τ sig).ty.Contents (Elt F)) = Cert.ReferenceIdeal.Step.b99 j s := by
  unfold Cert.ReferenceIdeal.Step.b99
  rw [← al_34 h, ← al_98 h]
  try rfl
set_option maxRecDepth 8192 in
theorem al_100 (h : Holds V0 s j) : (constant S_ .f32 0x45000000#32 : (Proc.devRef .tc main_while0b_cst_55 : DevRef τ sig).ty.Contents (Elt F)) = Cert.ReferenceIdeal.Step.b100 j s := by
  unfold Cert.ReferenceIdeal.Step.b100
  rfl
set_option maxRecDepth 8192 in
theorem al_101 (h : Holds V0 s j) : (broadcastInDim S32x1 ![] bcast_S_S32x1 (constant S_ .f32 0x45000000#32) : (Proc.devRef .tc main_while0b_v277 : DevRef τ sig).ty.Contents (Elt F)) = Cert.ReferenceIdeal.Step.b101 j s := by
  unfold Cert.ReferenceIdeal.Step.b101
  rw [← al_100 h]
  try rfl
set_option maxRecDepth 8192 in
theorem al_102 (h : Holds V0 s j) : (Host.divf (Host.reduceAdd (shapeCast S32x2048x1 (Host.dynamicSlice S1x32x2048x1 (V0 (Proc.devRef .tc main_v197_6)) (fun k => (((![V0 (Proc.devRef .tc main_v197_7), constantI S_ 32 0#32, constantI S_ 32 0#32, constantI S_ 32 0#32] : Fin 4 → (⟨S_, .i32⟩ : BufTy).Contents (Elt F))) k (Shape.Idx.first h_S_)).toInt) sliceFits_S4x32x2048x1_S1x32x2048x1) shapeCasts_S1x32x2048x1_S32x2048x1) (constant S_ .f32 0x00000000#32) reducesTo_S32x2048x1_S32x1_d1 h_S_) (broadcastInDim S32x1 ![] bcast_S_S32x1 (constant S_ .f32 0x45000000#32)) : (Proc.devRef .tc main_while0b_v278 : DevRef τ sig).ty.Contents (Elt F)) = Cert.ReferenceIdeal.Step.b102 j s := by
  unfold Cert.ReferenceIdeal.Step.b102
  rw [← al_99 h, ← al_101 h]
  try rfl
set_option maxRecDepth 8192 in
theorem al_103 (h : Holds V0 s j) : (res_main_while0b_v279 V0 : (Proc.devRef .tc main_while0b_v279 : DevRef τ sig).ty.Contents (Elt F)) = Cert.ReferenceIdeal.Step.b103 j s := by
  unfold res_main_while0b_v279 Cert.ReferenceIdeal.Step.b103
  rw [← al_102 h]
  try rfl
set_option maxRecDepth 8192 in
theorem al_104 (h : Holds V0 s j) : (broadcastInDim S32x128x128 ![0, 1, 2] bcast_S32x1x1_S32x128x128_0_1_2 (res_main_while0b_v279 V0) : (Proc.devRef .tc main_while0b_v280 : DevRef τ sig).ty.Contents (Elt F)) = Cert.ReferenceIdeal.Step.b104 j s := by
  unfold Cert.ReferenceIdeal.Step.b104
  rw [← al_103 h]
  try rfl
set_option maxRecDepth 8192 in
theorem al_105 (h : Holds V0 s j) : (mulf (broadcastInDim S32x128x128 ![0, 1, 2] bcast_S32x1x1_S32x128x128_0_1_2 (res_main_while0b_v279 V0)) (V0 (Proc.devRef .tc main_v197_11)) : (Proc.devRef .tc main_while0b_v281 : DevRef τ sig).ty.Contents (Elt F)) = Cert.ReferenceIdeal.Step.b105 j s := by
  unfold Cert.ReferenceIdeal.Step.b105
  rw [← al_104 h, h.f_11]
  try rfl
set_option maxRecDepth 8192 in
theorem al_106 (h : Holds V0 s j) : (res_main_while0b_v282 V0 : (Proc.devRef .tc main_while0b_v282 : DevRef τ sig).ty.Contents (Elt F)) = Cert.ReferenceIdeal.Step.b106 j s := by
  unfold res_main_while0b_v282 Cert.ReferenceIdeal.Step.b106
  rw [← al_105 h, ← al_91 h]
  try rfl
set_option maxRecDepth 8192 in
theorem al_107 (h : Holds V0 s j) : (broadcastInDim S32x128x128 ![0, 1, 2] bcast_S32x1x1_S32x128x128_0_1_2 (res_main_while0b_v279 V0) : (Proc.devRef .tc main_while0b_v283 : DevRef τ sig).ty.Contents (Elt F)) = Cert.ReferenceIdeal.Step.b107 j s := by
  unfold Cert.ReferenceIdeal.Step.b107
  rw [← al_103 h]
  try rfl
set_option maxRecDepth 8192 in
theorem al_108 (h : Holds V0 s j) : (mulf (broadcastInDim S32x128x128 ![0, 1, 2] bcast_S32x1x1_S32x128x128_0_1_2 (res_main_while0b_v279 V0)) (V0 (Proc.devRef .tc main_v197_12)) : (Proc.devRef .tc main_while0b_v284 : DevRef τ sig).ty.Contents (Elt F)) = Cert.ReferenceIdeal.Step.b108 j s := by
  unfold Cert.ReferenceIdeal.Step.b108
  rw [← al_107 h, h.f_12]
  try rfl
set_option maxRecDepth 8192 in
theorem al_109 (h : Holds V0 s j) : (res_main_while0b_v285 V0 : (Proc.devRef .tc main_while0b_v285 : DevRef τ sig).ty.Contents (Elt F)) = Cert.ReferenceIdeal.Step.b109 j s := by
  unfold res_main_while0b_v285 Cert.ReferenceIdeal.Step.b109
  rw [← al_108 h, ← al_94 h]
  try rfl
set_option maxRecDepth 8192 in
theorem al_110 (h : Holds V0 s j) : (broadcastInDim S32x128x128 ![0, 1, 2] bcast_S32x1x1_S32x128x128_0_1_2 (res_main_while0b_v279 V0) : (Proc.devRef .tc main_while0b_v286 : DevRef τ sig).ty.Contents (Elt F)) = Cert.ReferenceIdeal.Step.b110 j s := by
  unfold Cert.ReferenceIdeal.Step.b110
  rw [← al_103 h]
  try rfl
set_option maxRecDepth 8192 in
theorem al_111 (h : Holds V0 s j) : (mulf (broadcastInDim S32x128x128 ![0, 1, 2] bcast_S32x1x1_S32x128x128_0_1_2 (res_main_while0b_v279 V0)) (V0 (Proc.devRef .tc main_v197_13)) : (Proc.devRef .tc main_while0b_v287 : DevRef τ sig).ty.Contents (Elt F)) = Cert.ReferenceIdeal.Step.b111 j s := by
  unfold Cert.ReferenceIdeal.Step.b111
  rw [← al_110 h, h.f_13]
  try rfl
set_option maxRecDepth 8192 in
theorem al_112 (h : Holds V0 s j) : (res_main_while0b_v288 V0 : (Proc.devRef .tc main_while0b_v288 : DevRef τ sig).ty.Contents (Elt F)) = Cert.ReferenceIdeal.Step.b112 j s := by
  unfold res_main_while0b_v288 Cert.ReferenceIdeal.Step.b112
  rw [← al_111 h, ← al_97 h]
  try rfl
set_option maxRecDepth 8192 in
theorem al_113 (h : Holds V0 s j) : (res_main_while0b_v289 V0 : (Proc.devRef .tc main_while0b_v289 : DevRef τ sig).ty.Contents (Elt F)) = Cert.ReferenceIdeal.Step.b113 j s := by
  unfold res_main_while0b_v289 Cert.ReferenceIdeal.Step.b113
  rw [← al_106 h, h.f_8]
  try rfl
set_option maxRecDepth 8192 in
theorem al_114 (h : Holds V0 s j) : (mulf (res_main_while0b_v289 V0) (res_main_while0b_v289 V0) : (Proc.devRef .tc main_while0b_v290 : DevRef τ sig).ty.Contents (Elt F)) = Cert.ReferenceIdeal.Step.b114 j s := by
  unfold Cert.ReferenceIdeal.Step.b114
  rw [← al_113 h]
  try rfl
set_option maxRecDepth 8192 in
theorem al_115 (h : Holds V0 s j) : (constant S_ .f32 0x00000000#32 : (Proc.devRef .tc main_while0b_cst_56 : DevRef τ sig).ty.Contents (Elt F)) = Cert.ReferenceIdeal.Step.b115 j s := by
  unfold Cert.ReferenceIdeal.Step.b115
  rfl
set_option maxRecDepth 8192 in
theorem al_116 (h : Holds V0 s j) : (Host.reduceAdd (mulf (res_main_while0b_v289 V0) (res_main_while0b_v289 V0)) (constant S_ .f32 0x00000000#32) reducesTo_S32x128x128_S32x128_d2 h_S_ : (Proc.devRef .tc main_while0b_v291 : DevRef τ sig).ty.Contents (Elt F)) = Cert.ReferenceIdeal.Step.b116 j s := by
  unfold Cert.ReferenceIdeal.Step.b116
  rw [← al_114 h, ← al_115 h]
  try rfl
set_option maxRecDepth 8192 in
theorem al_117 (h : Holds V0 s j) : (broadcastInDim S32x128x1 ![0, 1] bcast_S32x128_S32x128x1_0_1 (Host.reduceAdd (mulf (res_main_while0b_v289 V0) (res_main_while0b_v289 V0)) (constant S_ .f32 0x00000000#32) reducesTo_S32x128x128_S32x128_d2 h_S_) : (Proc.devRef .tc main_while0b_v292 : DevRef τ sig).ty.Contents (Elt F)) = Cert.ReferenceIdeal.Step.b117 j s := by
  unfold Cert.ReferenceIdeal.Step.b117
  rw [← al_116 h]
  try rfl
set_option maxRecDepth 8192 in
theorem al_118 (h : Holds V0 s j) : (constant S_ .f32 0x358637BD#32 : (Proc.devRef .tc main_while0b_cst_57 : DevRef τ sig).ty.Contents (Elt F)) = Cert.ReferenceIdeal.Step.b118 j s := by
  unfold Cert.ReferenceIdeal.Step.b118
  rfl
set_option maxRecDepth 8192 in
theorem al_119 (h : Holds V0 s j) : (broadcastInDim S32x128x1 ![] bcast_S_S32x128x1 (constant S_ .f32 0x358637BD#32) : (Proc.devRef .tc main_while0b_v293 : DevRef τ sig).ty.Contents (Elt F)) = Cert.ReferenceIdeal.Step.b119 j s := by
  unfold Cert.ReferenceIdeal.Step.b119
  rw [← al_118 h]
  try rfl
set_option maxRecDepth 8192 in
theorem al_120 (h : Holds V0 s j) : (addf (broadcastInDim S32x128x1 ![0, 1] bcast_S32x128_S32x128x1_0_1 (Host.reduceAdd (mulf (res_main_while0b_v289 V0) (res_main_while0b_v289 V0)) (constant S_ .f32 0x00000000#32) reducesTo_S32x128x128_S32x128_d2 h_S_)) (broadcastInDim S32x128x1 ![] bcast_S_S32x128x1 (constant S_ .f32 0x358637BD#32)) : (Proc.devRef .tc main_while0b_v294 : DevRef τ sig).ty.Contents (Elt F)) = Cert.ReferenceIdeal.Step.b120 j s := by
  unfold Cert.ReferenceIdeal.Step.b120
  rw [← al_117 h, ← al_119 h]
  try rfl
set_option maxRecDepth 8192 in
theorem al_121 (h : Holds V0 s j) : (Host.rsqrt (addf (broadcastInDim S32x128x1 ![0, 1] bcast_S32x128_S32x128x1_0_1 (Host.reduceAdd (mulf (res_main_while0b_v289 V0) (res_main_while0b_v289 V0)) (constant S_ .f32 0x00000000#32) reducesTo_S32x128x128_S32x128_d2 h_S_)) (broadcastInDim S32x128x1 ![] bcast_S_S32x128x1 (constant S_ .f32 0x358637BD#32))) : (Proc.devRef .tc main_while0b_v295 : DevRef τ sig).ty.Contents (Elt F)) = Cert.ReferenceIdeal.Step.b121 j s := by
  unfold Cert.ReferenceIdeal.Step.b121
  rw [← al_120 h]
  try rfl
set_option maxRecDepth 8192 in
theorem al_122 (h : Holds V0 s j) : (broadcastInDim S32x128x128 ![0, 1, 2] bcast_S32x128x1_S32x128x128_0_1_2 (Host.rsqrt (addf (broadcastInDim S32x128x1 ![0, 1] bcast_S32x128_S32x128x1_0_1 (Host.reduceAdd (mulf (res_main_while0b_v289 V0) (res_main_while0b_v289 V0)) (constant S_ .f32 0x00000000#32) reducesTo_S32x128x128_S32x128_d2 h_S_)) (broadcastInDim S32x128x1 ![] bcast_S_S32x128x1 (constant S_ .f32 0x358637BD#32)))) : (Proc.devRef .tc main_while0b_v296 : DevRef τ sig).ty.Contents (Elt F)) = Cert.ReferenceIdeal.Step.b122 j s := by
  unfold Cert.ReferenceIdeal.Step.b122
  rw [← al_121 h]
  try rfl
set_option maxRecDepth 8192 in
theorem al_123 (h : Holds V0 s j) : (mulf (res_main_while0b_v289 V0) (broadcastInDim S32x128x128 ![0, 1, 2] bcast_S32x128x1_S32x128x128_0_1_2 (Host.rsqrt (addf (broadcastInDim S32x128x1 ![0, 1] bcast_S32x128_S32x128x1_0_1 (Host.reduceAdd (mulf (res_main_while0b_v289 V0) (res_main_while0b_v289 V0)) (constant S_ .f32 0x00000000#32) reducesTo_S32x128x128_S32x128_d2 h_S_)) (broadcastInDim S32x128x1 ![] bcast_S_S32x128x1 (constant S_ .f32 0x358637BD#32))))) : (Proc.devRef .tc main_while0b_v297 : DevRef τ sig).ty.Contents (Elt F)) = Cert.ReferenceIdeal.Step.b123 j s := by
  unfold Cert.ReferenceIdeal.Step.b123
  rw [← al_113 h, ← al_122 h]
  try rfl
set_option maxRecDepth 8192 in
theorem al_124 (h : Holds V0 s j) : (res_main_while0b_v298 V0 : (Proc.devRef .tc main_while0b_v298 : DevRef τ sig).ty.Contents (Elt F)) = Cert.ReferenceIdeal.Step.b124 j s := by
  unfold res_main_while0b_v298 Cert.ReferenceIdeal.Step.b124
  rw [← al_109 h, h.f_9]
  try rfl
set_option maxRecDepth 8192 in
theorem al_125 (h : Holds V0 s j) : (mulf (res_main_while0b_v298 V0) (res_main_while0b_v298 V0) : (Proc.devRef .tc main_while0b_v299 : DevRef τ sig).ty.Contents (Elt F)) = Cert.ReferenceIdeal.Step.b125 j s := by
  unfold Cert.ReferenceIdeal.Step.b125
  rw [← al_124 h]
  try rfl
set_option maxRecDepth 8192 in
theorem al_126 (h : Holds V0 s j) : (constant S_ .f32 0x00000000#32 : (Proc.devRef .tc main_while0b_cst_58 : DevRef τ sig).ty.Contents (Elt F)) = Cert.ReferenceIdeal.Step.b126 j s := by
  unfold Cert.ReferenceIdeal.Step.b126
  rfl
set_option maxRecDepth 8192 in
theorem al_127 (h : Holds V0 s j) : (Host.reduceAdd (mulf (res_main_while0b_v298 V0) (res_main_while0b_v298 V0)) (constant S_ .f32 0x00000000#32) reducesTo_S32x128x128_S32x128_d2 h_S_ : (Proc.devRef .tc main_while0b_v300 : DevRef τ sig).ty.Contents (Elt F)) = Cert.ReferenceIdeal.Step.b127 j s := by
  unfold Cert.ReferenceIdeal.Step.b127
  rw [← al_125 h, ← al_126 h]
  try rfl
set_option maxRecDepth 8192 in
theorem al_128 (h : Holds V0 s j) : (broadcastInDim S32x128x1 ![0, 1] bcast_S32x128_S32x128x1_0_1 (Host.reduceAdd (mulf (res_main_while0b_v298 V0) (res_main_while0b_v298 V0)) (constant S_ .f32 0x00000000#32) reducesTo_S32x128x128_S32x128_d2 h_S_) : (Proc.devRef .tc main_while0b_v301 : DevRef τ sig).ty.Contents (Elt F)) = Cert.ReferenceIdeal.Step.b128 j s := by
  unfold Cert.ReferenceIdeal.Step.b128
  rw [← al_127 h]
  try rfl
set_option maxRecDepth 8192 in
theorem al_129 (h : Holds V0 s j) : (constant S_ .f32 0x358637BD#32 : (Proc.devRef .tc main_while0b_cst_59 : DevRef τ sig).ty.Contents (Elt F)) = Cert.ReferenceIdeal.Step.b129 j s := by
  unfold Cert.ReferenceIdeal.Step.b129
  rfl
set_option maxRecDepth 8192 in
theorem al_130 (h : Holds V0 s j) : (broadcastInDim S32x128x1 ![] bcast_S_S32x128x1 (constant S_ .f32 0x358637BD#32) : (Proc.devRef .tc main_while0b_v302 : DevRef τ sig).ty.Contents (Elt F)) = Cert.ReferenceIdeal.Step.b130 j s := by
  unfold Cert.ReferenceIdeal.Step.b130
  rw [← al_129 h]
  try rfl
set_option maxRecDepth 8192 in
theorem al_131 (h : Holds V0 s j) : (addf (broadcastInDim S32x128x1 ![0, 1] bcast_S32x128_S32x128x1_0_1 (Host.reduceAdd (mulf (res_main_while0b_v298 V0) (res_main_while0b_v298 V0)) (constant S_ .f32 0x00000000#32) reducesTo_S32x128x128_S32x128_d2 h_S_)) (broadcastInDim S32x128x1 ![] bcast_S_S32x128x1 (constant S_ .f32 0x358637BD#32)) : (Proc.devRef .tc main_while0b_v303 : DevRef τ sig).ty.Contents (Elt F)) = Cert.ReferenceIdeal.Step.b131 j s := by
  unfold Cert.ReferenceIdeal.Step.b131
  rw [← al_128 h, ← al_130 h]
  try rfl
set_option maxRecDepth 8192 in
theorem al_132 (h : Holds V0 s j) : (Host.rsqrt (addf (broadcastInDim S32x128x1 ![0, 1] bcast_S32x128_S32x128x1_0_1 (Host.reduceAdd (mulf (res_main_while0b_v298 V0) (res_main_while0b_v298 V0)) (constant S_ .f32 0x00000000#32) reducesTo_S32x128x128_S32x128_d2 h_S_)) (broadcastInDim S32x128x1 ![] bcast_S_S32x128x1 (constant S_ .f32 0x358637BD#32))) : (Proc.devRef .tc main_while0b_v304 : DevRef τ sig).ty.Contents (Elt F)) = Cert.ReferenceIdeal.Step.b132 j s := by
  unfold Cert.ReferenceIdeal.Step.b132
  rw [← al_131 h]
  try rfl
set_option maxRecDepth 8192 in
theorem al_133 (h : Holds V0 s j) : (broadcastInDim S32x128x128 ![0, 1, 2] bcast_S32x128x1_S32x128x128_0_1_2 (Host.rsqrt (addf (broadcastInDim S32x128x1 ![0, 1] bcast_S32x128_S32x128x1_0_1 (Host.reduceAdd (mulf (res_main_while0b_v298 V0) (res_main_while0b_v298 V0)) (constant S_ .f32 0x00000000#32) reducesTo_S32x128x128_S32x128_d2 h_S_)) (broadcastInDim S32x128x1 ![] bcast_S_S32x128x1 (constant S_ .f32 0x358637BD#32)))) : (Proc.devRef .tc main_while0b_v305 : DevRef τ sig).ty.Contents (Elt F)) = Cert.ReferenceIdeal.Step.b133 j s := by
  unfold Cert.ReferenceIdeal.Step.b133
  rw [← al_132 h]
  try rfl
set_option maxRecDepth 8192 in
theorem al_134 (h : Holds V0 s j) : (mulf (res_main_while0b_v298 V0) (broadcastInDim S32x128x128 ![0, 1, 2] bcast_S32x128x1_S32x128x128_0_1_2 (Host.rsqrt (addf (broadcastInDim S32x128x1 ![0, 1] bcast_S32x128_S32x128x1_0_1 (Host.reduceAdd (mulf (res_main_while0b_v298 V0) (res_main_while0b_v298 V0)) (constant S_ .f32 0x00000000#32) reducesTo_S32x128x128_S32x128_d2 h_S_)) (broadcastInDim S32x128x1 ![] bcast_S_S32x128x1 (constant S_ .f32 0x358637BD#32))))) : (Proc.devRef .tc main_while0b_v306 : DevRef τ sig).ty.Contents (Elt F)) = Cert.ReferenceIdeal.Step.b134 j s := by
  unfold Cert.ReferenceIdeal.Step.b134
  rw [← al_124 h, ← al_133 h]
  try rfl
set_option maxRecDepth 8192 in
theorem al_135 (h : Holds V0 s j) : (res_main_while0b_v307 V0 : (Proc.devRef .tc main_while0b_v307 : DevRef τ sig).ty.Contents (Elt F)) = Cert.ReferenceIdeal.Step.b135 j s := by
  unfold res_main_while0b_v307 Cert.ReferenceIdeal.Step.b135
  rw [← al_112 h, h.f_10]
  try rfl
set_option maxRecDepth 8192 in
theorem al_136 (h : Holds V0 s j) : (mulf (res_main_while0b_v307 V0) (res_main_while0b_v307 V0) : (Proc.devRef .tc main_while0b_v308 : DevRef τ sig).ty.Contents (Elt F)) = Cert.ReferenceIdeal.Step.b136 j s := by
  unfold Cert.ReferenceIdeal.Step.b136
  rw [← al_135 h]
  try rfl
set_option maxRecDepth 8192 in
theorem al_137 (h : Holds V0 s j) : (constant S_ .f32 0x00000000#32 : (Proc.devRef .tc main_while0b_cst_60 : DevRef τ sig).ty.Contents (Elt F)) = Cert.ReferenceIdeal.Step.b137 j s := by
  unfold Cert.ReferenceIdeal.Step.b137
  rfl
set_option maxRecDepth 8192 in
theorem al_138 (h : Holds V0 s j) : (Host.reduceAdd (mulf (res_main_while0b_v307 V0) (res_main_while0b_v307 V0)) (constant S_ .f32 0x00000000#32) reducesTo_S32x128x128_S32x128_d2 h_S_ : (Proc.devRef .tc main_while0b_v309 : DevRef τ sig).ty.Contents (Elt F)) = Cert.ReferenceIdeal.Step.b138 j s := by
  unfold Cert.ReferenceIdeal.Step.b138
  rw [← al_136 h, ← al_137 h]
  try rfl
set_option maxRecDepth 8192 in
theorem al_139 (h : Holds V0 s j) : (broadcastInDim S32x128x1 ![0, 1] bcast_S32x128_S32x128x1_0_1 (Host.reduceAdd (mulf (res_main_while0b_v307 V0) (res_main_while0b_v307 V0)) (constant S_ .f32 0x00000000#32) reducesTo_S32x128x128_S32x128_d2 h_S_) : (Proc.devRef .tc main_while0b_v310 : DevRef τ sig).ty.Contents (Elt F)) = Cert.ReferenceIdeal.Step.b139 j s := by
  unfold Cert.ReferenceIdeal.Step.b139
  rw [← al_138 h]
  try rfl
set_option maxRecDepth 8192 in
theorem al_140 (h : Holds V0 s j) : (constant S_ .f32 0x358637BD#32 : (Proc.devRef .tc main_while0b_cst_61 : DevRef τ sig).ty.Contents (Elt F)) = Cert.ReferenceIdeal.Step.b140 j s := by
  unfold Cert.ReferenceIdeal.Step.b140
  rfl
set_option maxRecDepth 8192 in
theorem al_141 (h : Holds V0 s j) : (broadcastInDim S32x128x1 ![] bcast_S_S32x128x1 (constant S_ .f32 0x358637BD#32) : (Proc.devRef .tc main_while0b_v311 : DevRef τ sig).ty.Contents (Elt F)) = Cert.ReferenceIdeal.Step.b141 j s := by
  unfold Cert.ReferenceIdeal.Step.b141
  rw [← al_140 h]
  try rfl
set_option maxRecDepth 8192 in
theorem al_142 (h : Holds V0 s j) : (addf (broadcastInDim S32x128x1 ![0, 1] bcast_S32x128_S32x128x1_0_1 (Host.reduceAdd (mulf (res_main_while0b_v307 V0) (res_main_while0b_v307 V0)) (constant S_ .f32 0x00000000#32) reducesTo_S32x128x128_S32x128_d2 h_S_)) (broadcastInDim S32x128x1 ![] bcast_S_S32x128x1 (constant S_ .f32 0x358637BD#32)) : (Proc.devRef .tc main_while0b_v312 : DevRef τ sig).ty.Contents (Elt F)) = Cert.ReferenceIdeal.Step.b142 j s := by
  unfold Cert.ReferenceIdeal.Step.b142
  rw [← al_139 h, ← al_141 h]
  try rfl
set_option maxRecDepth 8192 in
theorem al_143 (h : Holds V0 s j) : (Host.rsqrt (addf (broadcastInDim S32x128x1 ![0, 1] bcast_S32x128_S32x128x1_0_1 (Host.reduceAdd (mulf (res_main_while0b_v307 V0) (res_main_while0b_v307 V0)) (constant S_ .f32 0x00000000#32) reducesTo_S32x128x128_S32x128_d2 h_S_)) (broadcastInDim S32x128x1 ![] bcast_S_S32x128x1 (constant S_ .f32 0x358637BD#32))) : (Proc.devRef .tc main_while0b_v313 : DevRef τ sig).ty.Contents (Elt F)) = Cert.ReferenceIdeal.Step.b143 j s := by
  unfold Cert.ReferenceIdeal.Step.b143
  rw [← al_142 h]
  try rfl
set_option maxRecDepth 8192 in
theorem al_144 (h : Holds V0 s j) : (broadcastInDim S32x128x128 ![0, 1, 2] bcast_S32x128x1_S32x128x128_0_1_2 (Host.rsqrt (addf (broadcastInDim S32x128x1 ![0, 1] bcast_S32x128_S32x128x1_0_1 (Host.reduceAdd (mulf (res_main_while0b_v307 V0) (res_main_while0b_v307 V0)) (constant S_ .f32 0x00000000#32) reducesTo_S32x128x128_S32x128_d2 h_S_)) (broadcastInDim S32x128x1 ![] bcast_S_S32x128x1 (constant S_ .f32 0x358637BD#32)))) : (Proc.devRef .tc main_while0b_v314 : DevRef τ sig).ty.Contents (Elt F)) = Cert.ReferenceIdeal.Step.b144 j s := by
  unfold Cert.ReferenceIdeal.Step.b144
  rw [← al_143 h]
  try rfl
set_option maxRecDepth 8192 in
theorem al_145 (h : Holds V0 s j) : (mulf (res_main_while0b_v307 V0) (broadcastInDim S32x128x128 ![0, 1, 2] bcast_S32x128x1_S32x128x128_0_1_2 (Host.rsqrt (addf (broadcastInDim S32x128x1 ![0, 1] bcast_S32x128_S32x128x1_0_1 (Host.reduceAdd (mulf (res_main_while0b_v307 V0) (res_main_while0b_v307 V0)) (constant S_ .f32 0x00000000#32) reducesTo_S32x128x128_S32x128_d2 h_S_)) (broadcastInDim S32x128x1 ![] bcast_S_S32x128x1 (constant S_ .f32 0x358637BD#32))))) : (Proc.devRef .tc main_while0b_v315 : DevRef τ sig).ty.Contents (Elt F)) = Cert.ReferenceIdeal.Step.b145 j s := by
  unfold Cert.ReferenceIdeal.Step.b145
  rw [← al_135 h, ← al_144 h]
  try rfl
set_option maxRecDepth 8192 in
theorem al_146 (h : Holds V0 s j) : (broadcastInDim S1x32x2048x128 ![1, 2, 3] bcast_S32x2048x128_S1x32x2048x128_1_2_3 (Host.dotGeneral dot_S32x2048x128_S32x128x128_S32x2048x128_2_2_1_1_0_0 none (mulf (mulf (res_main_while0b_v223 V0) (Host.divf (broadcastInDim S32x2048x128 ![] bcast_S_S32x2048x128 (constant S_ .f32 0x3F800000#32)) (addf (broadcastInDim S32x2048x128 ![] bcast_S_S32x2048x128 (constant S_ .f32 0x3F800000#32)) (Host.exp (Host.negf (res_main_while0b_v223 V0)))))) (Host.dotGeneral dot_S32x2048x128_S32x128x128_S32x2048x128_2_2_1_1_0_0 none (res_main_while0b_v216 V0) (V0 (Proc.devRef .tc main_v197_10)))) (V0 (Proc.devRef .tc main_v197_9))) : (Proc.devRef .tc main_while0b_call8_v0 : DevRef τ sig).ty.Contents (Elt F)) = Cert.ReferenceIdeal.Step.b146 j s := by
  unfold Cert.ReferenceIdeal.Step.b146
  rw [← al_47 h]
  try rfl
set_option maxRecDepth 8192 in
theorem al_147 (h : Holds V0 s j) : (constantI S_ 32 0#32 : (Proc.devRef .tc main_while0b_call8_c : DevRef τ sig).ty.Contents (Elt F)) = Cert.ReferenceIdeal.Step.b147 j s := by
  unfold Cert.ReferenceIdeal.Step.b147
  rfl
set_option maxRecDepth 8192 in
theorem al_148 (h : Holds V0 s j) : (constantI S_ 32 0#32 : (Proc.devRef .tc main_while0b_call8_c_0 : DevRef τ sig).ty.Contents (Elt F)) = Cert.ReferenceIdeal.Step.b148 j s := by
  unfold Cert.ReferenceIdeal.Step.b148
  rfl
set_option maxRecDepth 8192 in
theorem al_149 (h : Holds V0 s j) : (constantI S_ 32 0#32 : (Proc.devRef .tc main_while0b_call8_c_1 : DevRef τ sig).ty.Contents (Elt F)) = Cert.ReferenceIdeal.Step.b149 j s := by
  unfold Cert.ReferenceIdeal.Step.b149
  rfl
set_option maxRecDepth 8192 in
theorem al_150 (h : Holds V0 s j) : (Host.dynamicUpdateSlice (V0 (Proc.devRef .tc main_v197_14)) (broadcastInDim S1x32x2048x128 ![1, 2, 3] bcast_S32x2048x128_S1x32x2048x128_1_2_3 (Host.dotGeneral dot_S32x2048x128_S32x128x128_S32x2048x128_2_2_1_1_0_0 none (mulf (mulf (res_main_while0b_v223 V0) (Host.divf (broadcastInDim S32x2048x128 ![] bcast_S_S32x2048x128 (constant S_ .f32 0x3F800000#32)) (addf (broadcastInDim S32x2048x128 ![] bcast_S_S32x2048x128 (constant S_ .f32 0x3F800000#32)) (Host.exp (Host.negf (res_main_while0b_v223 V0)))))) (Host.dotGeneral dot_S32x2048x128_S32x128x128_S32x2048x128_2_2_1_1_0_0 none (res_main_while0b_v216 V0) (V0 (Proc.devRef .tc main_v197_10)))) (V0 (Proc.devRef .tc main_v197_9)))) (fun k => (((![V0 (Proc.devRef .tc main_v197_7), constantI S_ 32 0#32, constantI S_ 32 0#32, constantI S_ 32 0#32] : Fin 4 → (⟨S_, .i32⟩ : BufTy).Contents (Elt F))) k (Shape.Idx.first h_S_)).toInt) updateFits_S4x32x2048x128_S1x32x2048x128 : (Proc.devRef .tc main_while0b_v316 : DevRef τ sig).ty.Contents (Elt F)) = Cert.ReferenceIdeal.Step.b150 j s := by
  unfold Cert.ReferenceIdeal.Step.b150
  rw [← al_146 h, ← al_147 h, ← al_148 h, ← al_149 h, h.f_14, h.n_7]
  try rfl

/-! One trip's step of the carried values is `step`, field by field; a counter steps to the next number. -/

theorem step_8 (h : Holds V0 s j) : step_main_v197_8 V0 = (step j s).main_v197_8 := by
  unfold step_main_v197_8 Cert.ReferenceIdeal.Step.step
  show id (mulf (res_main_while0b_v289 V0) (broadcastInDim S32x128x128 ![0, 1, 2] bcast_S32x128x1_S32x128x128_0_1_2 (Host.rsqrt (addf (broadcastInDim S32x128x1 ![0, 1] bcast_S32x128_S32x128x1_0_1 (Host.reduceAdd (mulf (res_main_while0b_v289 V0) (res_main_while0b_v289 V0)) (constant S_ .f32 0x00000000#32) reducesTo_S32x128x128_S32x128_d2 h_S_)) (broadcastInDim S32x128x1 ![] bcast_S_S32x128x1 (constant S_ .f32 0x358637BD#32)))))) = _
  rw [al_123 h]
  try rfl
theorem step_9 (h : Holds V0 s j) : step_main_v197_9 V0 = (step j s).main_v197_9 := by
  unfold step_main_v197_9 Cert.ReferenceIdeal.Step.step
  show id (mulf (res_main_while0b_v298 V0) (broadcastInDim S32x128x128 ![0, 1, 2] bcast_S32x128x1_S32x128x128_0_1_2 (Host.rsqrt (addf (broadcastInDim S32x128x1 ![0, 1] bcast_S32x128_S32x128x1_0_1 (Host.reduceAdd (mulf (res_main_while0b_v298 V0) (res_main_while0b_v298 V0)) (constant S_ .f32 0x00000000#32) reducesTo_S32x128x128_S32x128_d2 h_S_)) (broadcastInDim S32x128x1 ![] bcast_S_S32x128x1 (constant S_ .f32 0x358637BD#32)))))) = _
  rw [al_134 h]
  try rfl
theorem step_10 (h : Holds V0 s j) : step_main_v197_10 V0 = (step j s).main_v197_10 := by
  unfold step_main_v197_10 Cert.ReferenceIdeal.Step.step
  show id (mulf (res_main_while0b_v307 V0) (broadcastInDim S32x128x128 ![0, 1, 2] bcast_S32x128x1_S32x128x128_0_1_2 (Host.rsqrt (addf (broadcastInDim S32x128x1 ![0, 1] bcast_S32x128_S32x128x1_0_1 (Host.reduceAdd (mulf (res_main_while0b_v307 V0) (res_main_while0b_v307 V0)) (constant S_ .f32 0x00000000#32) reducesTo_S32x128x128_S32x128_d2 h_S_)) (broadcastInDim S32x128x1 ![] bcast_S_S32x128x1 (constant S_ .f32 0x358637BD#32)))))) = _
  rw [al_145 h]
  try rfl
theorem step_11 (h : Holds V0 s j) : step_main_v197_11 V0 = (step j s).main_v197_11 := by
  unfold step_main_v197_11 Cert.ReferenceIdeal.Step.step
  show id (res_main_while0b_v282 V0) = _
  rw [al_106 h]
  try rfl
theorem step_12 (h : Holds V0 s j) : step_main_v197_12 V0 = (step j s).main_v197_12 := by
  unfold step_main_v197_12 Cert.ReferenceIdeal.Step.step
  show id (res_main_while0b_v285 V0) = _
  rw [al_109 h]
  try rfl
theorem step_13 (h : Holds V0 s j) : step_main_v197_13 V0 = (step j s).main_v197_13 := by
  unfold step_main_v197_13 Cert.ReferenceIdeal.Step.step
  show id (res_main_while0b_v288 V0) = _
  rw [al_112 h]
  try rfl
theorem step_14 (h : Holds V0 s j) : step_main_v197_14 V0 = (step j s).main_v197_14 := by
  unfold step_main_v197_14 Cert.ReferenceIdeal.Step.step
  exact al_150 h
theorem step_7 (h : Holds V0 s j) : step_main_v197_7 V0 = constantI S_ 32 (BitVec.ofNat 32 (j + 1)) := by
  unfold step_main_v197_7
  rw [h.n_7]
  funext i
  show BitVec.ofNat 32 j + 1#32 = BitVec.ofNat 32 (j + 1)
  simp only [BitVec.ofNat_add]

set_option maxRecDepth 8192 in
theorem out_main_v215_holds (h : Holds V0 s j) {x_main_arg14 : (⟨S128, .f32⟩ : BufTy).Contents (Elt F)} (h_main_arg14 : V0 (Proc.devRef .tc main_arg14) = x_main_arg14) : out_main_v215 V0 = Cert.ReferenceIdeal.Step.R_main_v215 s x_main_arg14 := by
  unfold out_main_v215 Cert.ReferenceIdeal.Step.R_main_v215
  rw [h.f_14, h_main_arg14]
  try rfl

/-- One trip keeps the valuation holding: `step` of the state, the same set-up values, the next number. -/
theorem holds_step (h : Holds V0 s j) : Holds (STEP V0) (step j s) (j + 1) where
  f_8 := (STEP_main_v197_8 V0).trans (step_8 h)
  f_9 := (STEP_main_v197_9 V0).trans (step_9 h)
  f_10 := (STEP_main_v197_10 V0).trans (step_10 h)
  f_11 := (STEP_main_v197_11 V0).trans (step_11 h)
  f_12 := (STEP_main_v197_12 V0).trans (step_12 h)
  f_13 := (STEP_main_v197_13 V0).trans (step_13 h)
  f_14 := (STEP_main_v197_14 V0).trans (step_14 h)
  n_7 := (STEP_main_v197_7 V0).trans (step_7 h)
  f_0 := (STEP_main_v197_0 V0).trans h.f_0
  f_1 := (STEP_main_v197_1 V0).trans h.f_1
  f_2 := (STEP_main_v197_2 V0).trans h.f_2
  f_3 := (STEP_main_v197_3 V0).trans h.f_3
  f_4 := (STEP_main_v197_4 V0).trans h.f_4
  f_5 := (STEP_main_v197_5 V0).trans h.f_5
  f_6 := (STEP_main_v197_6 V0).trans h.f_6

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

variable (m : (ℓ : Loc nD τ sig) → Buf (Elt F) ℓ) (c : Dev nD)

set_option maxRecDepth 65536 in
set_option maxHeartbeats 1300000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 4 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v215) = Cert.ReferenceIdeal.Step.R_main_v215 (it c 4) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
    have hk := holds_iter m c (it c) (h0 c) (hs c) 4
    ⟨(h c).1.trans (out_main_v215_holds hk (iter_main_arg14 m c 4)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2⟩) (Value.run m ρ)

end Cert.ReferenceIdeal.Steps

end
-- ==== Proof.ReferenceStep.lean ====
/- One trip of the reference's loop, head by head, is the layer's step. -/
module

public import proofs.«01_k».proof.Proof.Gen.ReferenceIdeal.Step
public import proofs.«01_k».proof.Proof.Layer
public import Idealize.ShloMosaic.Lib.Pointwise

@[expose] public section

set_option maxRecDepth 16384

noncomputable section

namespace Cert.ReferenceIdeal.Trip

open Idealize.ShloMosaic Idealize.ShloMosaic.TcCoe Idealize.SL.Sem
open Cert.ReferenceIdeal Cert.ReferenceIdeal.Gen Cert.ReferenceIdeal.Step
open Cert.Layer

variable (s : State Ideal)

/-- Head `h`'s weights and momenta in a state. -/
def head (h : Fin 32) : Head where
  w0 e d := s.main_v197_8 (ix3 h e d)
  w1 e d := s.main_v197_9 (ix3 h e d)
  w2 e d := s.main_v197_10 (ix3 h e d)
  m0 e d := s.main_v197_11 (ix3 h e d)
  m1 e d := s.main_v197_12 (ix3 h e d)
  m2 e d := s.main_v197_13 (ix3 h e d)

/-- Head `h`'s chunk `c` of queries, keys and values. -/
def qs (c : Fin 4) (h : Fin 32) : Mat 2048 128 := fun i d => s.main_v197_0 (ix4 c h i d)
def ks (c : Fin 4) (h : Fin 32) : Mat 2048 128 := fun i d => s.main_v197_1 (ix4 c h i d)
def vs (c : Fin 4) (h : Fin 32) : Mat 2048 128 := fun i d => s.main_v197_2 (ix4 c h i d)

/-- Head `h`'s chunk `c` of the four rates. -/
def ls (c : Fin 4) (h : Fin 32) : Mat 2048 4 := fun i e =>
  ![s.main_v197_3 (ix4 c h i 0), s.main_v197_4 (ix4 c h i 0), s.main_v197_5 (ix4 c h i 0), s.main_v197_6 (ix4 c h i 0)] e

/-- A trip's number as a block offset. -/
theorem num (c : Fin 4) : (BitVec.ofNat 32 c.val).toInt = c.val := by
  revert c; decide

variable (c : Fin 4) (h : Fin 32)

/-- Axis 0 of a trip's offset into a stack of four. -/
theorem start128_0 (ht : S1x32x2048x128.rank = S4x32x2048x128.rank) : Host.clampedStart S4x32x2048x128 S1x32x2048x128 ht (fun k => (((![constantI S_ 32 (BitVec.ofNat 32 c.val), constantI S_ 32 0#32, constantI S_ 32 0#32, constantI S_ 32 0#32] : Fin 4 → IVec S_ 32)) k (Shape.Idx.first h_S_)).toInt) 0 = c.val :=
  Host.clampedStart_of_le _ _ _ _ (num c) (by show c.val + 1 ≤ 4; omega)

/-- Axis 1 of a trip's offset into a stack of four. -/
theorem start128_1 (ht : S1x32x2048x128.rank = S4x32x2048x128.rank) : Host.clampedStart S4x32x2048x128 S1x32x2048x128 ht (fun k => (((![constantI S_ 32 (BitVec.ofNat 32 c.val), constantI S_ 32 0#32, constantI S_ 32 0#32, constantI S_ 32 0#32] : Fin 4 → IVec S_ 32)) k (Shape.Idx.first h_S_)).toInt) 1 = 0 :=
  Host.clampedStart_of_le _ _ _ 0 rfl (le_refl _)

/-- Axis 2 of a trip's offset into a stack of four. -/
theorem start128_2 (ht : S1x32x2048x128.rank = S4x32x2048x128.rank) : Host.clampedStart S4x32x2048x128 S1x32x2048x128 ht (fun k => (((![constantI S_ 32 (BitVec.ofNat 32 c.val), constantI S_ 32 0#32, constantI S_ 32 0#32, constantI S_ 32 0#32] : Fin 4 → IVec S_ 32)) k (Shape.Idx.first h_S_)).toInt) 2 = 0 :=
  Host.clampedStart_of_le _ _ _ 0 rfl (le_refl _)

/-- Axis 3 of a trip's offset into a stack of four. -/
theorem start128_3 (ht : S1x32x2048x128.rank = S4x32x2048x128.rank) : Host.clampedStart S4x32x2048x128 S1x32x2048x128 ht (fun k => (((![constantI S_ 32 (BitVec.ofNat 32 c.val), constantI S_ 32 0#32, constantI S_ 32 0#32, constantI S_ 32 0#32] : Fin 4 → IVec S_ 32)) k (Shape.Idx.first h_S_)).toInt) 3 = 0 :=
  Host.clampedStart_of_le _ _ _ 0 rfl (le_refl _)

/-- Axis 0 of a trip's offset into a stack of four. -/
theorem start1_0 (ht : S1x32x2048x1.rank = S4x32x2048x1.rank) : Host.clampedStart S4x32x2048x1 S1x32x2048x1 ht (fun k => (((![constantI S_ 32 (BitVec.ofNat 32 c.val), constantI S_ 32 0#32, constantI S_ 32 0#32, constantI S_ 32 0#32] : Fin 4 → IVec S_ 32)) k (Shape.Idx.first h_S_)).toInt) 0 = c.val :=
  Host.clampedStart_of_le _ _ _ _ (num c) (by show c.val + 1 ≤ 4; omega)

/-- Axis 1 of a trip's offset into a stack of four. -/
theorem start1_1 (ht : S1x32x2048x1.rank = S4x32x2048x1.rank) : Host.clampedStart S4x32x2048x1 S1x32x2048x1 ht (fun k => (((![constantI S_ 32 (BitVec.ofNat 32 c.val), constantI S_ 32 0#32, constantI S_ 32 0#32, constantI S_ 32 0#32] : Fin 4 → IVec S_ 32)) k (Shape.Idx.first h_S_)).toInt) 1 = 0 :=
  Host.clampedStart_of_le _ _ _ 0 rfl (le_refl _)

/-- Axis 2 of a trip's offset into a stack of four. -/
theorem start1_2 (ht : S1x32x2048x1.rank = S4x32x2048x1.rank) : Host.clampedStart S4x32x2048x1 S1x32x2048x1 ht (fun k => (((![constantI S_ 32 (BitVec.ofNat 32 c.val), constantI S_ 32 0#32, constantI S_ 32 0#32, constantI S_ 32 0#32] : Fin 4 → IVec S_ 32)) k (Shape.Idx.first h_S_)).toInt) 2 = 0 :=
  Host.clampedStart_of_le _ _ _ 0 rfl (le_refl _)

/-- Axis 3 of a trip's offset into a stack of four. -/
theorem start1_3 (ht : S1x32x2048x1.rank = S4x32x2048x1.rank) : Host.clampedStart S4x32x2048x1 S1x32x2048x1 ht (fun k => (((![constantI S_ 32 (BitVec.ofNat 32 c.val), constantI S_ 32 0#32, constantI S_ 32 0#32, constantI S_ 32 0#32] : Fin 4 → IVec S_ 32)) k (Shape.Idx.first h_S_)).toInt) 3 = 0 :=
  Host.clampedStart_of_le _ _ _ 0 rfl (le_refl _)

/-- Reading a stack of four at a trip's number reads that chunk. -/
theorem slice128 (x : FVec Ideal S4x32x2048x128 .f32) (z1 z2 z3 : IVec S_ 32) (h1 : z1 = constantI S_ 32 0#32) (h2 : z2 = constantI S_ 32 0#32) (h3 : z3 = constantI S_ 32 0#32)
    (i : Fin 2048) (d : Fin 128) :
    Host.dynamicSlice S1x32x2048x128 x (fun k => (((![constantI S_ 32 (BitVec.ofNat 32 c.val), z1, z2, z3] : Fin 4 → IVec S_ 32)) k (Shape.Idx.first h_S_)).toInt) sliceFits_S4x32x2048x128_S1x32x2048x128 (ix4 0 h i d) = x (ix4 c h i d) := by
  subst h1 h2 h3
  pointwise
  refine congrArg x ((ix4_inj ..).2 ⟨Fin.ext ?_, Fin.ext ?_, Fin.ext ?_, Fin.ext ?_⟩)
  · exact start128_0 c rfl
  · exact (congrArg (· + h.val) (start128_1 c rfl)).trans (Nat.zero_add _)
  · exact (congrArg (· + i.val) (start128_2 c rfl)).trans (Nat.zero_add _)
  · exact (congrArg (· + d.val) (start128_3 c rfl)).trans (Nat.zero_add _)

/-- Reading a stack of four at a trip's number reads that chunk. -/
theorem slice1 (x : FVec Ideal S4x32x2048x1 .f32) (z1 z2 z3 : IVec S_ 32) (h1 : z1 = constantI S_ 32 0#32) (h2 : z2 = constantI S_ 32 0#32) (h3 : z3 = constantI S_ 32 0#32)
    (i : Fin 2048) :
    Host.dynamicSlice S1x32x2048x1 x (fun k => (((![constantI S_ 32 (BitVec.ofNat 32 c.val), z1, z2, z3] : Fin 4 → IVec S_ 32)) k (Shape.Idx.first h_S_)).toInt) sliceFits_S4x32x2048x1_S1x32x2048x1 (ix4 0 h i 0) = x (ix4 c h i 0) := by
  subst h1 h2 h3
  pointwise
  refine congrArg x ((ix4_inj ..).2 ⟨Fin.ext ?_, Fin.ext ?_, Fin.ext ?_, Fin.ext ?_⟩)
  · exact start1_0 c rfl
  · exact (congrArg (· + h.val) (start1_1 c rfl)).trans (Nat.zero_add _)
  · exact (congrArg (· + i.val) (start1_2 c rfl)).trans (Nat.zero_add _)
  · exact start1_3 c rfl

/-- Writing at a trip's number changes that chunk of a stack of four. -/
theorem put128 (x : FVec Ideal S4x32x2048x128 .f32) (y : FVec Ideal S1x32x2048x128 .f32) (z1 z2 z3 : IVec S_ 32) (h1 : z1 = constantI S_ 32 0#32) (h2 : z2 = constantI S_ 32 0#32) (h3 : z3 = constantI S_ 32 0#32)
    (o : Mat 2048 128) (hy : ∀ i d, y (ix4 0 h i d) = o i d) (a : Fin 4) (i : Fin 2048) (d : Fin 128) :
    Host.dynamicUpdateSlice x y (fun k => (((![constantI S_ 32 (BitVec.ofNat 32 c.val), z1, z2, z3] : Fin 4 → IVec S_ 32)) k (Shape.Idx.first h_S_)).toInt) updateFits_S4x32x2048x128_S1x32x2048x128 (ix4 a h i d)
      = if a = c then o i d else x (ix4 a h i d) := by
  subst h1 h2 h3
  have e0 := start128_0 c updateFits_S4x32x2048x128_S1x32x2048x128.1
  have e1 := start128_1 c updateFits_S4x32x2048x128_S1x32x2048x128.1
  have e2 := start128_2 c updateFits_S4x32x2048x128_S1x32x2048x128.1
  have e3 := start128_3 c updateFits_S4x32x2048x128_S1x32x2048x128.1
  pointwise
  by_cases hac : a = c
  · rw [dif_pos, if_pos hac, ← hy]
    · refine congrArg y ((ix4_inj ..).2 ⟨Fin.ext ?_, Fin.ext ?_, Fin.ext ?_, Fin.ext ?_⟩)
      · exact (congrArg (a.val - ·) e0).trans (by rw [hac]; exact Nat.sub_self _)
      · exact congrArg (h.val - ·) e1
      · exact congrArg (i.val - ·) e2
      · exact congrArg (d.val - ·) e3
    · refine ⟨⟨e0.trans_le (le_of_eq (congrArg Fin.val hac.symm)), ?_⟩, e1.trans_le (Nat.zero_le _), e2.trans_le (Nat.zero_le _), e3.trans_le (Nat.zero_le _)⟩
      exact lt_of_lt_of_eq (by rw [hac]; exact Nat.lt_succ_self _ : a.val < c.val + 1) (congrArg (· + 1) e0.symm)
  · rw [dif_neg, if_neg hac]
    rintro ⟨⟨ha, hb⟩, -⟩
    have ha' := e0.symm.trans_le ha
    have hb' := lt_of_lt_of_eq hb (congrArg (· + 1) e0)
    exact hac (Fin.ext (by omega))

theorem q_at (i : Fin 2048) (d : Fin 128) : b4 c.val s (ix3 h i d) = qs s c h i d := by
  refine Eq.trans ?_ (slice128 c h _ _ _ _ rfl rfl rfl i d)
  pointwise [b4, b3, b0, b1, b2]

theorem k_at (i : Fin 2048) (d : Fin 128) : b9 c.val s (ix3 h i d) = ks s c h i d := by
  refine Eq.trans ?_ (slice128 c h _ _ _ _ rfl rfl rfl i d)
  pointwise [b9, b8, b5, b6, b7]

theorem v_at (i : Fin 2048) (d : Fin 128) : b14 c.val s (ix3 h i d) = vs s c h i d := by
  refine Eq.trans ?_ (slice128 c h _ _ _ _ rfl rfl rfl i d)
  pointwise [b14, b13, b10, b11, b12]

theorem l0_at (i : Fin 2048) : b19 c.val s (ix3 h i 0) = ls s c h i 0 := by
  refine Eq.trans ?_ (slice1 c h s.main_v197_3 _ _ _ rfl rfl rfl i)
  pointwise [b19, b18, b15, b16, b17]

theorem l1_at (i : Fin 2048) : b24 c.val s (ix3 h i 0) = ls s c h i 1 := by
  refine Eq.trans ?_ (slice1 c h s.main_v197_4 _ _ _ rfl rfl rfl i)
  pointwise [b24, b23, b20, b21, b22]

theorem l2_at (i : Fin 2048) : b29 c.val s (ix3 h i 0) = ls s c h i 2 := by
  refine Eq.trans ?_ (slice1 c h s.main_v197_5 _ _ _ rfl rfl rfl i)
  pointwise [b29, b28, b25, b26, b27]

theorem l3_at (i : Fin 2048) : b34 c.val s (ix3 h i 0) = ls s c h i 3 := by
  refine Eq.trans ?_ (slice1 c h s.main_v197_6 _ _ _ rfl rfl rfl i)
  pointwise [b34, b33, b30, b31, b32]

theorem b35_at (i : Fin 2048) (e : Fin 128) : b35 c.val s (ix3 h i e) = up (qs s c h) (head s h).w0 i e := by
  pointwise [b35, q_at, up, head]

theorem b46_at (i : Fin 2048) (e : Fin 128) : b46 c.val s (ix3 h i e) = hid (qs s c h) (head s h).w0 (head s h).w2 i e := by
  pointwise [b46, b45, b44, b43, b42, b41, b40, b39, b38, b37, b36, b35_at, q_at, hid, up, head, silu, Ideal.logistic]

theorem b47_at (i : Fin 2048) (e : Fin 128) : b47 c.val s (ix3 h i e) = out (head s h) (qs s c h) i e := by
  pointwise [b47, b46_at, out, head]

theorem b48_at (i : Fin 2048) (e : Fin 128) : b48 c.val s (ix3 h i e) = up (ks s c h) (head s h).w0 i e := by
  pointwise [b48, k_at, up, head]

theorem b49_at (i : Fin 2048) (e : Fin 128) : b49 c.val s (ix3 h i e) = up (ks s c h) (head s h).w2 i e := by
  pointwise [b49, k_at, up, head]

theorem b58_at (i : Fin 2048) (e : Fin 128) : b58 c.val s (ix3 h i e) = silu (up (ks s c h) (head s h).w0 i e) := by
  pointwise [b58, b57, b56, b55, b54, b53, b52, b51, b50, b48_at, silu, Ideal.logistic]

theorem b59_at (i : Fin 2048) (e : Fin 128) : b59 c.val s (ix3 h i e) = hid (ks s c h) (head s h).w0 (head s h).w2 i e := by
  pointwise [b59, b58_at, b49_at, hid]

theorem b60_at (i : Fin 2048) (e : Fin 128) : b60 c.val s (ix3 h i e) = back (head s h) (vs s c h) i e := by
  pointwise [b60, v_at, back, head]

theorem b70_at (i : Fin 2048) (e : Fin 128) : b70 c.val s (ix3 h i e) = dup (head s h) (ks s c h) (vs s c h) i e := by
  pointwise [b70, b69, b68, b67, b66, b65, b64, b63, b62, b61, b60_at, b48_at, dup, silu, Ideal.logistic]

theorem b78_at (i : Fin 2048) (e : Fin 128) : b78 c.val s (ix3 h i e) = Ideal.logistic (up (ks s c h) (head s h).w0 i e) := by
  pointwise [b78, b77, b76, b75, b74, b73, b72, b71, b48_at, Ideal.logistic]

theorem b88_at (i : Fin 2048) (e : Fin 128) : b88 c.val s (ix3 h i e) = dgate (head s h) (ks s c h) (vs s c h) i e := by
  pointwise [b88, b87, b86, b85, b84, b83, b82, b81, b80, b79, b78_at, b60_at, b49_at, b48_at, dgate]

theorem b103_at : b103 c.val s (ix3 h 0 0) = mbar (ls s c h) := by
  pointwise [b103, b102, b101, b100, b99, b98, l3_at, mbar]

theorem b106_at (e d : Fin 128) : b106 c.val s (ix3 h e d) = next0 (head s h) (ks s c h) (vs s c h) (ls s c h) e d := by
  pointwise [b106, b105, b104, b103_at, b91, b90, b89, b88_at, k_at, l0_at, next0, head]

theorem b109_at (e d : Fin 128) : b109 c.val s (ix3 h e d) = next1 (head s h) (ks s c h) (vs s c h) (ls s c h) e d := by
  pointwise [b109, b108, b107, b103_at, b94, b93, b92, b59_at, v_at, l1_at, next1, head]

theorem b112_at (e d : Fin 128) : b112 c.val s (ix3 h e d) = next2 (head s h) (ks s c h) (vs s c h) (ls s c h) e d := by
  pointwise [b112, b111, b110, b103_at, b97, b96, b95, b70_at, k_at, l2_at, next2, head]

theorem b123_at (e d : Fin 128) : b123 c.val s (ix3 h e d) = (next (head s h) (ks s c h) (vs s c h) (ls s c h)).w0 e d := by
  pointwise [b123, b122, b121, b120, b119, b118, b117, b116, b115, b114, b113, b106_at, next, unit, head, eps]

theorem b134_at (e d : Fin 128) : b134 c.val s (ix3 h e d) = (next (head s h) (ks s c h) (vs s c h) (ls s c h)).w1 e d := by
  pointwise [b134, b133, b132, b131, b130, b129, b128, b127, b126, b125, b124, b109_at, next, unit, head, eps]

theorem b145_at (e d : Fin 128) : b145 c.val s (ix3 h e d) = (next (head s h) (ks s c h) (vs s c h) (ls s c h)).w2 e d := by
  pointwise [b145, b144, b143, b142, b141, b140, b139, b138, b137, b136, b135, b112_at, next, unit, head, eps]

/-- A trip takes every head one step on. -/
theorem head_step : head (step c.val s) h = next (head s h) (ks s c h) (vs s c h) (ls s c h) := by
  unfold head
  rw [step_main_v197_8, step_main_v197_9, step_main_v197_10, step_main_v197_11, step_main_v197_12, step_main_v197_13]
  refine Head.mk.injEq .. |>.mpr ⟨?_, ?_, ?_, ?_, ?_, ?_⟩ <;> funext e d
  · exact b123_at s c h e d
  · exact b134_at s c h e d
  · exact b145_at s c h e d
  · exact b106_at s c h e d
  · exact b109_at s c h e d
  · exact b112_at s c h e d

/-- The stack of outputs after a trip: the trip's own chunk is the layer's output, the others stay. -/
theorem outs_step (a : Fin 4) (i : Fin 2048) (d : Fin 128) :
    (step c.val s).main_v197_14 (ix4 a h i d) = if a = c then out (head s h) (qs s c h) i d else s.main_v197_14 (ix4 a h i d) := by
  rw [step_main_v197_14]
  exact put128 c h s.main_v197_14 _ _ _ _ rfl rfl rfl _ (fun i d => by pointwise [b146, b47_at]) a i d

end Cert.ReferenceIdeal.Trip

end
-- ==== Proof.ReferenceInput.lean ====
/- What the reference sets up before its loop, read in plain sums: queries, keys, values, rates and starting weights of each head. -/
module

public import proofs.«01_k».proof.Proof.ReferenceStep
public import proofs.«01_k».proof.Proof.LayerInput

@[expose] public section

set_option maxRecDepth 16384

noncomputable section

namespace Cert.ReferenceIdeal.Start

open Idealize.ShloMosaic Idealize.ShloMosaic.TcCoe Idealize.SL.Sem
open Cert.ReferenceIdeal Cert.ReferenceIdeal.Gen Cert.ReferenceIdeal.Step
open Cert.Layer

variable (I : Inputs)

theorem acc_at (b : Fin 2) (s : Fin 8192) (j : Fin 3) (f : Fin 2048) : (A_main_v1 (F := Ideal) I.x I.pos I.w I.nq I.nk I.sc I.off I.w0 I.w1 I.w2 I.lw I.lb I.mw I.mb) (ix3 b s ⟨j.val * 2048 + f.val, by omega⟩) = acc I j b s f := by
  pointwise [A_main_v1, A_main_v0, acc]

theorem acc_q (b : Fin 2) (s : Fin 8192) (f : Fin 2048) : (A_main_v2 (F := Ideal) I.x I.pos I.w I.nq I.nk I.sc I.off I.w0 I.w1 I.w2 I.lw I.lb I.mw I.mb) (ix3 b s f) = acc I 0 b s f := by
  refine Eq.trans ?_ (acc_at I b s 0 f)
  pointwise [A_main_v2]

theorem acc_k (b : Fin 2) (s : Fin 8192) (f : Fin 2048) : (A_main_v3 (F := Ideal) I.x I.pos I.w I.nq I.nk I.sc I.off I.w0 I.w1 I.w2 I.lw I.lb I.mw I.mb) (ix3 b s f) = acc I 1 b s f := by
  refine Eq.trans ?_ (acc_at I b s 1 f)
  pointwise [A_main_v3]

theorem acc_v (b : Fin 2) (s : Fin 8192) (f : Fin 2048) : (A_main_v4 (F := Ideal) I.x I.pos I.w I.nq I.nk I.sc I.off I.w0 I.w1 I.w2 I.lw I.lb I.mw I.mb) (ix3 b s f) = acc I 2 b s f := by
  refine Eq.trans ?_ (acc_at I b s 2 f)
  pointwise [A_main_v4]

theorem scaled_q (b : Fin 2) (s : Fin 8192) (f : Fin 2048) : (A_main_v40 (F := Ideal) I.x I.pos I.w I.nq I.nk I.sc I.off I.w0 I.w1 I.w2 I.lw I.lb I.mw I.mb) (ix3 b s f) = scaled (acc I 0 b s) (fun f => I.nq (ix1 f)) (fun f => I.sc (ix2 f 0)) (fun f => I.off (ix2 f 0)) f := by
  pointwise [A_main_v40, A_main_v39, A_main_v38, A_main_v37, A_main_v36, A_main_v35, A_main_v34, A_main_v33, A_main_v32, A_main_v31, A_main_v17, A_main_v16, A_main_v15, A_main_v14, A_main_v13, A_main_v12, A_main_v11, A_main_v9, A_main_v7, A_main_v6, A_main_v5, K_main_v8, K_main_v10, K_main_cst, K_main_cst_0, K_main_cst_1, acc_q, scaled, eps]

theorem scaled_k (b : Fin 2) (s : Fin 8192) (f : Fin 2048) : (A_main_v50 (F := Ideal) I.x I.pos I.w I.nq I.nk I.sc I.off I.w0 I.w1 I.w2 I.lw I.lb I.mw I.mb) (ix3 b s f) = scaled (acc I 1 b s) (fun f => I.nk (ix1 f)) (fun f => I.sc (ix2 f 1)) (fun f => I.off (ix2 f 1)) f := by
  pointwise [A_main_v50, A_main_v49, A_main_v48, A_main_v47, A_main_v46, A_main_v45, A_main_v44, A_main_v43, A_main_v42, A_main_v41, A_main_v30, A_main_v29, A_main_v28, A_main_v27, A_main_v26, A_main_v25, A_main_v24, A_main_v22, A_main_v20, A_main_v19, A_main_v18, K_main_v21, K_main_v23, K_main_cst_2, K_main_cst_3, K_main_cst_4, acc_k, scaled, eps]

theorem act_q (b : Fin 2) (s : Fin 8192) (g : Fin 16) (d : Fin 128) : (A_main_v58 (F := Ideal) I.x I.pos I.w I.nq I.nk I.sc I.off I.w0 I.w1 I.w2 I.lw I.lb I.mw I.mb) (ix4 b s g d) = qact I b s (feat g d) := by
  pointwise [A_main_v58, A_main_v57, A_main_v55, A_main_v53, A_main_v52, A_main_v51, K_main_v54, K_main_v56, K_main_cst_5, K_main_cst_6, scaled_q, qact, silu, Ideal.logistic, feat]

theorem act_k (b : Fin 2) (s : Fin 8192) (g : Fin 16) (d : Fin 128) : (A_main_v66 (F := Ideal) I.x I.pos I.w I.nq I.nk I.sc I.off I.w0 I.w1 I.w2 I.lw I.lb I.mw I.mb) (ix4 b s g d) = kact I b s (feat g d) := by
  pointwise [A_main_v66, A_main_v65, A_main_v63, A_main_v61, A_main_v60, A_main_v59, K_main_v62, K_main_v64, K_main_cst_7, K_main_cst_8, scaled_k, kact, silu, Ideal.logistic, feat]

theorem act_v (b : Fin 2) (s : Fin 8192) (g : Fin 16) (d : Fin 128) : (A_main_v74 (F := Ideal) I.x I.pos I.w I.nq I.nk I.sc I.off I.w0 I.w1 I.w2 I.lw I.lb I.mw I.mb) (ix4 b s g d) = vact I b s (feat g d) := by
  pointwise [A_main_v74, A_main_v73, A_main_v71, A_main_v69, A_main_v68, A_main_v67, K_main_v70, K_main_v72, K_main_cst_9, K_main_cst_10, acc_v, vact, silu, Ideal.logistic, feat]

theorem regroup_q (h : Fin 32) (p : Fin 8192) (d : Fin 128) : (A_main_v75 (F := Ideal) I.x I.pos I.w I.nq I.nk I.sc I.off I.w0 I.w1 I.w2 I.lw I.lb I.mw I.mb) (ix3 h p d) = qact I (bat h) (src h p) (feat (grp p) d) := by
  refine Eq.trans ?_ (act_q I (bat h) (src h p) (grp p) d)
  pointwise [A_main_v75, bat, src, grp]

theorem regroup_k (h : Fin 32) (p : Fin 8192) (d : Fin 128) : (A_main_v84 (F := Ideal) I.x I.pos I.w I.nq I.nk I.sc I.off I.w0 I.w1 I.w2 I.lw I.lb I.mw I.mb) (ix3 h p d) = kact I (bat h) (src h p) (feat (grp p) d) := by
  refine Eq.trans ?_ (act_k I (bat h) (src h p) (grp p) d)
  pointwise [A_main_v84, bat, src, grp]

theorem regroup_v (h : Fin 32) (p : Fin 8192) (d : Fin 128) : (A_main_v93 (F := Ideal) I.x I.pos I.w I.nq I.nk I.sc I.off I.w0 I.w1 I.w2 I.lw I.lb I.mw I.mb) (ix3 h p d) = vact I (bat h) (src h p) (feat (grp p) d) := by
  refine Eq.trans ?_ (act_v I (bat h) (src h p) (grp p) d)
  pointwise [A_main_v93, bat, src, grp]

theorem unit_q (h : Fin 32) (p : Fin 8192) (d : Fin 128) : (A_main_v83 (F := Ideal) I.x I.pos I.w I.nq I.nk I.sc I.off I.w0 I.w1 I.w2 I.lw I.lb I.mw I.mb) (ix3 h p d) = qrow I h p d := by
  pointwise [A_main_v83, A_main_v82, A_main_v81, A_main_v80, A_main_v78, A_main_v77, A_main_v76, K_main_v79, K_main_cst_11, K_main_cst_12, regroup_q, qrow, unitRow, eps]

theorem unit_k (h : Fin 32) (p : Fin 8192) (d : Fin 128) : (A_main_v92 (F := Ideal) I.x I.pos I.w I.nq I.nk I.sc I.off I.w0 I.w1 I.w2 I.lw I.lb I.mw I.mb) (ix3 h p d) = krow I h p d := by
  pointwise [A_main_v92, A_main_v91, A_main_v90, A_main_v89, A_main_v87, A_main_v86, A_main_v85, K_main_v88, K_main_cst_13, K_main_cst_14, regroup_k, krow, unitRow, eps]

theorem freq_at (e : Fin 64) : (K_main_v104 (F := Ideal)) (ix1 e) = freq e := by
  pointwise [K_main_v104, K_main_v103, K_main_v102, K_main_v101, K_main_v100, K_main_v99, K_main_v98, K_main_v97, K_main_v96, K_main_v95, K_main_v94, K_main_cst_15, K_main_cst_16, K_main_cst_17, K_main_cst_18, K_main_cst_19, freq]

theorem angle_at (b : Fin 2) (p : Fin 8192) (e : Fin 64) : (A_main_v110 (F := Ideal) I.x I.pos I.w I.nq I.nk I.sc I.off I.w0 I.w1 I.w2 I.lw I.lb I.mw I.mb) (ix3 b p e) = angle I b p e := by
  pointwise [A_main_v110, A_main_v108, A_main_v106, A_main_v105, K_main_v109, K_main_v107, freq_at, angle]

theorem cos_at (b : Fin 2) (c : Fin 4) (i : Fin 2048) (d : Fin 128) : (A_main_v113 (F := Ideal) I.x I.pos I.w I.nq I.nk I.sc I.off I.w0 I.w1 I.w2 I.lw I.lb I.mw I.mb) (ix4 b (at_ c i) 0 d) = if h : d.val < 64 then cosc I b c i ⟨d.val, h⟩ else cosc I b c i ⟨d.val - 64, by omega⟩ := by
  pointwise [A_main_v113, A_main_v112, A_main_v111, angle_at, cosc]
  split <;> rfl

theorem sin_at (b : Fin 2) (c : Fin 4) (i : Fin 2048) (d : Fin 128) : (A_main_v115 (F := Ideal) I.x I.pos I.w I.nq I.nk I.sc I.off I.w0 I.w1 I.w2 I.lw I.lb I.mw I.mb) (ix4 b (at_ c i) 0 d) = if h : d.val < 64 then sinc I b c i ⟨d.val, h⟩ else sinc I b c i ⟨d.val - 64, by omega⟩ := by
  pointwise [A_main_v115, A_main_v114, A_main_v111, angle_at, sinc]
  split <;> rfl

theorem turn_q (b : Fin 2) (p : Fin 8192) (g : Fin 16) (d : Fin 128) : (A_main_v117 (F := Ideal) I.x I.pos I.w I.nq I.nk I.sc I.off I.w0 I.w1 I.w2 I.lw I.lb I.mw I.mb) (ix4 b p g d) = qrow I ⟨b.val * 16 + g.val, by omega⟩ p d := by
  pointwise [A_main_v117, A_main_v116, unit_q]

theorem rope_q (b : Fin 2) (c : Fin 4) (i : Fin 2048) (g : Fin 16) (d : Fin 128) : (A_main_v128 (F := Ideal) I.x I.pos I.w I.nq I.nk I.sc I.off I.w0 I.w1 I.w2 I.lw I.lb I.mw I.mb) (ix4 b (at_ c i) g d) = rope (cosc I b c) (sinc I b c) (fun i d => qrow I ⟨b.val * 16 + g.val, by omega⟩ (at_ c i) d) i d := by
  by_cases hd : d.val < 64
  · pointwise [A_main_v128, A_main_v127, A_main_v126, A_main_v125, A_main_v124, A_main_v123, A_main_v122, A_main_v121, A_main_v120, turn_q, cos_at, sin_at, rope, hd]
    simp only [Nat.add_comm 64 d.val]
  · pointwise [A_main_v128, A_main_v127, A_main_v126, A_main_v125, A_main_v124, A_main_v123, A_main_v122, A_main_v121, A_main_v120, turn_q, cos_at, sin_at, rope, hd]

theorem turn_k (b : Fin 2) (p : Fin 8192) (g : Fin 16) (d : Fin 128) : (A_main_v119 (F := Ideal) I.x I.pos I.w I.nq I.nk I.sc I.off I.w0 I.w1 I.w2 I.lw I.lb I.mw I.mb) (ix4 b p g d) = krow I ⟨b.val * 16 + g.val, by omega⟩ p d := by
  pointwise [A_main_v119, A_main_v118, unit_k]

theorem rope_k (b : Fin 2) (c : Fin 4) (i : Fin 2048) (g : Fin 16) (d : Fin 128) : (A_main_v137 (F := Ideal) I.x I.pos I.w I.nq I.nk I.sc I.off I.w0 I.w1 I.w2 I.lw I.lb I.mw I.mb) (ix4 b (at_ c i) g d) = rope (cosc I b c) (sinc I b c) (fun i d => krow I ⟨b.val * 16 + g.val, by omega⟩ (at_ c i) d) i d := by
  by_cases hd : d.val < 64
  · pointwise [A_main_v137, A_main_v136, A_main_v135, A_main_v134, A_main_v133, A_main_v132, A_main_v131, A_main_v130, A_main_v129, turn_k, cos_at, sin_at, rope, hd]
    simp only [Nat.add_comm 64 d.val]
  · pointwise [A_main_v137, A_main_v136, A_main_v135, A_main_v134, A_main_v133, A_main_v132, A_main_v131, A_main_v130, A_main_v129, turn_k, cos_at, sin_at, rope, hd]

theorem soft_at (b : Fin 2) (p : Fin 8192) (o : Fin 48) : (A_main_v149 (F := Ideal) I.x I.pos I.w I.nq I.nk I.sc I.off I.w0 I.w1 I.w2 I.lw I.lb I.mw I.mb) (ix3 b p o) = lrate I b p o := by
  pointwise [A_main_v149, A_main_call0_v4, A_main_call0_v6, A_main_call0_v11, A_main_call0_v10, A_main_call0_v9, A_main_call0_v8, A_main_call0_v7, A_main_call0_v3, A_main_call0_v1, K_main_call0_v0, K_main_call0_v2, K_main_call0_v5, K_main_call0_cst, A_main_v148, A_main_v146, A_main_v145, A_main_v144, A_main_v143, A_main_v142, K_main_v147, K_main_cst_20, lrate, softplus]
  exact if_neg fun h => h rfl

theorem mom_at (b : Fin 2) (p : Fin 8192) (o : Fin 16) : (A_main_v166 (F := Ideal) I.x I.pos I.w I.nq I.nk I.sc I.off I.w0 I.w1 I.w2 I.lw I.lb I.mw I.mb) (ix3 b p o) = mrate I b p o := by
  pointwise [A_main_v166, A_main_v164, A_main_v162, A_main_v161, A_main_v160, A_main_v159, A_main_v158, A_main_v157, A_main_v156, K_main_v163, K_main_v165, K_main_cst_21, K_main_cst_22, mrate, Ideal.logistic]

theorem q_at (c : Fin 4) (h : Fin 32) (i : Fin 2048) (d : Fin 128) : (A_main_v180 (F := Ideal) I.x I.pos I.w I.nq I.nk I.sc I.off I.w0 I.w1 I.w2 I.lw I.lb I.mw I.mb) (ix4 c h i d) = qin I h c i d := by
  refine Eq.trans ?_ ((rope_q I (bat h) c i (sub h) d).trans ?_)
  · pointwise [A_main_v180, A_main_v179, A_main_v139, A_main_v138, bat, sub, at_]
  · have e : (⟨(bat h).val * 16 + (sub h).val, by omega⟩ : Fin 32) = h := Fin.ext (by simp only [bat, sub]; omega)
    rw [e]; rfl

theorem k_at (c : Fin 4) (h : Fin 32) (i : Fin 2048) (d : Fin 128) : (A_main_v182 (F := Ideal) I.x I.pos I.w I.nq I.nk I.sc I.off I.w0 I.w1 I.w2 I.lw I.lb I.mw I.mb) (ix4 c h i d) = kin I h c i d := by
  refine Eq.trans ?_ ((rope_k I (bat h) c i (sub h) d).trans ?_)
  · pointwise [A_main_v182, A_main_v181, A_main_v141, A_main_v140, bat, sub, at_]
  · have e : (⟨(bat h).val * 16 + (sub h).val, by omega⟩ : Fin 32) = h := Fin.ext (by simp only [bat, sub]; omega)
    rw [e]; rfl

theorem v_at (c : Fin 4) (h : Fin 32) (i : Fin 2048) (d : Fin 128) : (A_main_v184 (F := Ideal) I.x I.pos I.w I.nq I.nk I.sc I.off I.w0 I.w1 I.w2 I.lw I.lb I.mw I.mb) (ix4 c h i d) = vin I h c i d := by
  refine Eq.trans ?_ (regroup_v I h (at_ c i) d)
  pointwise [A_main_v184, A_main_v183, at_]

theorem rates_at (h : Fin 32) (p : Fin 8192) (e : Fin 3) : (A_main_v152 (F := Ideal) I.x I.pos I.w I.nq I.nk I.sc I.off I.w0 I.w1 I.w2 I.lw I.lb I.mw I.mb) (ix3 h p e) = lrate I (bat h) p ⟨h.val % 16 * 3 + e.val, by omega⟩ := by
  refine Eq.trans ?_ (soft_at I (bat h) p ⟨h.val % 16 * 3 + e.val, by omega⟩)
  pointwise [A_main_v152, A_main_v151, A_main_v150, bat]

theorem rate0_at (c : Fin 4) (h : Fin 32) (i : Fin 2048) : (A_main_v186 (F := Ideal) I.x I.pos I.w I.nq I.nk I.sc I.off I.w0 I.w1 I.w2 I.lw I.lb I.mw I.mb) (ix4 c h i 0) = lin I h c i 0 := by
  refine Eq.trans ?_ (rates_at I h (at_ c i) 0)
  pointwise [A_main_v186, A_main_v185, A_main_v153, at_]

theorem rate1_at (c : Fin 4) (h : Fin 32) (i : Fin 2048) : (A_main_v188 (F := Ideal) I.x I.pos I.w I.nq I.nk I.sc I.off I.w0 I.w1 I.w2 I.lw I.lb I.mw I.mb) (ix4 c h i 0) = lin I h c i 1 := by
  refine Eq.trans ?_ (rates_at I h (at_ c i) 1)
  pointwise [A_main_v188, A_main_v187, A_main_v154, at_]

theorem rate2_at (c : Fin 4) (h : Fin 32) (i : Fin 2048) : (A_main_v190 (F := Ideal) I.x I.pos I.w I.nq I.nk I.sc I.off I.w0 I.w1 I.w2 I.lw I.lb I.mw I.mb) (ix4 c h i 0) = lin I h c i 2 := by
  refine Eq.trans ?_ (rates_at I h (at_ c i) 2)
  pointwise [A_main_v190, A_main_v189, A_main_v155, at_]

theorem rate3_at (c : Fin 4) (h : Fin 32) (i : Fin 2048) : (A_main_v192 (F := Ideal) I.x I.pos I.w I.nq I.nk I.sc I.off I.w0 I.w1 I.w2 I.lw I.lb I.mw I.mb) (ix4 c h i 0) = lin I h c i 3 := by
  refine Eq.trans ?_ (mom_at I (bat h) (at_ c i) (sub h))
  pointwise [A_main_v192, A_main_v191, A_main_v169, A_main_v168, A_main_v167, at_, bat, sub]

theorem w0_at (h : Fin 32) (e d : Fin 128) : (A_main_v172 (F := Ideal) I.x I.pos I.w I.nq I.nk I.sc I.off I.w0 I.w1 I.w2 I.lw I.lb I.mw I.mb) (ix3 h e d) = I.w0 (ix3 (sub h) e d) := by
  pointwise [A_main_v172, A_main_v171, A_main_v170, sub]

theorem w1_at (h : Fin 32) (e d : Fin 128) : (A_main_v175 (F := Ideal) I.x I.pos I.w I.nq I.nk I.sc I.off I.w0 I.w1 I.w2 I.lw I.lb I.mw I.mb) (ix3 h e d) = I.w1 (ix3 (sub h) e d) := by
  pointwise [A_main_v175, A_main_v174, A_main_v173, sub]

theorem w2_at (h : Fin 32) (e d : Fin 128) : (A_main_v178 (F := Ideal) I.x I.pos I.w I.nq I.nk I.sc I.off I.w0 I.w1 I.w2 I.lw I.lb I.mw I.mb) (ix3 h e d) = I.w2 (ix3 (sub h) e d) := by
  pointwise [A_main_v178, A_main_v177, A_main_v176, sub]

end Cert.ReferenceIdeal.Start

end
-- ==== Proof.ReferenceResult.lean ====
/- The reference's result is the layer's output: the four trips carry each head through its chunks, and the last operations norm what they leave. -/
module

public import proofs.«01_k».proof.Proof.ReferenceInput

@[expose] public section

set_option maxRecDepth 16384

noncomputable section

namespace Cert.ReferenceIdeal.Start

open Idealize.ShloMosaic Idealize.ShloMosaic.TcCoe Idealize.SL.Sem
open Cert.ReferenceIdeal Cert.ReferenceIdeal.Gen Cert.ReferenceIdeal.Step Cert.ReferenceIdeal.Trip
open Cert.Layer

variable (I : Inputs)

/-- The state before the loop. -/
def start : State Ideal := init I.x I.pos I.w I.nq I.nk I.sc I.off I.w0 I.w1 I.w2 I.lw I.lb I.mw I.mb

/-- The state before trip `n`. -/
def trips : ℕ → State Ideal
  | 0 => start I
  | n + 1 => step n (trips n)

theorem start_qs (c : Fin 4) (h : Fin 32) : qs (start I) c h = qin I h c := funext fun i => funext fun d => q_at I c h i d
theorem start_ks (c : Fin 4) (h : Fin 32) : ks (start I) c h = kin I h c := funext fun i => funext fun d => k_at I c h i d
theorem start_vs (c : Fin 4) (h : Fin 32) : vs (start I) c h = vin I h c := funext fun i => funext fun d => v_at I c h i d
theorem start_ls (c : Fin 4) (h : Fin 32) : ls (start I) c h = lin I h c := by
  funext i e
  have e0 : (start I).main_v197_3 (ix4 c h i 0) = lin I h c i 0 := rate0_at I c h i
  have e1 : (start I).main_v197_4 (ix4 c h i 0) = lin I h c i 1 := rate1_at I c h i
  have e2 : (start I).main_v197_5 (ix4 c h i 0) = lin I h c i 2 := rate2_at I c h i
  have e3 : (start I).main_v197_6 (ix4 c h i 0) = lin I h c i 3 := rate3_at I c h i
  unfold ls
  rw [e0, e1, e2, e3]
  fin_cases e <;> rfl

theorem zero0 (h : Fin 32) (e d : Fin 128) : (K_main_v193 (F := Ideal)) (ix3 h e d) = 0 := by pointwise [K_main_v193, K_main_cst_23]
theorem zero1 (h : Fin 32) (e d : Fin 128) : (K_main_v194 (F := Ideal)) (ix3 h e d) = 0 := by pointwise [K_main_v194, K_main_cst_24]
theorem zero2 (h : Fin 32) (e d : Fin 128) : (K_main_v195 (F := Ideal)) (ix3 h e d) = 0 := by pointwise [K_main_v195, K_main_cst_25]

theorem start_head (h : Fin 32) : head (start I) h = first I h :=
  Head.same (fun e d => w0_at I h e d) (fun e d => w1_at I h e d) (fun e d => w2_at I h e d)
    (fun e d => zero0 h e d) (fun e d => zero1 h e d) (fun e d => zero2 h e d)

/-- No trip changes what it reads chunk by chunk. -/
theorem trips_in (n : ℕ) : (trips I n).main_v197_0 = (start I).main_v197_0 ∧ (trips I n).main_v197_1 = (start I).main_v197_1
    ∧ (trips I n).main_v197_2 = (start I).main_v197_2 ∧ (trips I n).main_v197_3 = (start I).main_v197_3 ∧ (trips I n).main_v197_4 = (start I).main_v197_4
    ∧ (trips I n).main_v197_5 = (start I).main_v197_5 ∧ (trips I n).main_v197_6 = (start I).main_v197_6 := by
  induction n with
  | zero => exact ⟨rfl, rfl, rfl, rfl, rfl, rfl, rfl⟩
  | succ n ih => unfold trips step; exact ih

theorem trips_qs (n : ℕ) (c : Fin 4) (h : Fin 32) : qs (trips I n) c h = qin I h c := by
  rw [← start_qs]; unfold qs; rw [(trips_in I n).1]
theorem trips_ks (n : ℕ) (c : Fin 4) (h : Fin 32) : ks (trips I n) c h = kin I h c := by
  rw [← start_ks]; unfold ks; rw [(trips_in I n).2.1]
theorem trips_vs (n : ℕ) (c : Fin 4) (h : Fin 32) : vs (trips I n) c h = vin I h c := by
  rw [← start_vs]; unfold vs; rw [(trips_in I n).2.2.1]
theorem trips_ls (n : ℕ) (c : Fin 4) (h : Fin 32) : ls (trips I n) c h = lin I h c := by
  rw [← start_ls]; unfold ls
  obtain ⟨-, -, -, e3, e4, e5, e6⟩ := trips_in I n
  rw [e3, e4, e5, e6]

/-- Before trip `n` each head's weights and momenta are the layer's. -/
theorem trips_head (h : Fin 32) (n : ℕ) (hn : n ≤ 4) : head (trips I n) h = heads I h n := by
  induction n with
  | zero => exact start_head I h
  | succ n ih =>
    have e := head_step (trips I n) (Fin.ofNat 4 n) h
    rw [show (Fin.ofNat 4 n).val = n from Nat.mod_eq_of_lt (by omega), ih (by omega), trips_ks, trips_vs, trips_ls] at e
    exact e

/-- Before trip `n` the outputs of the chunks gone by stand in their places. -/
theorem trips_outs (h : Fin 32) (i : Fin 2048) (d : Fin 128) (n : ℕ) (hn : n ≤ 4) (a : Fin 4) (ha : a.val < n) :
    (trips I n).main_v197_14 (ix4 a h i d) = out (heads I h a.val) (qin I h a) i d := by
  induction n with
  | zero => omega
  | succ n ih =>
    have hc : (Fin.ofNat 4 n).val = n := Nat.mod_eq_of_lt (by omega)
    have e := outs_step (trips I n) (Fin.ofNat 4 n) h a i d
    rw [hc] at e
    refine Eq.trans e ?_
    by_cases hac : a = Fin.ofNat 4 n
    · rw [if_pos hac, trips_head I h n (by omega), trips_qs, ← hac, show n = a.val by rw [hac, hc]]
    · rw [if_neg hac]
      refine ih (by omega) ?_
      have : a.val ≠ n := fun e => hac (Fin.ext (e.trans hc.symm))
      omega

theorem normed_at (b : Fin 2) (c : Fin 4) (i : Fin 2048) (g : Fin 16) (d : Fin 128) (s : State Ideal) (o : Mat 2048 128)
    (ho : ∀ i d, s.main_v197_14 (ix4 c ⟨b.val * 16 + g.val, by omega⟩ i d) = o i d) :
    R_main_v215 s I.tt (ix3 b (at_ c i) (feat g d)) = normed (fun d => I.tt (ix1 d)) o i d := by
  pointwise [R_main_v215, at_, feat, ho, normed, eps]

/-- The reference's result. -/
theorem result_at (b : Fin 2) (c : Fin 4) (i : Fin 2048) (g : Fin 16) (d : Fin 128) :
    R_main_v215 (trips I 4) I.tt (ix3 b (at_ c i) (feat g d)) = result I ⟨b.val * 16 + g.val, by omega⟩ c i d :=
  normed_at I b c i g d _ _ fun i d => trips_outs I _ i d 4 le_rfl c c.isLt

end Cert.ReferenceIdeal.Start

end
-- ==== Proof.Values.lean ====
/- The two programs over exact values leave the same array: the layer's output on the arguments they share. -/
module

public import proofs.«01_k».proof.Defs
public import proofs.«01_k».proof.Proof.IdealRows
public import proofs.«01_k».proof.Proof.IdealLaunch
public import proofs.«01_k».proof.Proof.RefSteps
public import proofs.«01_k».proof.Proof.ReferenceResult

@[expose] public section

set_option maxRecDepth 16384

noncomputable section

namespace Cert.KernelIdeal.Rows

open Idealize.ShloMosaic Idealize.ShloMosaic.TcCoe Idealize.SL.Sem
open Cert.KernelIdeal Cert.KernelIdeal.Gen Cert.KernelIdeal.Two Cert.KernelIdeal.Host0

variable (m : (ℓ : Loc nD τ sig) → Buf (Elt Ideal) ℓ) (ρ : Dev nD → PrngReg)

/-- The kernel's program leaves the layer's output, and its arguments as it found them. -/
theorem run_layer : θ_run (defs (F := Ideal)) (onTc (τ := τ) (main (F := Ideal))) ⟨m, fun _ => 0, ρ⟩ (fun r => ∀ c : Dev nD,
      r.2.mem ((c.tc : Thread nD τ).loc main_v0) = layer (inputs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨((h.1 c _ (mem_uc main_v0 (by decide))).trans (B4_arr m c 7)).trans (layer_eq m c),
     (h.1 c _ (mem_uc main_arg0 (by decide))).trans (B4_args m c main_arg0 (by decide)),
     (h.1 c _ (mem_uc main_arg1 (by decide))).trans (B4_args m c main_arg1 (by decide)),
     (h.1 c _ (mem_uc main_arg2 (by decide))).trans (B4_args m c main_arg2 (by decide)),
     (h.1 c _ (mem_uc main_arg3 (by decide))).trans (B4_args m c main_arg3 (by decide)),
     (h.1 c _ (mem_uc main_arg4 (by decide))).trans (B4_args m c main_arg4 (by decide)),
     (h.1 c _ (mem_uc main_arg5 (by decide))).trans (B4_args m c main_arg5 (by decide)),
     (h.1 c _ (mem_uc main_arg6 (by decide))).trans (B4_args m c main_arg6 (by decide)),
     (h.1 c _ (mem_uc main_arg7 (by decide))).trans (B4_args m c main_arg7 (by decide)),
     (h.1 c _ (mem_uc main_arg8 (by decide))).trans (B4_args m c main_arg8 (by decide)),
     (h.1 c _ (mem_uc main_arg9 (by decide))).trans (B4_args m c main_arg9 (by decide)),
     (h.1 c _ (mem_uc main_arg10 (by decide))).trans (B4_args m c main_arg10 (by decide)),
     (h.1 c _ (mem_uc main_arg11 (by decide))).trans (B4_args m c main_arg11 (by decide)),
     (h.1 c _ (mem_uc main_arg12 (by decide))).trans (B4_args m c main_arg12 (by decide)),
     (h.1 c _ (mem_uc main_arg13 (by decide))).trans (B4_args m c main_arg13 (by decide)),
     (h.1 c _ (mem_uc main_arg14 (by decide))).trans (B4_args m c main_arg14 (by decide))⟩) (run_all m ρ)

end Cert.KernelIdeal.Rows

namespace Cert.ReferenceIdeal.Start

open Idealize.ShloMosaic Idealize.ShloMosaic.TcCoe Idealize.SL.Sem
open Cert.ReferenceIdeal Cert.ReferenceIdeal.Gen Cert.ReferenceIdeal.Step
open Cert.Layer (Inputs at_ feat result)
open Cert.KernelIdeal.Rows (layer)

/-- The reference's result is the layer's output. -/
theorem result_eq (I : Inputs) : R_main_v215 (trips I 4) I.tt = layer I := by
  funext y
  have h0 : (y 0 : ℕ) < 2 := (y 0).isLt
  have h1 : (y 1 : ℕ) < 8192 := (y 1).isLt
  have h2 : (y 2 : ℕ) < 2048 := (y 2).isLt
  refine Eq.trans (congrArg _ ?_) (result_at I (y 0) ⟨(y 1 : ℕ) / 2048, by omega⟩ ⟨(y 1 : ℕ) % 2048, by omega⟩ ⟨(y 2 : ℕ) / 128, by omega⟩ ⟨(y 2 : ℕ) % 128, by omega⟩)
  funext a
  fin_cases a
  · rfl
  · exact Fin.ext (show (y 1 : ℕ) = (y 1 : ℕ) / 2048 * 2048 + (y 1 : ℕ) % 2048 by omega)
  · exact Fin.ext (show (y 2 : ℕ) = (y 2 : ℕ) / 128 * 128 + (y 2 : ℕ) % 128 by omega)

end Cert.ReferenceIdeal.Start

namespace Cert.Values

open Idealize.ShloMosaic Idealize.ShloMosaic.TcCoe Idealize.SL.Sem
open Cert.KernelIdeal.Host0 (inputs)
open Cert.KernelIdeal.Rows (layer)

/-- From the same arguments the two programs leave the same result. -/
theorem agree : Cert.algebraic_KernelIdeal_ReferenceIdeal (hKernelIdeal := Cert.KernelIdeal.Gen.facts) (hReferenceIdeal := Cert.ReferenceIdeal.Gen.facts) := by
  intro m g m' g' _ he
  refine ⟨fun c => layer (inputs m c), Cert.KernelIdeal.Rows.run_layer m g, ?_⟩
  refine (θ_run _ _ _).mono (fun r h c => ⟨(h c).1.trans ?_, (h c).2⟩)
    (Cert.ReferenceIdeal.Steps.run_iter m' g' (fun c => Cert.ReferenceIdeal.Start.trips (inputs m c)) (fun c => ?_) (fun _ _ => rfl))
  · obtain ⟨h0, h1, h2, h3, h4, h5, h6, h7, h8, h9, h10, h11, h12, h13, -⟩ := he c
    unfold Cert.ReferenceIdeal.Steps.initState
    rw [h0, h1, h2, h3, h4, h5, h6, h7, h8, h9, h10, h11, h12, h13]
    rfl
  · obtain ⟨-, -, -, -, -, -, -, -, -, -, -, -, -, -, h14⟩ := he c
    rw [h14]
    exact Cert.ReferenceIdeal.Start.result_eq (inputs m c)

end Cert.Values

end
-- ==== Proof.lean ====
module

public import proofs.«01_k».proof.Defs
public import proofs.«01_k».proof.Proof.KernelLaunch
public import proofs.«01_k».proof.Proof.IdealLaunch
public import proofs.«01_k».proof.Proof.RefFrame
public import proofs.«01_k».proof.Proof.Values
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  fun m ρ _ => Cert.Kernel.Two.frame m ρ, fun m ρ _ => Cert.KernelIdeal.Two.frame m ρ, fun m ρ _ => Cert.ReferenceIdeal.Rest.frame m ρ, trivial, Cert.Values.agree⟩

end Cert.Proof

end
